-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v59_0)) (v1 : (c : Dev Cert.Kernel4Ideal.nD) → Buf (Elt Ideal) ((c.tc : Thread Cert.Kernel4Ideal.nD Cert.Kernel4Ideal.τ).loc Cert.Kernel4Ideal.main_v59_1)) (v2 : (c : Dev Cert.Kernel4Ideal.nD) → Buf (Elt Ideal) ((c.tc : Thread Cert.Kernel4Ideal.nD Cert.Kernel4Ideal.τ).loc Cert.Kernel4Ideal.main_v59_2)) (v3 : (c : Dev Cert.Kernel4Ideal.nD) → Buf (Elt Ideal) ((c.tc : Thread Cert.Kernel4Ideal.nD Cert.Kernel4Ideal.τ).loc Cert.Kernel4Ideal.main_v59_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v59_0) = v0 c
          ∧ r.2.mem ((c.tc : Thread Cert.Kernel4Ideal.nD Cert.Kernel4Ideal.τ).loc Cert.Kernel4Ideal.main_v59_1) = v1 c
          ∧ r.2.mem ((c.tc : Thread Cert.Kernel4Ideal.nD Cert.Kernel4Ideal.τ).loc Cert.Kernel4Ideal.main_v59_2) = v2 c
          ∧ r.2.mem ((c.tc : Thread Cert.Kernel4Ideal.nD Cert.Kernel4Ideal.τ).loc Cert.Kernel4Ideal.main_v59_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v129) = v0 c
          ∧ r.2.mem ((c.tc : Thread Cert.Reference4Ideal.nD Cert.Reference4Ideal.τ).loc Cert.Reference4Ideal.main_v131) = v1 c
          ∧ r.2.mem ((c.tc : Thread Cert.Reference4Ideal.nD Cert.Reference4Ideal.τ).loc Cert.Reference4Ideal.main_v132) = v2 c
          ∧ r.2.mem ((c.tc : Thread Cert.Reference4Ideal.nD Cert.Reference4Ideal.τ).loc Cert.Reference4Ideal.main_v134) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_v68) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v59_0)) (v1 : (c : Dev Cert.Kernel8Ideal.nD) → Buf (Elt Ideal) ((c.tc : Thread Cert.Kernel8Ideal.nD Cert.Kernel8Ideal.τ).loc Cert.Kernel8Ideal.main_v59_1)) (v2 : (c : Dev Cert.Kernel8Ideal.nD) → Buf (Elt Ideal) ((c.tc : Thread Cert.Kernel8Ideal.nD Cert.Kernel8Ideal.τ).loc Cert.Kernel8Ideal.main_v59_2)) (v3 : (c : Dev Cert.Kernel8Ideal.nD) → Buf (Elt Ideal) ((c.tc : Thread Cert.Kernel8Ideal.nD Cert.Kernel8Ideal.τ).loc Cert.Kernel8Ideal.main_v59_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v59_0) = v0 c
          ∧ r.2.mem ((c.tc : Thread Cert.Kernel8Ideal.nD Cert.Kernel8Ideal.τ).loc Cert.Kernel8Ideal.main_v59_1) = v1 c
          ∧ r.2.mem ((c.tc : Thread Cert.Kernel8Ideal.nD Cert.Kernel8Ideal.τ).loc Cert.Kernel8Ideal.main_v59_2) = v2 c
          ∧ r.2.mem ((c.tc : Thread Cert.Kernel8Ideal.nD Cert.Kernel8Ideal.τ).loc Cert.Kernel8Ideal.main_v59_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v129) = v0 c
          ∧ r.2.mem ((c.tc : Thread Cert.Reference8Ideal.nD Cert.Reference8Ideal.τ).loc Cert.Reference8Ideal.main_v131) = v1 c
          ∧ r.2.mem ((c.tc : Thread Cert.Reference8Ideal.nD Cert.Reference8Ideal.τ).loc Cert.Reference8Ideal.main_v132) = v2 c
          ∧ r.2.mem ((c.tc : Thread Cert.Reference8Ideal.nD Cert.Reference8Ideal.τ).loc Cert.Reference8Ideal.main_v134) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite4 : Cert.Pre_finite4.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S8x8192x512 : Shape := ⟨3, ![8, 8192, 512]⟩
abbrev S8x8192x128 : Shape := ⟨3, ![8, 8192, 128]⟩
abbrev S_ : Shape := ⟨0, ![]⟩

class Facts : Prop where
  bcast_S_S8x8192x512 : S_.BroadcastsInDim S8x8192x512 (![] : Fin 0 → Fin S8x8192x512.rank)
  bcast_S_S8x8192x128 : S_.BroadcastsInDim S8x8192x128 (![] : Fin 0 → Fin S8x8192x128.rank)

variable [Facts]

def fn {F : FTy → Type} [FloatOps F] (main_arg0 : FVec F S8x8192x512 .f32) (main_arg1 : FVec F S8x8192x128 .f32) (main_arg2 : FVec F S8x8192x128 .f32) : IVec S8x8192x512 1 × IVec S8x8192x128 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_v3 : FVec F S8x8192x128 .f32 := Host.absf main_arg1
  let main_cst_0 : FVec F S_ .f32 := constant S_ .f32 0x7F800000#32
  let main_v4 : FVec F S8x8192x128 .f32 := broadcastInDim S8x8192x128 ![] bcast_S_S8x8192x128 main_cst_0
  let main_v5 : IVec S8x8192x128 1 := cmpf .olt main_v3 main_v4
  (main_v2, main_v5)
-- ==== Pre_finite4.lean ====
abbrev S8x8192x1024 : Shape := ⟨3, ![8, 8192, 1024]⟩
abbrev S1024 : Shape := ⟨1, ![1024]⟩
abbrev S1024x1280 : Shape := ⟨2, ![1024, 1280]⟩
abbrev S64 : Shape := ⟨1, ![64]⟩
abbrev S_ : Shape := ⟨0, ![]⟩

class Facts : Prop where
  bcast_S_S8x8192x1024 : S_.BroadcastsInDim S8x8192x1024 (![] : Fin 0 → Fin S8x8192x1024.rank)
  bcast_S_S1024 : S_.BroadcastsInDim S1024 (![] : Fin 0 → Fin S1024.rank)
  bcast_S_S1024x1280 : S_.BroadcastsInDim S1024x1280 (![] : Fin 0 → Fin S1024x1280.rank)

variable [Facts]

def fn {F : FTy → Type} [FloatOps F] (main_arg0 : FVec F S8x8192x1024 .f32) (main_arg1 : FVec F S1024 .f32) (main_arg2 : FVec F S1024x1280 .f32) (main_arg3 : FVec F S64 .f32) (main_arg4 : FVec F S64 .f32) : IVec S8x8192x1024 1 × IVec S1024 1 × IVec S1024x1280 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1280 .f32 := Host.absf main_arg2
  let main_cst_1 : FVec F S_ .f32 := constant S_ .f32 0x7F800000#32
  let main_v7 : FVec F S1024x1280 .f32 := broadcastInDim S1024x1280 ![] bcast_S_S1024x1280 main_cst_1
  let main_v8 : IVec S1024x1280 1 := cmpf .olt main_v6 main_v7
  (main_v2, main_v5, main_v8)
-- ==== Pre_finite7.lean ====
abbrev S1x16384x512 : Shape := ⟨3, ![1, 16384, 512]⟩
abbrev S1x16384x128 : Shape := ⟨3, ![1, 16384, 128]⟩
abbrev S_ : Shape := ⟨0, ![]⟩

class Facts : Prop where
  bcast_S_S1x16384x512 : S_.BroadcastsInDim S1x16384x512 (![] : Fin 0 → Fin S1x16384x512.rank)
  bcast_S_S1x16384x128 : S_.BroadcastsInDim S1x16384x128 (![] : Fin 0 → Fin S1x16384x128.rank)

variable [Facts]

def fn {F : FTy → Type} [FloatOps F] (main_arg0 : FVec F S1x16384x512 .f32) (main_arg1 : FVec F S1x16384x128 .f32) (main_arg2 : FVec F S1x16384x128 .f32) : IVec S1x16384x512 1 × IVec S1x16384x128 1 :=
  let main_v0 : FVec F S1x16384x512 .f32 := Host.absf main_arg0
  let main_cst : FVec F S_ .f32 := constant S_ .f32 0x7F800000#32
  let main_v1 : FVec F S1x16384x512 .f32 := broadcastInDim S1x16384x512 ![] bcast_S_S1x16384x512 main_cst
  let main_v2 : IVec S1x16384x512 1 := cmpf .olt main_v0 main_v1
  let main_v3 : FVec F S1x16384x128 .f32 := Host.absf main_arg1
  let main_cst_0 : FVec F S_ .f32 := constant S_ .f32 0x7F800000#32
  let main_v4 : FVec F S1x16384x128 .f32 := broadcastInDim S1x16384x128 ![] bcast_S_S1x16384x128 main_cst_0
  let main_v5 : IVec S1x16384x128 1 := cmpf .olt main_v3 main_v4
  (main_v2, main_v5)
-- ==== Pre_finite8.lean ====
abbrev S1x16384x1024 : Shape := ⟨3, ![1, 16384, 1024]⟩
abbrev S1024 : Shape := ⟨1, ![1024]⟩
abbrev S1024x1280 : Shape := ⟨2, ![1024, 1280]⟩
abbrev S64 : Shape := ⟨1, ![64]⟩
abbrev S_ : Shape := ⟨0, ![]⟩

class Facts : Prop where
  bcast_S_S1x16384x1024 : S_.BroadcastsInDim S1x16384x1024 (![] : Fin 0 → Fin S1x16384x1024.rank)
  bcast_S_S1024 : S_.BroadcastsInDim S1024 (![] : Fin 0 → Fin S1024.rank)
  bcast_S_S1024x1280 : S_.BroadcastsInDim S1024x1280 (![] : Fin 0 → Fin S1024x1280.rank)

variable [Facts]

def fn {F : FTy → Type} [FloatOps F] (main_arg0 : FVec F S1x16384x1024 .f32) (main_arg1 : FVec F S1024 .f32) (main_arg2 : FVec F S1024x1280 .f32) (main_arg3 : FVec F S64 .f32) (main_arg4 : FVec F S64 .f32) : IVec S1x16384x1024 1 × IVec S1024 1 × IVec S1024x1280 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1280 .f32 := Host.absf main_arg2
  let main_cst_1 : FVec F S_ .f32 := constant S_ .f32 0x7F800000#32
  let main_v7 : FVec F S1024x1280 .f32 := broadcastInDim S1024x1280 ![] bcast_S_S1024x1280 main_cst_1
  let main_v8 : IVec S1024x1280 1 := cmpf .olt main_v6 main_v7
  (main_v2, main_v5, main_v8)
-- ==== Kernel.lean ====
abbrev S8x8192x512 : Shape := ⟨3, ![8, 8192, 512]⟩
abbrev S8x8192x128 : Shape := ⟨3, ![8, 8192, 128]⟩
abbrev S_ : Shape := ⟨0, ![]⟩
abbrev S8x8192x64 : Shape := ⟨3, ![8, 8192, 64]⟩
abbrev S8x128x8192 : Shape := ⟨3, ![8, 128, 8192]⟩
abbrev S1x512x128 : Shape := ⟨3, ![1, 512, 128]⟩
abbrev S1x8192x128 : Shape := ⟨3, ![1, 8192, 128]⟩
abbrev S1x64x8192 : Shape := ⟨3, ![1, 64, 8192]⟩
abbrev S2x1x512 : Shape := ⟨3, ![2, 1, 512]⟩
abbrev S2x64x512 : Shape := ⟨3, ![2, 64, 512]⟩
abbrev S512x128 : Shape := ⟨2, ![512, 128]⟩
abbrev S1x64x512 : Shape := ⟨3, ![1, 64, 512]⟩
abbrev S64x512 : Shape := ⟨2, ![64, 512]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S128x512 : Shape := ⟨2, ![128, 512]⟩

abbrev nBuf : Space → Nat
  | .hbm => 16
  | .vmem => 13
  | .smem => 0
  | _ => 0

abbrev bufTy : (tb : Table) → Fin (tcTables nBuf tb) → BufTy
  | .hbm, ⟨0, _⟩ => ⟨S8x8192x512, .f32⟩
  | .hbm, ⟨1, _⟩ => ⟨S8x8192x128, .f32⟩
  | .hbm, ⟨2, _⟩ => ⟨S8x8192x128, .f32⟩
  | .hbm, ⟨3, _⟩ => ⟨S_, .f32⟩
  | .hbm, ⟨4, _⟩ => ⟨S8x8192x512, .f32⟩
  | .hbm, ⟨5, _⟩ => ⟨S8x8192x512, .f32⟩
  | .hbm, ⟨6, _⟩ => ⟨S8x8192x512, .bf16⟩
  | .hbm, ⟨7, _⟩ => ⟨S_, .f32⟩
  | .hbm, ⟨8, _⟩ => ⟨S8x8192x64, .f32⟩
  | .hbm, ⟨9, _⟩ => ⟨S8x8192x64, .f32⟩
  | .hbm, ⟨10, _⟩ => ⟨S8x8192x64, .f32⟩
  | .hbm, ⟨11, _⟩ => ⟨S8x8192x512, .f32⟩
  | .hbm, ⟨12, _⟩ => ⟨S8x8192x512, .bf16⟩
  | .hbm, ⟨13, _⟩ => ⟨S8x128x8192, .f32⟩
  | .hbm, ⟨14, _⟩ => ⟨S8x128x8192, .bf16⟩
  | .hbm, ⟨15, _⟩ => ⟨S8x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x64x8192, .bf16⟩
  | .local _ .vmem, ⟨7, _⟩ => ⟨S1x64x8192, .bf16⟩
  | .local _ .vmem, ⟨8, _⟩ => ⟨S1x512x128, .bf16⟩
  | .local _ .vmem, ⟨9, _⟩ => ⟨S1x512x128, .bf16⟩
  | .local _ .vmem, ⟨10, _⟩ => ⟨S2x1x512, .f32⟩
  | .local _ .vmem, ⟨11, _⟩ => ⟨S2x1x512, .f32⟩
  | .local _ .vmem, ⟨12, _⟩ => ⟨S2x64x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

@[reducible] def k0_t1_loop : Scf.Loop 32 :=
  let c0_i32 : BitVec 32 := 0#32
  let c16_i32 : BitVec 32 := 16#32
  let v14 : BitVec 32 := Scalar.addi c0_i32 c16_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v33 : BitVec 32 := Scalar.muli arg11 c512_i32
  v33
def k0_off1 (k0_t1 : Fin k0_t1_loop.trips) : Fin 3 → Nat :=
  let c0_28 : Index := 0#32
  let c0_29 : Index := 0#32
  let c0_i32 : BitVec 32 := 0#32
  let c1_i32 : BitVec 32 := 1#32
  let arg11 : BitVec 32 := Scf.iv c0_i32 c1_i32 k0_t1
  let c512_i32 : BitVec 32 := 512#32
  let v33 : BitVec 32 := Scalar.muli arg11 c512_i32
  let v34 : BitVec 32 := v33
  let v35 : Index := Scalar.indexCast v34
  ![0, 0, v35.toNat]
def k0_off2 (k0_t1 : Fin k0_t1_loop.trips) : Fin 3 → Nat :=
  let c0_30 : Index := 0#32
  let c0_i32 : BitVec 32 := 0#32
  let c1_i32 : BitVec 32 := 1#32
  let arg11 : BitVec 32 := Scf.iv c0_i32 c1_i32 k0_t1
  let c512_i32 : BitVec 32 := 512#32
  let v33 : BitVec 32 := Scalar.muli arg11 c512_i32
  let v34 : BitVec 32 := v33
  let v38 : Index := Scalar.indexCast v34
  let c0_31 : Index := 0#32
  ![0, v38.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c0_i32_5 : BitVec 32 := 0#32
  let c0_i32_6 : BitVec 32 := 0#32
  ![arg0.toNat, c0_i32_5.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c1_i32_5 : BitVec 32 := 1#32
  let v18 : BitVec 32 := Scalar.addi v17 c1_i32_5
  let c0_i32_6 : BitVec 32 := 0#32
  let c0_i32_7 : BitVec 32 := 0#32
  ![arg0.toNat, c0_i32_6.toNat, v18.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
abbrev S8x8192x512 : Shape := ⟨3, ![8, 8192, 512]⟩
abbrev S8x8192x128 : Shape := ⟨3, ![8, 8192, 128]⟩
abbrev S_ : Shape := ⟨0, ![]⟩
abbrev S8x8192x64 : Shape := ⟨3, ![8, 8192, 64]⟩
abbrev S8x128x8192 : Shape := ⟨3, ![8, 128, 8192]⟩
abbrev S1x512x128 : Shape := ⟨3, ![1, 512, 128]⟩
abbrev S1x8192x128 : Shape := ⟨3, ![1, 8192, 128]⟩
abbrev S1x64x8192 : Shape := ⟨3, ![1, 64, 8192]⟩
abbrev S2x1x512 : Shape := ⟨3, ![2, 1, 512]⟩
abbrev S2x64x512 : Shape := ⟨3, ![2, 64, 512]⟩
abbrev S512x128 : Shape := ⟨2, ![512, 128]⟩
abbrev S1x64x512 : Shape := ⟨3, ![1, 64, 512]⟩
abbrev S64x512 : Shape := ⟨2, ![64, 512]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S128x512 : Shape := ⟨2, ![128, 512]⟩

abbrev nBuf : Space → Nat
  | .hbm => 16
  | .vmem => 13
  | .smem => 0
  | _ => 0

abbrev bufTy : (tb : Table) → Fin (tcTables nBuf tb) → BufTy
  | .hbm, ⟨0, _⟩ => ⟨S8x8192x512, .f32⟩
  | .hbm, ⟨1, _⟩ => ⟨S8x8192x128, .f32⟩
  | .hbm, ⟨2, _⟩ => ⟨S8x8192x128, .f32⟩
  | .hbm, ⟨3, _⟩ => ⟨S_, .f32⟩
  | .hbm, ⟨4, _⟩ => ⟨S8x8192x512, .f32⟩
  | .hbm, ⟨5, _⟩ => ⟨S8x8192x512, .f32⟩
  | .hbm, ⟨6, _⟩ => ⟨S8x8192x512, .bf16⟩
  | .hbm, ⟨7, _⟩ => ⟨S_, .f32⟩
  | .hbm, ⟨8, _⟩ => ⟨S8x8192x64, .f32⟩
  | .hbm, ⟨9, _⟩ => ⟨S8x8192x64, .f32⟩
  | .hbm, ⟨10, _⟩ => ⟨S8x8192x64, .f32⟩
  | .hbm, ⟨11, _⟩ => ⟨S8x8192x512, .f32⟩
  | .hbm, ⟨12, _⟩ => ⟨S8x8192x512, .bf16⟩
  | .hbm, ⟨13, _⟩ => ⟨S8x128x8192, .f32⟩
  | .hbm, ⟨14, _⟩ => ⟨S8x128x8192, .bf16⟩
  | .hbm, ⟨15, _⟩ => ⟨S8x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x64x8192, .bf16⟩
  | .local _ .vmem, ⟨7, _⟩ => ⟨S1x64x8192, .bf16⟩
  | .local _ .vmem, ⟨8, _⟩ => ⟨S1x512x128, .bf16⟩
  | .local _ .vmem, ⟨9, _⟩ => ⟨S1x512x128, .bf16⟩
  | .local _ .vmem, ⟨10, _⟩ => ⟨S2x1x512, .f32⟩
  | .local _ .vmem, ⟨11, _⟩ => ⟨S2x1x512, .f32⟩
  | .local _ .vmem, ⟨12, _⟩ => ⟨S2x64x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

@[reducible] def k0_t1_loop : Scf.Loop 32 :=
  let c0_i32 : BitVec 32 := 0#32
  let c16_i32 : BitVec 32 := 16#32
  let v14 : BitVec 32 := Scalar.addi c0_i32 c16_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v33 : BitVec 32 := Scalar.muli arg11 c512_i32
  v33
def k0_off1 (k0_t1 : Fin k0_t1_loop.trips) : Fin 3 → Nat :=
  let c0_28 : Index := 0#32
  let c0_29 : Index := 0#32
  let c0_i32 : BitVec 32 := 0#32
  let c1_i32 : BitVec 32 := 1#32
  let arg11 : BitVec 32 := Scf.iv c0_i32 c1_i32 k0_t1
  let c512_i32 : BitVec 32 := 512#32
  let v33 : BitVec 32 := Scalar.muli arg11 c512_i32
  let v34 : BitVec 32 := v33
  let v35 : Index := Scalar.indexCast v34
  ![0, 0, v35.toNat]
def k0_off2 (k0_t1 : Fin k0_t1_loop.trips) : Fin 3 → Nat :=
  let c0_30 : Index := 0#32
  let c0_i32 : BitVec 32 := 0#32
  let c1_i32 : BitVec 32 := 1#32
  let arg11 : BitVec 32 := Scf.iv c0_i32 c1_i32 k0_t1
  let c512_i32 : BitVec 32 := 512#32
  let v33 : BitVec 32 := Scalar.muli arg11 c512_i32
  let v34 : BitVec 32 := v33
  let v38 : Index := Scalar.indexCast v34
  let c0_31 : Index := 0#32
  ![0, v38.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c0_i32_5 : BitVec 32 := 0#32
  let c0_i32_6 : BitVec 32 := 0#32
  ![arg0.toNat, c0_i32_5.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c1_i32_5 : BitVec 32 := 1#32
  let v18 : BitVec 32 := Scalar.addi v17 c1_i32_5
  let c0_i32_6 : BitVec 32 := 0#32
  let c0_i32_7 : BitVec 32 := 0#32
  ![arg0.toNat, c0_i32_6.toNat, v18.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x8192x512 : Shape := ⟨3, ![8, 8192, 512]⟩
abbrev S8x8192x128 : Shape := ⟨3, ![8, 8192, 128]⟩
abbrev S8x8192x2x4x64 : Shape := ⟨5, ![8, 8192, 2, 4, 64]⟩
abbrev S8x8192x2x64 : Shape := ⟨4, ![8, 8192, 2, 64]⟩
abbrev S8x2x8192x8192x4 : Shape := ⟨5, ![8, 2, 8192, 8192, 4]⟩
abbrev S8x2x4x8192x8192 : Shape := ⟨5, ![8, 2, 4, 8192, 8192]⟩
abbrev S_ : Shape := ⟨0, ![]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x128, .f32⟩
  | .hbm, ⟨2, _⟩ => ⟨S8x8192x128, .f32⟩
  | .hbm, ⟨3, _⟩ => ⟨S8x8192x2x4x64, .f32⟩
  | .hbm, ⟨4, _⟩ => ⟨S8x8192x2x64, .f32⟩
  | .hbm, ⟨5, _⟩ => ⟨S8x8192x2x64, .f32⟩
  | .hbm, ⟨6, _⟩ => ⟨S8x2x8192x8192x4, .f32⟩
  | .hbm, ⟨7, _⟩ => ⟨S8x2x4x8192x8192, .f32⟩
  | .hbm, ⟨8, _⟩ => ⟨S_, .f32⟩
  | .hbm, ⟨9, _⟩ => ⟨S8x2x4x8192x8192, .f32⟩
  | .hbm, ⟨10, _⟩ => ⟨S8x2x4x8192x8192, .f32⟩
  | .hbm, ⟨11, _⟩ => ⟨S_, .f32⟩
  | .hbm, ⟨12, _⟩ => ⟨S8x2x4x8192, .f32⟩
  | .hbm, ⟨13, _⟩ => ⟨S_, .f32⟩
  | .hbm, ⟨14, _⟩ => ⟨S8x2x4x8192, .f32⟩
  | .hbm, ⟨15, _⟩ => ⟨S8x2x4x8192, .f32⟩
  | .hbm, ⟨16, _⟩ => ⟨S8x2x4x8192x1, .f32⟩
  | .hbm, ⟨17, _⟩ => ⟨S8x2x4x8192x8192, .f32⟩
  | .hbm, ⟨18, _⟩ => ⟨S8x2x4x8192x8192, .f32⟩
  | .hbm, ⟨19, _⟩ => ⟨S8x2x4x8192x8192, .f32⟩
  | .hbm, ⟨20, _⟩ => ⟨S_, .f32⟩
  | .hbm, ⟨21, _⟩ => ⟨S8x2x4x8192, .f32⟩
  | .hbm, ⟨22, _⟩ => ⟨S8x2x4x8192x1, .f32⟩
  | .hbm, ⟨23, _⟩ => ⟨S8x2x4x8192x8192, .f32⟩
  | .hbm, ⟨24, _⟩ => ⟨S8x2x4x8192x8192, .f32⟩
  | .hbm, ⟨25, _⟩ => ⟨S8x2x64x4x8192, .f32⟩
  | .hbm, ⟨26, _⟩ => ⟨S8x8192x2x4x64, .f32⟩
  | .hbm, ⟨27, _⟩ => ⟨S8x8192x512, .f32⟩
  | .hbm, ⟨28, _⟩ => ⟨S8x8192x512, .bf16⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S5x2816 : Shape := ⟨2, ![5, 2816]⟩
abbrev S8x2816 : Shape := ⟨2, ![8, 2816]⟩
abbrev S1x2816 : Shape := ⟨2, ![1, 2816]⟩
abbrev S1x1024 : Shape := ⟨2, ![1, 1024]⟩
abbrev S1x512x1024 : Shape := ⟨3, ![1, 512, 1024]⟩
abbrev S1x16x1024 : Shape := ⟨3, ![1, 16, 1024]⟩
abbrev S512x1024 : Shape := ⟨2, ![512, 1024]⟩
abbrev S16x1024 : Shape := ⟨2, ![16, 1024]⟩
abbrev S544x1024 : Shape := ⟨2, ![544, 1024]⟩
abbrev S512x1 : Shape := ⟨2, ![512, 1]⟩
abbrev S1024x256 : Shape := ⟨2, ![1024, 256]⟩
abbrev S544x256 : Shape := ⟨2, ![544, 256]⟩
abbrev S512x256 : Shape := ⟨2, ![512, 256]⟩
abbrev S1x256 : Shape := ⟨2, ![1, 256]⟩
abbrev S256x1024 : Shape := ⟨2, ![256, 1024]⟩
abbrev S512 : Shape := ⟨1, ![512]⟩

abbrev nBuf : Space → Nat
  | .hbm => 17
  | .vmem => 17
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S_, .f32⟩
  | .hbm, ⟨9, _⟩ => ⟨S5x2816, .f32⟩
  | .hbm, ⟨10, _⟩ => ⟨S8x2816, .f32⟩
  | .hbm, ⟨11, _⟩ => ⟨S1024x2816, .bf16⟩
  | .hbm, ⟨12, _⟩ => ⟨S1024x2816, .bf16⟩
  | .hbm, ⟨13, _⟩ => ⟨S1x2816, .f32⟩
  | .hbm, ⟨14, _⟩ => ⟨S2816x1024, .bf16⟩
  | .hbm, ⟨15, _⟩ => ⟨S1x1024, .f32⟩
  | .hbm, ⟨16, _⟩ => ⟨S8x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1024x2816, .bf16⟩
  | .local _ .vmem, ⟨9, _⟩ => ⟨S1024x2816, .bf16⟩
  | .local _ .vmem, ⟨10, _⟩ => ⟨S8x2816, .f32⟩
  | .local _ .vmem, ⟨11, _⟩ => ⟨S1x2816, .f32⟩
  | .local _ .vmem, ⟨12, _⟩ => ⟨S2816x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel2Ideal.lean ====
abbrev S8x8192x1024 : Shape := ⟨3, ![8, 8192, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S5x2816 : Shape := ⟨2, ![5, 2816]⟩
abbrev S8x2816 : Shape := ⟨2, ![8, 2816]⟩
abbrev S1x2816 : Shape := ⟨2, ![1, 2816]⟩
abbrev S1x1024 : Shape := ⟨2, ![1, 1024]⟩
abbrev S1x512x1024 : Shape := ⟨3, ![1, 512, 1024]⟩
abbrev S1x16x1024 : Shape := ⟨3, ![1, 16, 1024]⟩
abbrev S512x1024 : Shape := ⟨2, ![512, 1024]⟩
abbrev S16x1024 : Shape := ⟨2, ![16, 1024]⟩
abbrev S544x1024 : Shape := ⟨2, ![544, 1024]⟩
abbrev S512x1 : Shape := ⟨2, ![512, 1]⟩
abbrev S1024x256 : Shape := ⟨2, ![1024, 256]⟩
abbrev S544x256 : Shape := ⟨2, ![544, 256]⟩
abbrev S512x256 : Shape := ⟨2, ![512, 256]⟩
abbrev S1x256 : Shape := ⟨2, ![1, 256]⟩
abbrev S256x1024 : Shape := ⟨2, ![256, 1024]⟩
abbrev S512 : Shape := ⟨1, ![512]⟩

abbrev nBuf : Space → Nat
  | .hbm => 17
  | .vmem => 17
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S_, .f32⟩
  | .hbm, ⟨9, _⟩ => ⟨S5x2816, .f32⟩
  | .hbm, ⟨10, _⟩ => ⟨S8x2816, .f32⟩
  | .hbm, ⟨11, _⟩ => ⟨S1024x2816, .bf16⟩
  | .hbm, ⟨12, _⟩ => ⟨S1024x2816, .bf16⟩
  | .hbm, ⟨13, _⟩ => ⟨S1x2816, .f32⟩
  | .hbm, ⟨14, _⟩ => ⟨S2816x1024, .bf16⟩
  | .hbm, ⟨15, _⟩ => ⟨S1x1024, .f32⟩
  | .hbm, ⟨16, _⟩ => ⟨S8x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1024x2816, .bf16⟩
  | .local _ .vmem, ⟨9, _⟩ => ⟨S1024x2816, .bf16⟩
  | .local _ .vmem, ⟨10, _⟩ => ⟨S8x2816, .f32⟩
  | .local _ .vmem, ⟨11, _⟩ => ⟨S1x2816, .f32⟩
  | .local _ .vmem, ⟨12, _⟩ => ⟨S2816x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x8192x1024 : Shape := ⟨3, ![8, 8192, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S8x8192x2816 : Shape := ⟨3, ![8, 8192, 2816]⟩
abbrev S_ : Shape := ⟨0, ![]⟩
abbrev S8x8194x2816 : Shape := ⟨3, ![8, 8194, 2816]⟩
abbrev S1x2816 : Shape := ⟨2, ![1, 2816]⟩
abbrev S1x1x2816 : Shape := ⟨3, ![1, 1, 2816]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S8x8192x1024, .f32⟩
  | .hbm, ⟨9, _⟩ => ⟨S8x8192x2816, .f32⟩
  | .hbm, ⟨10, _⟩ => ⟨S_, .i32⟩
  | .hbm, ⟨11, _⟩ => ⟨S_, .f32⟩
  | .hbm, ⟨12, _⟩ => ⟨S8x8194x2816, .f32⟩
  | .hbm, ⟨13, _⟩ => ⟨S8x8192x2816, .f32⟩
  | .hbm, ⟨14, _⟩ => ⟨S1x2816, .f32⟩
  | .hbm, ⟨15, _⟩ => ⟨S2816, .f32⟩
  | .hbm, ⟨16, _⟩ => ⟨S1x1x2816, .f32⟩
  | .hbm, ⟨17, _⟩ => ⟨S8x8192x2816, .f32⟩
  | .hbm, ⟨18, _⟩ => ⟨S8x8192x2816, .f32⟩
  | .hbm, ⟨19, _⟩ => ⟨S1x1x2816, .f32⟩
  | .hbm, ⟨20, _⟩ => ⟨S8x8192x2816, .f32⟩
  | .hbm, ⟨21, _⟩ => ⟨S8x8192x2816, .f32⟩
  | .hbm, ⟨22, _⟩ => ⟨S8x8192x2816, .f32⟩
  | .hbm, ⟨23, _⟩ => ⟨S1x2816, .f32⟩
  | .hbm, ⟨24, _⟩ => ⟨S2816, .f32⟩
  | .hbm, ⟨25, _⟩ => ⟨S1x1x2816, .f32⟩
  | .hbm, ⟨26, _⟩ => ⟨S8x8192x2816, .f32⟩
  | .hbm, ⟨27, _⟩ => ⟨S8x8192x2816, .f32⟩
  | .hbm, ⟨28, _⟩ => ⟨S8x8192x2816, .f32⟩
  | .hbm, ⟨29, _⟩ => ⟨S8x8192x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S8x8192x2816, .f32⟩
  | .hbm, ⟨34, _⟩ => ⟨S8x8192x2816, .f32⟩
  | .hbm, ⟨35, _⟩ => ⟨S8x8192x2816, .f32⟩
  | .hbm, ⟨36, _⟩ => ⟨S8x8192x2816, .f32⟩
  | .hbm, ⟨37, _⟩ => ⟨S8x8192x2816, .f32⟩
  | .hbm, ⟨38, _⟩ => ⟨S_, .f32⟩
  | .hbm, ⟨39, _⟩ => ⟨S8x8192x2816, .f32⟩
  | .hbm, ⟨40, _⟩ => ⟨S8x8192x2816, .f32⟩
  | .hbm, ⟨41, _⟩ => ⟨S_, .f32⟩
  | .hbm, ⟨42, _⟩ => ⟨S8x8192x2816, .f32⟩
  | .hbm, ⟨43, _⟩ => ⟨S8x8192x2816, .f32⟩
  | .hbm, ⟨44, _⟩ => ⟨S8x8192x2816, .f32⟩
  | .hbm, ⟨45, _⟩ => ⟨S8x8192x2816, .f32⟩
  | .hbm, ⟨46, _⟩ => ⟨S8x8192x2816, .f32⟩
  | .hbm, ⟨47, _⟩ => ⟨S8x8192x1024, .f32⟩
  | .hbm, ⟨48, _⟩ => ⟨S8x8192x1024, .f32⟩
  | .hbm, ⟨49, _⟩ => ⟨S8x8192x1024, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S_, .f32⟩
  | .hbm, ⟨54, _⟩ => ⟨S8x8192x1, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x8192x1, .f32⟩
  | .hbm, ⟨60, _⟩ => ⟨S8x8192x1024, .f32⟩
  | .hbm, ⟨61, _⟩ => ⟨S8x8192x1024, .f32⟩
  | .hbm, ⟨62, _⟩ => ⟨S1x1x1024, .f32⟩
  | .hbm, ⟨63, _⟩ => ⟨S8x8192x1024, .f32⟩
  | .hbm, ⟨64, _⟩ => ⟨S8x8192x1024, .f32⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst : Ref sig .tc := ⟨.hbm, 50, rfl⟩
abbrev main_v32 : Ref sig .tc := ⟨.hbm, 51, rfl⟩
abbrev main_v33 : Ref sig .tc := ⟨.hbm, 52, rfl⟩
abbrev main_cst_0 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x8192x512 : Shape := ⟨3, ![8, 8192, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S512x1024 : Shape := ⟨2, ![512, 1024]⟩
abbrev S1x1024 : Shape := ⟨2, ![1, 1024]⟩
abbrev S1x512x1024 : Shape := ⟨3, ![1, 512, 1024]⟩
abbrev S1x512x512 : Shape := ⟨3, ![1, 512, 512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S512x512, .bf16⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1x1024, .f32⟩
  | .hbm, ⟨18, _⟩ => ⟨S8x8192x1024, .f32⟩
  | .hbm, ⟨19, _⟩ => ⟨S8x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .bf16⟩
  | .local _ .vmem, ⟨16, _⟩ => ⟨S1x512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel3Ideal.lean ====
abbrev S8x8192x1024 : Shape := ⟨3, ![8, 8192, 1024]⟩
abbrev S8x8192x512 : Shape := ⟨3, ![8, 8192, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S512x1024 : Shape := ⟨2, ![512, 1024]⟩
abbrev S1x1024 : Shape := ⟨2, ![1, 1024]⟩
abbrev S1x512x1024 : Shape := ⟨3, ![1, 512, 1024]⟩
abbrev S1x512x512 : Shape := ⟨3, ![1, 512, 512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S512x512, .bf16⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1x1024, .f32⟩
  | .hbm, ⟨18, _⟩ => ⟨S8x8192x1024, .f32⟩
  | .hbm, ⟨19, _⟩ => ⟨S8x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .bf16⟩
  | .local _ .vmem, ⟨16, _⟩ => ⟨S1x512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S8x8192x1024 : Shape := ⟨3, ![8, 8192, 1024]⟩
abbrev S8x8192x512 : Shape := ⟨3, ![8, 8192, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S_ : Shape := ⟨0, ![]⟩
abbrev S1x1x512 : Shape := ⟨3, ![1, 1, 512]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S8x8192x512, .f32⟩
  | .hbm, ⟨10, _⟩ => ⟨S8x8192x512, .f32⟩
  | .hbm, ⟨11, _⟩ => ⟨S8x8192x512, .f32⟩
  | .hbm, ⟨12, _⟩ => ⟨S_, .f32⟩
  | .hbm, ⟨13, _⟩ => ⟨S8x8192x512, .f32⟩
  | .hbm, ⟨14, _⟩ => ⟨S8x8192x512, .f32⟩
  | .hbm, ⟨15, _⟩ => ⟨S8x8192x512, .f32⟩
  | .hbm, ⟨16, _⟩ => ⟨S_, .f32⟩
  | .hbm, ⟨17, _⟩ => ⟨S8x8192x512, .f32⟩
  | .hbm, ⟨18, _⟩ => ⟨S8x8192x512, .f32⟩
  | .hbm, ⟨19, _⟩ => ⟨S8x8192x512, .f32⟩
  | .hbm, ⟨20, _⟩ => ⟨S_, .f32⟩
  | .hbm, ⟨21, _⟩ => ⟨S8x8192x512, .f32⟩
  | .hbm, ⟨22, _⟩ => ⟨S8x8192x512, .f32⟩
  | .hbm, ⟨23, _⟩ => ⟨S_, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S8x8192x512, .f32⟩
  | .hbm, ⟨28, _⟩ => ⟨S1x1x512, .f32⟩
  | .hbm, ⟨29, _⟩ => ⟨S8x8192x512, .f32⟩
  | .hbm, ⟨30, _⟩ => ⟨S8x8192x512, .f32⟩
  | .hbm, ⟨31, _⟩ => ⟨S8x8192x512, .f32⟩
  | .hbm, ⟨32, _⟩ => ⟨S8x8192x512, .f32⟩
  | .hbm, ⟨33, _⟩ => ⟨S_, .f32⟩
  | .hbm, ⟨34, _⟩ => ⟨S8x8192x512, .f32⟩
  | .hbm, ⟨35, _⟩ => ⟨S8x8192x512, .f32⟩
  | .hbm, ⟨36, _⟩ => ⟨S_, .f32⟩
  | .hbm, ⟨37, _⟩ => ⟨S8x8192x512, .f32⟩
  | .hbm, ⟨38, _⟩ => ⟨S8x8192x512, .f32⟩
  | .hbm, ⟨39, _⟩ => ⟨S8x8192x512, .f32⟩
  | .hbm, ⟨40, _⟩ => ⟨S8x8192x512, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S_, .f32⟩
  | .hbm, ⟨48, _⟩ => ⟨S8x8192x1, .f32⟩
  | .hbm, ⟨49, _⟩ => ⟨S8x8192x1, .f32⟩
  | .hbm, ⟨50, _⟩ => ⟨S8x8192x1, .f32⟩
  | .hbm, ⟨51, _⟩ => ⟨S8x8192x512, .f32⟩
  | .hbm, ⟨52, _⟩ => ⟨S8x8192x512, .f32⟩
  | .hbm, ⟨53, _⟩ => ⟨S1x1x512, .f32⟩
  | .hbm, ⟨54, _⟩ => ⟨S8x8192x512, .f32⟩
  | .hbm, ⟨55, _⟩ => ⟨S8x8192x512, .f32⟩
  | .hbm, ⟨56, _⟩ => ⟨S8x8192x512, .f32⟩
  | .hbm, ⟨57, _⟩ => ⟨S8x8192x512, .f32⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S_, .f32⟩
  | .hbm, ⟨62, _⟩ => ⟨S8x8192x1, .f32⟩
  | .hbm, ⟨63, _⟩ => ⟨S8x8192x1, .f32⟩
  | .hbm, ⟨64, _⟩ => ⟨S_, .f32⟩
  | .hbm, ⟨65, _⟩ => ⟨S8x8192x1, .f32⟩
  | .hbm, ⟨66, _⟩ => ⟨S8x8192x1, .f32⟩
  | .hbm, ⟨67, _⟩ => ⟨S8x8192x1, .f32⟩
  | .hbm, ⟨68, _⟩ => ⟨S8x8192x512, .f32⟩
  | .hbm, ⟨69, _⟩ => ⟨S8x8192x512, .f32⟩
  | .hbm, ⟨70, _⟩ => ⟨S1x1x512, .f32⟩
  | .hbm, ⟨71, _⟩ => ⟨S8x8192x512, .f32⟩
  | .hbm, ⟨72, _⟩ => ⟨S8x8192x512, .f32⟩
  | .hbm, ⟨73, _⟩ => ⟨S8x8192x1024, .f32⟩
  | .hbm, ⟨74, _⟩ => ⟨S8x8192x1024, .f32⟩
  | .hbm, ⟨75, _⟩ => ⟨S8x8192x1024, .f32⟩
  | .hbm, ⟨76, _⟩ => ⟨S8x8192x1024, .f32⟩
  | .hbm, ⟨77, _⟩ => ⟨S_, .f32⟩
  | .hbm, ⟨78, _⟩ => ⟨S8x8192, .f32⟩
  | .hbm, ⟨79, _⟩ => ⟨S8x8192x1, .f32⟩
  | .hbm, ⟨80, _⟩ => ⟨S_, .f32⟩
  | .hbm, ⟨81, _⟩ => ⟨S8x8192x1, .f32⟩
  | .hbm, ⟨82, _⟩ => ⟨S8x8192x1, .f32⟩
  | .hbm, ⟨83, _⟩ => ⟨S_, .f32⟩
  | .hbm, ⟨84, _⟩ => ⟨S8x8192x1, .f32⟩
  | .hbm, ⟨85, _⟩ => ⟨S8x8192x1, .f32⟩
  | .hbm, ⟨86, _⟩ => ⟨S8x8192x1, .f32⟩
  | .hbm, ⟨87, _⟩ => ⟨S8x8192x1024, .f32⟩
  | .hbm, ⟨88, _⟩ => ⟨S8x8192x1024, .f32⟩
  | .hbm, ⟨89, _⟩ => ⟨S1x1x1024, .f32⟩
  | .hbm, ⟨90, _⟩ => ⟨S8x8192x1024, .f32⟩
  | .hbm, ⟨91, _⟩ => ⟨S8x8192x1024, .f32⟩
  | .hbm, ⟨92, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel4.lean ====
abbrev S8x8192x1024 : Shape := ⟨3, ![8, 8192, 1024]⟩
abbrev S1024 : Shape := ⟨1, ![1024]⟩
abbrev S1024x1280 : Shape := ⟨2, ![1024, 1280]⟩
abbrev S64 : Shape := ⟨1, ![64]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S640 : Shape := ⟨1, ![640]⟩
abbrev S640x1 : Shape := ⟨2, ![640, 1]⟩
abbrev S1x640 : Shape := ⟨2, ![1, 640]⟩
abbrev S640x640 : Shape := ⟨2, ![640, 640]⟩
abbrev S8x64 : Shape := ⟨2, ![8, 64]⟩
abbrev S512 : Shape := ⟨1, ![512]⟩
abbrev S2x64 : Shape := ⟨2, ![2, 64]⟩
abbrev S1x1024 : Shape := ⟨2, ![1, 1024]⟩
abbrev S8x8192x512 : Shape := ⟨3, ![8, 8192, 512]⟩
abbrev S8x128x8192 : Shape := ⟨3, ![8, 128, 8192]⟩
abbrev S1x512x1024 : Shape := ⟨3, ![1, 512, 1024]⟩
abbrev S512x128 : Shape := ⟨2, ![512, 128]⟩
abbrev S1x512x512 : Shape := ⟨3, ![1, 512, 512]⟩
abbrev S1x128x512 : Shape := ⟨3, ![1, 128, 512]⟩
abbrev S512x1024 : Shape := ⟨2, ![512, 1024]⟩
abbrev S512x1 : Shape := ⟨2, ![512, 1]⟩
abbrev S512x1280 : Shape := ⟨2, ![512, 1280]⟩
abbrev S512x512 : Shape := ⟨2, ![512, 512]⟩
abbrev S512x640 : Shape := ⟨2, ![512, 640]⟩
abbrev S1x512x128 : Shape := ⟨3, ![1, 512, 128]⟩
abbrev S128x512 : Shape := ⟨2, ![128, 512]⟩

abbrev nBuf : Space → Nat
  | .hbm => 89
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1280, .f32⟩
  | .hbm, ⟨3, _⟩ => ⟨S64, .f32⟩
  | .hbm, ⟨4, _⟩ => ⟨S64, .f32⟩
  | .hbm, ⟨5, _⟩ => ⟨S128, .i32⟩
  | .hbm, ⟨6, _⟩ => ⟨S128x1, .i32⟩
  | .hbm, ⟨7, _⟩ => ⟨S128x64, .i32⟩
  | .hbm, ⟨8, _⟩ => ⟨S8192, .i32⟩
  | .hbm, ⟨9, _⟩ => ⟨S8192, .f32⟩
  | .hbm, ⟨10, _⟩ => ⟨S64, .i32⟩
  | .hbm, ⟨11, _⟩ => ⟨S1x64, .i32⟩
  | .hbm, ⟨12, _⟩ => ⟨S128x64, .i32⟩
  | .hbm, ⟨13, _⟩ => ⟨S8192, .i32⟩
  | .hbm, ⟨14, _⟩ => ⟨S8192, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S8192x1, .f32⟩
  | .hbm, ⟨30, _⟩ => ⟨S1x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x1, .f32⟩
  | .hbm, ⟨35, _⟩ => ⟨S1x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S1x8192x1x32, .f32⟩
  | .hbm, ⟨43, _⟩ => ⟨S1x8192x4x32, .f32⟩
  | .hbm, ⟨44, _⟩ => ⟨S8192x128, .f32⟩
  | .hbm, ⟨45, _⟩ => ⟨S8192x32, .f32⟩
  | .hbm, ⟨46, _⟩ => ⟨S8192x64, .f32⟩
  | .hbm, ⟨47, _⟩ => ⟨S1x8192x1x64, .f32⟩
  | .hbm, ⟨48, _⟩ => ⟨S1x8192x2x64, .f32⟩
  | .hbm, ⟨49, _⟩ => ⟨S8192x128, .f32⟩
  | .hbm, ⟨50, _⟩ => ⟨S640, .i32⟩
  | .hbm, ⟨51, _⟩ => ⟨S_, .i32⟩
  | .hbm, ⟨52, _⟩ => ⟨S_, .i32⟩
  | .hbm, ⟨53, _⟩ => ⟨S640, .i32⟩
  | .hbm, ⟨54, _⟩ => ⟨S640, .i32⟩
  | .hbm, ⟨55, _⟩ => ⟨S640, .i32⟩
  | .hbm, ⟨56, _⟩ => ⟨S_, .i32⟩
  | .hbm, ⟨57, _⟩ => ⟨S640, .i32⟩
  | .hbm, ⟨58, _⟩ => ⟨S640, .i1⟩
  | .hbm, ⟨59, _⟩ => ⟨S640, .i32⟩
  | .hbm, ⟨60, _⟩ => ⟨S640, .i32⟩
  | .hbm, ⟨61, _⟩ => ⟨S_, .i32⟩
  | .hbm, ⟨62, _⟩ => ⟨S640, .i32⟩
  | .hbm, ⟨63, _⟩ => ⟨S640, .i1⟩
  | .hbm, ⟨64, _⟩ => ⟨S640, .i1⟩
  | .hbm, ⟨65, _⟩ => ⟨S_, .i32⟩
  | .hbm, ⟨66, _⟩ => ⟨S640, .i32⟩
  | .hbm, ⟨67, _⟩ => ⟨S640, .i32⟩
  | .hbm, ⟨68, _⟩ => ⟨S640, .i32⟩
  | .hbm, ⟨69, _⟩ => ⟨S640x1, .i32⟩
  | .hbm, ⟨70, _⟩ => ⟨S1x640, .i32⟩
  | .hbm, ⟨71, _⟩ => ⟨S640x640, .i32⟩
  | .hbm, ⟨72, _⟩ => ⟨S640x640, .i32⟩
  | .hbm, ⟨73, _⟩ => ⟨S640x640, .i1⟩
  | .hbm, ⟨74, _⟩ => ⟨S640x640, .bf16⟩
  | .hbm, ⟨75, _⟩ => ⟨S1x64, .f32⟩
  | .hbm, ⟨76, _⟩ => ⟨S8x64, .f32⟩
  | .hbm, ⟨77, _⟩ => ⟨S512, .f32⟩
  | .hbm, ⟨78, _⟩ => ⟨S1x64, .f32⟩
  | .hbm, ⟨79, _⟩ => ⟨S2x64, .f32⟩
  | .hbm, ⟨80, _⟩ => ⟨S128, .f32⟩
  | .hbm, ⟨81, _⟩ => ⟨S640, .f32⟩
  | .hbm, ⟨82, _⟩ => ⟨S1x640, .f32⟩
  | .hbm, ⟨83, _⟩ => ⟨S1x1024, .f32⟩
  | .hbm, ⟨84, _⟩ => ⟨S1024x1280, .bf16⟩
  | .hbm, ⟨85, _⟩ => ⟨S8x8192x512, .bf16⟩
  | .hbm, ⟨86, _⟩ => ⟨S8x8192x512, .bf16⟩
  | .hbm, ⟨87, _⟩ => ⟨S8x8192x512, .bf16⟩
  | .hbm, ⟨88, _⟩ => ⟨S8x128x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1280, .bf16⟩
  | .local _ .vmem, ⟨4, _⟩ => ⟨S640x640, .bf16⟩
  | .local _ .vmem, ⟨5, _⟩ => ⟨S1x640, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x128x512, .bf16⟩
  | .local _ .vmem, ⟨17, _⟩ => ⟨S1x128x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_c : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_0 : Ref sig .tc := ⟨.hbm, 65, rfl⟩
abbrev main_call0_v12 : Ref sig .tc := ⟨.hbm, 66, rfl⟩
abbrev main_call0_v13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59_0 : Ref sig .tc := ⟨.hbm, 85, rfl⟩
abbrev main_v59_1 : Ref sig .tc := ⟨.hbm, 86, rfl⟩
abbrev main_v59_2 : Ref sig .tc := ⟨.hbm, 87, rfl⟩
abbrev main_v59_3 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel4Ideal.lean ====
abbrev S8x8192x1024 : Shape := ⟨3, ![8, 8192, 1024]⟩
abbrev S1024 : Shape := ⟨1, ![1024]⟩
abbrev S1024x1280 : Shape := ⟨2, ![1024, 1280]⟩
abbrev S64 : Shape := ⟨1, ![64]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S640 : Shape := ⟨1, ![640]⟩
abbrev S640x1 : Shape := ⟨2, ![640, 1]⟩
abbrev S1x640 : Shape := ⟨2, ![1, 640]⟩
abbrev S640x640 : Shape := ⟨2, ![640, 640]⟩
abbrev S8x64 : Shape := ⟨2, ![8, 64]⟩
abbrev S512 : Shape := ⟨1, ![512]⟩
abbrev S2x64 : Shape := ⟨2, ![2, 64]⟩
abbrev S1x1024 : Shape := ⟨2, ![1, 1024]⟩
abbrev S8x8192x512 : Shape := ⟨3, ![8, 8192, 512]⟩
abbrev S8x128x8192 : Shape := ⟨3, ![8, 128, 8192]⟩
abbrev S1x512x1024 : Shape := ⟨3, ![1, 512, 1024]⟩
abbrev S512x128 : Shape := ⟨2, ![512, 128]⟩
abbrev S1x512x512 : Shape := ⟨3, ![1, 512, 512]⟩
abbrev S1x128x512 : Shape := ⟨3, ![1, 128, 512]⟩
abbrev S512x1024 : Shape := ⟨2, ![512, 1024]⟩
abbrev S512x1 : Shape := ⟨2, ![512, 1]⟩
abbrev S512x1280 : Shape := ⟨2, ![512, 1280]⟩
abbrev S512x512 : Shape := ⟨2, ![512, 512]⟩
abbrev S512x640 : Shape := ⟨2, ![512, 640]⟩
abbrev S1x512x128 : Shape := ⟨3, ![1, 512, 128]⟩
abbrev S128x512 : Shape := ⟨2, ![128, 512]⟩

abbrev nBuf : Space → Nat
  | .hbm => 89
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1280, .f32⟩
  | .hbm, ⟨3, _⟩ => ⟨S64, .f32⟩
  | .hbm, ⟨4, _⟩ => ⟨S64, .f32⟩
  | .hbm, ⟨5, _⟩ => ⟨S128, .i32⟩
  | .hbm, ⟨6, _⟩ => ⟨S128x1, .i32⟩
  | .hbm, ⟨7, _⟩ => ⟨S128x64, .i32⟩
  | .hbm, ⟨8, _⟩ => ⟨S8192, .i32⟩
  | .hbm, ⟨9, _⟩ => ⟨S8192, .f32⟩
  | .hbm, ⟨10, _⟩ => ⟨S64, .i32⟩
  | .hbm, ⟨11, _⟩ => ⟨S1x64, .i32⟩
  | .hbm, ⟨12, _⟩ => ⟨S128x64, .i32⟩
  | .hbm, ⟨13, _⟩ => ⟨S8192, .i32⟩
  | .hbm, ⟨14, _⟩ => ⟨S8192, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S8192x1, .f32⟩
  | .hbm, ⟨30, _⟩ => ⟨S1x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x1, .f32⟩
  | .hbm, ⟨35, _⟩ => ⟨S1x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S1x8192x1x32, .f32⟩
  | .hbm, ⟨43, _⟩ => ⟨S1x8192x4x32, .f32⟩
  | .hbm, ⟨44, _⟩ => ⟨S8192x128, .f32⟩
  | .hbm, ⟨45, _⟩ => ⟨S8192x32, .f32⟩
  | .hbm, ⟨46, _⟩ => ⟨S8192x64, .f32⟩
  | .hbm, ⟨47, _⟩ => ⟨S1x8192x1x64, .f32⟩
  | .hbm, ⟨48, _⟩ => ⟨S1x8192x2x64, .f32⟩
  | .hbm, ⟨49, _⟩ => ⟨S8192x128, .f32⟩
  | .hbm, ⟨50, _⟩ => ⟨S640, .i32⟩
  | .hbm, ⟨51, _⟩ => ⟨S_, .i32⟩
  | .hbm, ⟨52, _⟩ => ⟨S_, .i32⟩
  | .hbm, ⟨53, _⟩ => ⟨S640, .i32⟩
  | .hbm, ⟨54, _⟩ => ⟨S640, .i32⟩
  | .hbm, ⟨55, _⟩ => ⟨S640, .i32⟩
  | .hbm, ⟨56, _⟩ => ⟨S_, .i32⟩
  | .hbm, ⟨57, _⟩ => ⟨S640, .i32⟩
  | .hbm, ⟨58, _⟩ => ⟨S640, .i1⟩
  | .hbm, ⟨59, _⟩ => ⟨S640, .i32⟩
  | .hbm, ⟨60, _⟩ => ⟨S640, .i32⟩
  | .hbm, ⟨61, _⟩ => ⟨S_, .i32⟩
  | .hbm, ⟨62, _⟩ => ⟨S640, .i32⟩
  | .hbm, ⟨63, _⟩ => ⟨S640, .i1⟩
  | .hbm, ⟨64, _⟩ => ⟨S640, .i1⟩
  | .hbm, ⟨65, _⟩ => ⟨S_, .i32⟩
  | .hbm, ⟨66, _⟩ => ⟨S640, .i32⟩
  | .hbm, ⟨67, _⟩ => ⟨S640, .i32⟩
  | .hbm, ⟨68, _⟩ => ⟨S640, .i32⟩
  | .hbm, ⟨69, _⟩ => ⟨S640x1, .i32⟩
  | .hbm, ⟨70, _⟩ => ⟨S1x640, .i32⟩
  | .hbm, ⟨71, _⟩ => ⟨S640x640, .i32⟩
  | .hbm, ⟨72, _⟩ => ⟨S640x640, .i32⟩
  | .hbm, ⟨73, _⟩ => ⟨S640x640, .i1⟩
  | .hbm, ⟨74, _⟩ => ⟨S640x640, .bf16⟩
  | .hbm, ⟨75, _⟩ => ⟨S1x64, .f32⟩
  | .hbm, ⟨76, _⟩ => ⟨S8x64, .f32⟩
  | .hbm, ⟨77, _⟩ => ⟨S512, .f32⟩
  | .hbm, ⟨78, _⟩ => ⟨S1x64, .f32⟩
  | .hbm, ⟨79, _⟩ => ⟨S2x64, .f32⟩
  | .hbm, ⟨80, _⟩ => ⟨S128, .f32⟩
  | .hbm, ⟨81, _⟩ => ⟨S640, .f32⟩
  | .hbm, ⟨82, _⟩ => ⟨S1x640, .f32⟩
  | .hbm, ⟨83, _⟩ => ⟨S1x1024, .f32⟩
  | .hbm, ⟨84, _⟩ => ⟨S1024x1280, .bf16⟩
  | .hbm, ⟨85, _⟩ => ⟨S8x8192x512, .bf16⟩
  | .hbm, ⟨86, _⟩ => ⟨S8x8192x512, .bf16⟩
  | .hbm, ⟨87, _⟩ => ⟨S8x8192x512, .bf16⟩
  | .hbm, ⟨88, _⟩ => ⟨S8x128x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1280, .bf16⟩
  | .local _ .vmem, ⟨4, _⟩ => ⟨S640x640, .bf16⟩
  | .local _ .vmem, ⟨5, _⟩ => ⟨S1x640, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x128x512, .bf16⟩
  | .local _ .vmem, ⟨17, _⟩ => ⟨S1x128x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_c : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_0 : Ref sig .tc := ⟨.hbm, 65, rfl⟩
abbrev main_call0_v12 : Ref sig .tc := ⟨.hbm, 66, rfl⟩
abbrev main_call0_v13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59_0 : Ref sig .tc := ⟨.hbm, 85, rfl⟩
abbrev main_v59_1 : Ref sig .tc := ⟨.hbm, 86, rfl⟩
abbrev main_v59_2 : Ref sig .tc := ⟨.hbm, 87, rfl⟩
abbrev main_v59_3 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x8192x1024 : Shape := ⟨3, ![8, 8192, 1024]⟩
abbrev S1024 : Shape := ⟨1, ![1024]⟩
abbrev S1024x1280 : Shape := ⟨2, ![1024, 1280]⟩
abbrev S64 : Shape := ⟨1, ![64]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8x8192 : Shape := ⟨2, ![8, 8192]⟩
abbrev S8x8192x1 : Shape := ⟨3, ![8, 8192, 1]⟩
abbrev S1x1x1024 : Shape := ⟨3, ![1, 1, 1024]⟩
abbrev S8x8192x1280 : Shape := ⟨3, ![8, 8192, 1280]⟩
abbrev S8x8192x512 : Shape := ⟨3, ![8, 8192, 512]⟩
abbrev S8x8192x8x64 : Shape := ⟨4, ![8, 8192, 8, 64]⟩
abbrev S8x8192x128 : Shape := ⟨3, ![8, 8192, 128]⟩
abbrev S8x8192x2x64 : Shape := ⟨4, ![8, 8192, 2, 64]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S8x8192x8x32 : Shape := ⟨4, ![8, 8192, 8, 32]⟩
abbrev S8192x1x32 : Shape := ⟨3, ![8192, 1, 32]⟩
abbrev S1x8192x1x32 : Shape := ⟨4, ![1, 8192, 1, 32]⟩
abbrev S8x8192x2 : Shape := ⟨3, ![8, 8192, 2]⟩
abbrev S8x8192x2x1 : Shape := ⟨4, ![8, 8192, 2, 1]⟩
abbrev S8x8192x2x32 : Shape := ⟨4, ![8, 8192, 2, 32]⟩
abbrev S8x8192x64 : Shape := ⟨3, ![8, 8192, 64]⟩
abbrev S8x8192x1x64 : Shape := ⟨4, ![8, 8192, 1, 64]⟩
abbrev S8x128x8192 : Shape := ⟨3, ![8, 128, 8192]⟩

abbrev nBuf : Space → Nat
  | .hbm => 155
  | .vmem => 0
  | .smem => 0
  | _ => 0

abbrev hbmTy0_0 (i : Nat) : BufTy := match i % 128 with
  | 0 => ⟨S8x8192x1024, .f32⟩
  | 1 => ⟨S1024, .f32⟩
  | 2 => ⟨S1024x1280, .f32⟩
  | 3 => ⟨S64, .f32⟩
  | 4 => ⟨S64, .f32⟩
  | 5 => ⟨S128, .i32⟩
  | 6 => ⟨S128x1, .i32⟩
  | 7 => ⟨S128x64, .i32⟩
  | 8 => ⟨S8192, .i32⟩
  | 9 => ⟨S8192, .f32⟩
  | 10 => ⟨S64, .i32⟩
  | 11 => ⟨S1x64, .i32⟩
  | 12 => ⟨S128x64, .i32⟩
  | 13 => ⟨S8192, .i32⟩
  | 14 => ⟨S8192, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S8192x1, .f32⟩
  | 30 => ⟨S1x16, .f32⟩
  | 31 => ⟨S8192x16, .f32⟩
  | 32 => ⟨S8192x16, .f32⟩
  | 33 => ⟨S8192x16, .f32⟩
  | 34 => ⟨S8192x1, .f32⟩
  | 35 => ⟨S1x16, .f32⟩
  | 36 => ⟨S8192x16, .f32⟩
  | 37 => ⟨S8192x16, .f32⟩
  | 38 => ⟨S8192x16, .f32⟩
  | 39 => ⟨S8192x32, .f32⟩
  | 40 => ⟨S8192x32, .f32⟩
  | 41 => ⟨S8192x32, .f32⟩
  | 42 => ⟨S8x8192x1024, .f32⟩
  | 43 => ⟨S_, .f32⟩
  | 44 => ⟨S8x8192, .f32⟩
  | 45 => ⟨S8x8192x1, .f32⟩
  | 46 => ⟨S_, .f32⟩
  | 47 => ⟨S8x8192x1, .f32⟩
  | 48 => ⟨S8x8192x1, .f32⟩
  | 49 => ⟨S_, .f32⟩
  | 50 => ⟨S8x8192x1, .f32⟩
  | 51 => ⟨S8x8192x1, .f32⟩
  | 52 => ⟨S8x8192x1, .f32⟩
  | 53 => ⟨S8x8192x1024, .f32⟩
  | 54 => ⟨S8x8192x1024, .f32⟩
  | 55 => ⟨S1x1x1024, .f32⟩
  | 56 => ⟨S8x8192x1024, .f32⟩
  | 57 => ⟨S8x8192x1024, .f32⟩
  | 58 => ⟨S8x8192x1280, .f32⟩
  | 59 => ⟨S8x8192x512, .f32⟩
  | 60 => ⟨S8x8192x512, .f32⟩
  | 61 => ⟨S8x8192x8x64, .f32⟩
  | 62 => ⟨S8x8192x128, .f32⟩
  | 63 => ⟨S8x8192x2x64, .f32⟩
  | 64 => ⟨S8x8192x128, .f32⟩
  | 65 => ⟨S8x8192x8x64, .f32⟩
  | 66 => ⟨S_, .f32⟩
  | 67 => ⟨S8x8192x8, .f32⟩
  | 68 => ⟨S8x8192x8x1, .f32⟩
  | 69 => ⟨S_, .f32⟩
  | 70 => ⟨S8x8192x8x1, .f32⟩
  | 71 => ⟨S8x8192x8x1, .f32⟩
  | 72 => ⟨S_, .f32⟩
  | 73 => ⟨S8x8192x8x1, .f32⟩
  | 74 => ⟨S8x8192x8x1, .f32⟩
  | 75 => ⟨S8x8192x8x1, .f32⟩
  | 76 => ⟨S8x8192x8x64, .f32⟩
  | 77 => ⟨S8x8192x8x64, .f32⟩
  | 78 => ⟨S1x1x1x64, .f32⟩
  | 79 => ⟨S8x8192x8x64, .f32⟩
  | 80 => ⟨S8x8192x8x64, .f32⟩
  | 81 => ⟨S8x8192x8x32, .f32⟩
  | 82 => ⟨S8x8192x8x32, .f32⟩
  | 83 => ⟨S8192x1x32, .f32⟩
  | 84 => ⟨S8192x1x32, .f32⟩
  | 85 => ⟨S1x8192x1x32, .f32⟩
  | 86 => ⟨S8x8192x8x32, .f32⟩
  | 87 => ⟨S8x8192x8x32, .f32⟩
  | 88 => ⟨S1x8192x1x32, .f32⟩
  | 89 => ⟨S8x8192x8x32, .f32⟩
  | 90 => ⟨S8x8192x8x32, .f32⟩
  | 91 => ⟨S8x8192x8x32, .f32⟩
  | 92 => ⟨S1x8192x1x32, .f32⟩
  | 93 => ⟨S8x8192x8x32, .f32⟩
  | 94 => ⟨S8x8192x8x32, .f32⟩
  | 95 => ⟨S1x8192x1x32, .f32⟩
  | 96 => ⟨S8x8192x8x32, .f32⟩
  | 97 => ⟨S8x8192x8x32, .f32⟩
  | 98 => ⟨S8x8192x8x32, .f32⟩
  | 99 => ⟨S8x8192x8x64, .f32⟩
  | 100 => ⟨S_, .f32⟩
  | 101 => ⟨S8x8192x8x64, .f32⟩
  | 102 => ⟨S8x8192x8x64, .f32⟩
  | 103 => ⟨S8x8192x2x64, .f32⟩
  | 104 => ⟨S_, .f32⟩
  | 105 => ⟨S8x8192x2, .f32⟩
  | 106 => ⟨S8x8192x2x1, .f32⟩
  | 107 => ⟨S_, .f32⟩
  | 108 => ⟨S8x8192x2x1, .f32⟩
  | 109 => ⟨S8x8192x2x1, .f32⟩
  | 110 => ⟨S_, .f32⟩
  | 111 => ⟨S8x8192x2x1, .f32⟩
  | 112 => ⟨S8x8192x2x1, .f32⟩
  | 113 => ⟨S8x8192x2x1, .f32⟩
  | 114 => ⟨S8x8192x2x64, .f32⟩
  | 115 => ⟨S8x8192x2x64, .f32⟩
  | 116 => ⟨S1x1x1x64, .f32⟩
  | 117 => ⟨S8x8192x2x64, .f32⟩
  | 118 => ⟨S8x8192x2x64, .f32⟩
  | 119 => ⟨S8x8192x2x32, .f32⟩
  | 120 => ⟨S8x8192x2x32, .f32⟩
  | 121 => ⟨S8192x1x32, .f32⟩
  | 122 => ⟨S8192x1x32, .f32⟩
  | 123 => ⟨S1x8192x1x32, .f32⟩
  | 124 => ⟨S8x8192x2x32, .f32⟩
  | 125 => ⟨S8x8192x2x32, .f32⟩
  | 126 => ⟨S1x8192x1x32, .f32⟩
  | 127 => ⟨S8x8192x2x32, .f32⟩
  | _ => ⟨S8x8192x1024, .f32⟩

abbrev hbmTy0_1 (i : Nat) : BufTy := match i % 128 with
  | 0 => ⟨S8x8192x2x32, .f32⟩
  | 1 => ⟨S8x8192x2x32, .f32⟩
  | 2 => ⟨S1x8192x1x32, .f32⟩
  | 3 => ⟨S8x8192x2x32, .f32⟩
  | 4 => ⟨S8x8192x2x32, .f32⟩
  | 5 => ⟨S1x8192x1x32, .f32⟩
  | 6 => ⟨S8x8192x2x32, .f32⟩
  | 7 => ⟨S8x8192x2x32, .f32⟩
  | 8 => ⟨S8x8192x2x32, .f32⟩
  | 9 => ⟨S8x8192x2x64, .f32⟩
  | 10 => ⟨S_, .f32⟩
  | 11 => ⟨S8x8192x64, .f32⟩
  | 12 => ⟨S8x8192x1x64, .f32⟩
  | 13 => ⟨S8x8192x64, .f32⟩
  | 14 => ⟨S8x8192x1x64, .f32⟩
  | 15 => ⟨S8x8192x64, .f32⟩
  | 16 => ⟨S8x8192x1x64, .f32⟩
  | 17 => ⟨S8x8192x64, .f32⟩
  | 18 => ⟨S8x8192x1x64, .f32⟩
  | 19 => ⟨S8x8192x64, .f32⟩
  | 20 => ⟨S8x8192x512, .f32⟩
  | 21 => ⟨S8x8192x512, .bf16⟩
  | 22 => ⟨S8x8192x512, .f32⟩
  | 23 => ⟨S8x8192x512, .bf16⟩
  | 24 => ⟨S8x8192x512, .bf16⟩
  | 25 => ⟨S8x128x8192, .f32⟩
  | 26 => ⟨S8x128x8192, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_9 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_10 : Ref sig .tc := ⟨.hbm, 104, rfl⟩
abbrev main_v88 : Ref sig .tc := ⟨.hbm, 105, rfl⟩
abbrev main_v89 : Ref sig .tc := ⟨.hbm, 106, rfl⟩
abbrev main_cst_11 : Ref sig .tc := ⟨.hbm, 107, rfl⟩
abbrev main_v90 : Ref sig .tc := ⟨.hbm, 108, rfl⟩
abbrev main_v91 : Ref sig .tc := ⟨.hbm, 109, rfl⟩
abbrev main_cst_12 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_13 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩

abbrev nD : Nat := 1
abbrev τ : Topo := Topo.v7x

variable {F : FTy → Type} [FloatOps F]
-- ==== Kernel5.lean ====
abbrev S1x16384x1024 : Shape := ⟨3, ![1, 16384, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S5x2816 : Shape := ⟨2, ![5, 2816]⟩
abbrev S8x2816 : Shape := ⟨2, ![8, 2816]⟩
abbrev S1x2816 : Shape := ⟨2, ![1, 2816]⟩
abbrev S1x1024 : Shape := ⟨2, ![1, 1024]⟩
abbrev S1x512x1024 : Shape := ⟨3, ![1, 512, 1024]⟩
abbrev S1x16x1024 : Shape := ⟨3, ![1, 16, 1024]⟩
abbrev S512x1024 : Shape := ⟨2, ![512, 1024]⟩
abbrev S16x1024 : Shape := ⟨2, ![16, 1024]⟩
abbrev S544x1024 : Shape := ⟨2, ![544, 1024]⟩
abbrev S512x1 : Shape := ⟨2, ![512, 1]⟩
abbrev S1024x256 : Shape := ⟨2, ![1024, 256]⟩
abbrev S544x256 : Shape := ⟨2, ![544, 256]⟩
abbrev S512x256 : Shape := ⟨2, ![512, 256]⟩
abbrev S1x256 : Shape := ⟨2, ![1, 256]⟩
abbrev S256x1024 : Shape := ⟨2, ![256, 1024]⟩
abbrev S512 : Shape := ⟨1, ![512]⟩

abbrev nBuf : Space → Nat
  | .hbm => 17
  | .vmem => 17
  | .smem => 0
  | _ => 0

abbrev bufTy : (tb : Table) → Fin (tcTables nBuf tb) → BufTy
  | .hbm, ⟨0, _⟩ => ⟨S1x16384x1024, .bf16⟩
  | .hbm, ⟨1, _⟩ => ⟨S1x16384x1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S_, .f32⟩
  | .hbm, ⟨9, _⟩ => ⟨S5x2816, .f32⟩
  | .hbm, ⟨10, _⟩ => ⟨S8x2816, .f32⟩
  | .hbm, ⟨11, _⟩ => ⟨S1024x2816, .bf16⟩
  | .hbm, ⟨12, _⟩ => ⟨S1024x2816, .bf16⟩
  | .hbm, ⟨13, _⟩ => ⟨S1x2816, .f32⟩
  | .hbm, ⟨14, _⟩ => ⟨S2816x1024, .bf16⟩
  | .hbm, ⟨15, _⟩ => ⟨S1x1024, .f32⟩
  | .hbm, ⟨16, _⟩ => ⟨S1x16384x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1024x2816, .bf16⟩
  | .local _ .vmem, ⟨9, _⟩ => ⟨S1024x2816, .bf16⟩
  | .local _ .vmem, ⟨10, _⟩ => ⟨S8x2816, .f32⟩
  | .local _ .vmem, ⟨11, _⟩ => ⟨S1x2816, .f32⟩
  | .local _ .vmem, ⟨12, _⟩ => ⟨S2816x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x1024, .f32⟩
  | _, _ => ⟨S1x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S1x16384x1024 : Shape := ⟨3, ![1, 16384, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x16384x2816 : Shape := ⟨3, ![1, 16384, 2816]⟩
abbrev S_ : Shape := ⟨0, ![]⟩
abbrev S1x16386x2816 : Shape := ⟨3, ![1, 16386, 2816]⟩
abbrev S1x2816 : Shape := ⟨2, ![1, 2816]⟩
abbrev S1x1x2816 : Shape := ⟨3, ![1, 1, 2816]⟩
abbrev S1x16384 : Shape := ⟨2, ![1, 16384]⟩
abbrev S1x16384x1 : Shape := ⟨3, ![1, 16384, 1]⟩
abbrev S1x1x1024 : Shape := ⟨3, ![1, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S1x16384x1024, .bf16⟩
  | .hbm, ⟨1, _⟩ => ⟨S1x16384x1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1x16384x1024, .f32⟩
  | .hbm, ⟨9, _⟩ => ⟨S1x16384x2816, .f32⟩
  | .hbm, ⟨10, _⟩ => ⟨S_, .i32⟩
  | .hbm, ⟨11, _⟩ => ⟨S_, .f32⟩
  | .hbm, ⟨12, _⟩ => ⟨S1x16386x2816, .f32⟩
  | .hbm, ⟨13, _⟩ => ⟨S1x16384x2816, .f32⟩
  | .hbm, ⟨14, _⟩ => ⟨S1x2816, .f32⟩
  | .hbm, ⟨15, _⟩ => ⟨S2816, .f32⟩
  | .hbm, ⟨16, _⟩ => ⟨S1x1x2816, .f32⟩
  | .hbm, ⟨17, _⟩ => ⟨S1x16384x2816, .f32⟩
  | .hbm, ⟨18, _⟩ => ⟨S1x16384x2816, .f32⟩
  | .hbm, ⟨19, _⟩ => ⟨S1x1x2816, .f32⟩
  | .hbm, ⟨20, _⟩ => ⟨S1x16384x2816, .f32⟩
  | .hbm, ⟨21, _⟩ => ⟨S1x16384x2816, .f32⟩
  | .hbm, ⟨22, _⟩ => ⟨S1x16384x2816, .f32⟩
  | .hbm, ⟨23, _⟩ => ⟨S1x2816, .f32⟩
  | .hbm, ⟨24, _⟩ => ⟨S2816, .f32⟩
  | .hbm, ⟨25, _⟩ => ⟨S1x1x2816, .f32⟩
  | .hbm, ⟨26, _⟩ => ⟨S1x16384x2816, .f32⟩
  | .hbm, ⟨27, _⟩ => ⟨S1x16384x2816, .f32⟩
  | .hbm, ⟨28, _⟩ => ⟨S1x16384x2816, .f32⟩
  | .hbm, ⟨29, _⟩ => ⟨S1x16384x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S1x16384x2816, .f32⟩
  | .hbm, ⟨34, _⟩ => ⟨S1x16384x2816, .f32⟩
  | .hbm, ⟨35, _⟩ => ⟨S1x16384x2816, .f32⟩
  | .hbm, ⟨36, _⟩ => ⟨S1x16384x2816, .f32⟩
  | .hbm, ⟨37, _⟩ => ⟨S1x16384x2816, .f32⟩
  | .hbm, ⟨38, _⟩ => ⟨S_, .f32⟩
  | .hbm, ⟨39, _⟩ => ⟨S1x16384x2816, .f32⟩
  | .hbm, ⟨40, _⟩ => ⟨S1x16384x2816, .f32⟩
  | .hbm, ⟨41, _⟩ => ⟨S_, .f32⟩
  | .hbm, ⟨42, _⟩ => ⟨S1x16384x2816, .f32⟩
  | .hbm, ⟨43, _⟩ => ⟨S1x16384x2816, .f32⟩
  | .hbm, ⟨44, _⟩ => ⟨S1x16384x2816, .f32⟩
  | .hbm, ⟨45, _⟩ => ⟨S1x16384x2816, .f32⟩
  | .hbm, ⟨46, _⟩ => ⟨S1x16384x2816, .f32⟩
  | .hbm, ⟨47, _⟩ => ⟨S1x16384x1024, .f32⟩
  | .hbm, ⟨48, _⟩ => ⟨S1x16384x1024, .f32⟩
  | .hbm, ⟨49, _⟩ => ⟨S1x16384x1024, .f32⟩
  | .hbm, ⟨50, _⟩ => ⟨S_, .f32⟩
  | .hbm, ⟨51, _⟩ => ⟨S1x16384, .f32⟩
  | .hbm, ⟨52, _⟩ => ⟨S1x16384x1, .f32⟩
  | .hbm, ⟨53, _⟩ => ⟨S_, .f32⟩
  | .hbm, ⟨54, _⟩ => ⟨S1x16384x1, .f32⟩
  | .hbm, ⟨55, _⟩ => ⟨S1x16384x1, .f32⟩
  | .hbm, ⟨56, _⟩ => ⟨S_, .f32⟩
  | .hbm, ⟨57, _⟩ => ⟨S1x16384x1, .f32⟩
  | .hbm, ⟨58, _⟩ => ⟨S1x16384x1, .f32⟩
  | .hbm, ⟨59, _⟩ => ⟨S1x16384x1, .f32⟩
  | .hbm, ⟨60, _⟩ => ⟨S1x16384x1024, .f32⟩
  | .hbm, ⟨61, _⟩ => ⟨S1x16384x1024, .f32⟩
  | .hbm, ⟨62, _⟩ => ⟨S1x1x1024, .f32⟩
  | .hbm, ⟨63, _⟩ => ⟨S1x16384x1024, .f32⟩
  | .hbm, ⟨64, _⟩ => ⟨S1x16384x1024, .f32⟩
  | _, _ => ⟨S1x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst : Ref sig .tc := ⟨.hbm, 50, rfl⟩
abbrev main_v32 : Ref sig .tc := ⟨.hbm, 51, rfl⟩
abbrev main_v33 : Ref sig .tc := ⟨.hbm, 52, rfl⟩
abbrev main_cst_0 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel6.lean ====
abbrev S1x16384x1024 : Shape := ⟨3, ![1, 16384, 1024]⟩
abbrev S1x16384x512 : Shape := ⟨3, ![1, 16384, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S512x1024 : Shape := ⟨2, ![512, 1024]⟩
abbrev S1x1024 : Shape := ⟨2, ![1, 1024]⟩
abbrev S1x512x1024 : Shape := ⟨3, ![1, 512, 1024]⟩
abbrev S1x512x512 : Shape := ⟨3, ![1, 512, 512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .bf16⟩
  | .hbm, ⟨2, _⟩ => ⟨S1x16384x512, .bf16⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S512x512, .bf16⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1x1024, .f32⟩
  | .hbm, ⟨18, _⟩ => ⟨S1x16384x1024, .f32⟩
  | .hbm, ⟨19, _⟩ => ⟨S1x16384x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .bf16⟩
  | .local _ .vmem, ⟨16, _⟩ => ⟨S1x512x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S1x16384x1024 : Shape := ⟨3, ![1, 16384, 1024]⟩
abbrev S1x16384x512 : Shape := ⟨3, ![1, 16384, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S_ : Shape := ⟨0, ![]⟩
abbrev S1x1x512 : Shape := ⟨3, ![1, 1, 512]⟩
abbrev S1x16384 : Shape := ⟨2, ![1, 16384]⟩
abbrev S1x16384x1 : Shape := ⟨3, ![1, 16384, 1]⟩
abbrev S1x1x1024 : Shape := ⟨3, ![1, 1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .bf16⟩
  | .hbm, ⟨2, _⟩ => ⟨S1x16384x512, .bf16⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1x16384x512, .f32⟩
  | .hbm, ⟨10, _⟩ => ⟨S1x16384x512, .f32⟩
  | .hbm, ⟨11, _⟩ => ⟨S1x16384x512, .f32⟩
  | .hbm, ⟨12, _⟩ => ⟨S_, .f32⟩
  | .hbm, ⟨13, _⟩ => ⟨S1x16384x512, .f32⟩
  | .hbm, ⟨14, _⟩ => ⟨S1x16384x512, .f32⟩
  | .hbm, ⟨15, _⟩ => ⟨S1x16384x512, .f32⟩
  | .hbm, ⟨16, _⟩ => ⟨S_, .f32⟩
  | .hbm, ⟨17, _⟩ => ⟨S1x16384x512, .f32⟩
  | .hbm, ⟨18, _⟩ => ⟨S1x16384x512, .f32⟩
  | .hbm, ⟨19, _⟩ => ⟨S1x16384x512, .f32⟩
  | .hbm, ⟨20, _⟩ => ⟨S_, .f32⟩
  | .hbm, ⟨21, _⟩ => ⟨S1x16384x512, .f32⟩
  | .hbm, ⟨22, _⟩ => ⟨S1x16384x512, .f32⟩
  | .hbm, ⟨23, _⟩ => ⟨S_, .f32⟩
  | .hbm, ⟨24, _⟩ => ⟨S1x16384x512, .f32⟩
  | .hbm, ⟨25, _⟩ => ⟨S1x16384x512, .f32⟩
  | .hbm, ⟨26, _⟩ => ⟨S1x16384x512, .f32⟩
  | .hbm, ⟨27, _⟩ => ⟨S1x16384x512, .f32⟩
  | .hbm, ⟨28, _⟩ => ⟨S1x1x512, .f32⟩
  | .hbm, ⟨29, _⟩ => ⟨S1x16384x512, .f32⟩
  | .hbm, ⟨30, _⟩ => ⟨S1x16384x512, .f32⟩
  | .hbm, ⟨31, _⟩ => ⟨S1x16384x512, .f32⟩
  | .hbm, ⟨32, _⟩ => ⟨S1x16384x512, .f32⟩
  | .hbm, ⟨33, _⟩ => ⟨S_, .f32⟩
  | .hbm, ⟨34, _⟩ => ⟨S1x16384x512, .f32⟩
  | .hbm, ⟨35, _⟩ => ⟨S1x16384x512, .f32⟩
  | .hbm, ⟨36, _⟩ => ⟨S_, .f32⟩
  | .hbm, ⟨37, _⟩ => ⟨S1x16384x512, .f32⟩
  | .hbm, ⟨38, _⟩ => ⟨S1x16384x512, .f32⟩
  | .hbm, ⟨39, _⟩ => ⟨S1x16384x512, .f32⟩
  | .hbm, ⟨40, _⟩ => ⟨S1x16384x512, .f32⟩
  | .hbm, ⟨41, _⟩ => ⟨S_, .f32⟩
  | .hbm, ⟨42, _⟩ => ⟨S1x16384, .f32⟩
  | .hbm, ⟨43, _⟩ => ⟨S1x16384x1, .f32⟩
  | .hbm, ⟨44, _⟩ => ⟨S_, .f32⟩
  | .hbm, ⟨45, _⟩ => ⟨S1x16384x1, .f32⟩
  | .hbm, ⟨46, _⟩ => ⟨S1x16384x1, .f32⟩
  | .hbm, ⟨47, _⟩ => ⟨S_, .f32⟩
  | .hbm, ⟨48, _⟩ => ⟨S1x16384x1, .f32⟩
  | .hbm, ⟨49, _⟩ => ⟨S1x16384x1, .f32⟩
  | .hbm, ⟨50, _⟩ => ⟨S1x16384x1, .f32⟩
  | .hbm, ⟨51, _⟩ => ⟨S1x16384x512, .f32⟩
  | .hbm, ⟨52, _⟩ => ⟨S1x16384x512, .f32⟩
  | .hbm, ⟨53, _⟩ => ⟨S1x1x512, .f32⟩
  | .hbm, ⟨54, _⟩ => ⟨S1x16384x512, .f32⟩
  | .hbm, ⟨55, _⟩ => ⟨S1x16384x512, .f32⟩
  | .hbm, ⟨56, _⟩ => ⟨S1x16384x512, .f32⟩
  | .hbm, ⟨57, _⟩ => ⟨S1x16384x512, .f32⟩
  | .hbm, ⟨58, _⟩ => ⟨S_, .f32⟩
  | .hbm, ⟨59, _⟩ => ⟨S1x16384, .f32⟩
  | .hbm, ⟨60, _⟩ => ⟨S1x16384x1, .f32⟩
  | .hbm, ⟨61, _⟩ => ⟨S_, .f32⟩
  | .hbm, ⟨62, _⟩ => ⟨S1x16384x1, .f32⟩
  | .hbm, ⟨63, _⟩ => ⟨S1x16384x1, .f32⟩
  | .hbm, ⟨64, _⟩ => ⟨S_, .f32⟩
  | .hbm, ⟨65, _⟩ => ⟨S1x16384x1, .f32⟩
  | .hbm, ⟨66, _⟩ => ⟨S1x16384x1, .f32⟩
  | .hbm, ⟨67, _⟩ => ⟨S1x16384x1, .f32⟩
  | .hbm, ⟨68, _⟩ => ⟨S1x16384x512, .f32⟩
  | .hbm, ⟨69, _⟩ => ⟨S1x16384x512, .f32⟩
  | .hbm, ⟨70, _⟩ => ⟨S1x1x512, .f32⟩
  | .hbm, ⟨71, _⟩ => ⟨S1x16384x512, .f32⟩
  | .hbm, ⟨72, _⟩ => ⟨S1x16384x512, .f32⟩
  | .hbm, ⟨73, _⟩ => ⟨S1x16384x1024, .f32⟩
  | .hbm, ⟨74, _⟩ => ⟨S1x16384x1024, .f32⟩
  | .hbm, ⟨75, _⟩ => ⟨S1x16384x1024, .f32⟩
  | .hbm, ⟨76, _⟩ => ⟨S1x16384x1024, .f32⟩
  | .hbm, ⟨77, _⟩ => ⟨S_, .f32⟩
  | .hbm, ⟨78, _⟩ => ⟨S1x16384, .f32⟩
  | .hbm, ⟨79, _⟩ => ⟨S1x16384x1, .f32⟩
  | .hbm, ⟨80, _⟩ => ⟨S_, .f32⟩
  | .hbm, ⟨81, _⟩ => ⟨S1x16384x1, .f32⟩
  | .hbm, ⟨82, _⟩ => ⟨S1x16384x1, .f32⟩
  | .hbm, ⟨83, _⟩ => ⟨S_, .f32⟩
  | .hbm, ⟨84, _⟩ => ⟨S1x16384x1, .f32⟩
  | .hbm, ⟨85, _⟩ => ⟨S1x16384x1, .f32⟩
  | .hbm, ⟨86, _⟩ => ⟨S1x16384x1, .f32⟩
  | .hbm, ⟨87, _⟩ => ⟨S1x16384x1024, .f32⟩
  | .hbm, ⟨88, _⟩ => ⟨S1x16384x1024, .f32⟩
  | .hbm, ⟨89, _⟩ => ⟨S1x1x1024, .f32⟩
  | .hbm, ⟨90, _⟩ => ⟨S1x16384x1024, .f32⟩
  | .hbm, ⟨91, _⟩ => ⟨S1x16384x1024, .f32⟩
  | .hbm, ⟨92, _⟩ => ⟨S1x16384x1024, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel7.lean ====
abbrev S1x16384x512 : Shape := ⟨3, ![1, 16384, 512]⟩
abbrev S1x16384x128 : Shape := ⟨3, ![1, 16384, 128]⟩
abbrev S_ : Shape := ⟨0, ![]⟩
abbrev S1x16384x64 : Shape := ⟨3, ![1, 16384, 64]⟩
abbrev S1x128x16384 : Shape := ⟨3, ![1, 128, 16384]⟩
abbrev S1x512x128 : Shape := ⟨3, ![1, 512, 128]⟩
abbrev S1x64x16384 : Shape := ⟨3, ![1, 64, 16384]⟩
abbrev S2x1x512 : Shape := ⟨3, ![2, 1, 512]⟩
abbrev S2x64x512 : Shape := ⟨3, ![2, 64, 512]⟩
abbrev S512x128 : Shape := ⟨2, ![512, 128]⟩
abbrev S1x64x512 : Shape := ⟨3, ![1, 64, 512]⟩
abbrev S64x512 : Shape := ⟨2, ![64, 512]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S128x512 : Shape := ⟨2, ![128, 512]⟩

abbrev nBuf : Space → Nat
  | .hbm => 16
  | .vmem => 13
  | .smem => 0
  | _ => 0

abbrev bufTy : (tb : Table) → Fin (tcTables nBuf tb) → BufTy
  | .hbm, ⟨0, _⟩ => ⟨S1x16384x512, .f32⟩
  | .hbm, ⟨1, _⟩ => ⟨S1x16384x128, .f32⟩
  | .hbm, ⟨2, _⟩ => ⟨S1x16384x128, .f32⟩
  | .hbm, ⟨3, _⟩ => ⟨S_, .f32⟩
  | .hbm, ⟨4, _⟩ => ⟨S1x16384x512, .f32⟩
  | .hbm, ⟨5, _⟩ => ⟨S1x16384x512, .f32⟩
  | .hbm, ⟨6, _⟩ => ⟨S1x16384x512, .bf16⟩
  | .hbm, ⟨7, _⟩ => ⟨S_, .f32⟩
  | .hbm, ⟨8, _⟩ => ⟨S1x16384x64, .f32⟩
  | .hbm, ⟨9, _⟩ => ⟨S1x16384x64, .f32⟩
  | .hbm, ⟨10, _⟩ => ⟨S1x16384x64, .f32⟩
  | .hbm, ⟨11, _⟩ => ⟨S1x16384x512, .f32⟩
  | .hbm, ⟨12, _⟩ => ⟨S1x16384x512, .bf16⟩
  | .hbm, ⟨13, _⟩ => ⟨S1x128x16384, .f32⟩
  | .hbm, ⟨14, _⟩ => ⟨S1x128x16384, .bf16⟩
  | .hbm, ⟨15, _⟩ => ⟨S1x16384x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x64x16384, .bf16⟩
  | .local _ .vmem, ⟨7, _⟩ => ⟨S1x64x16384, .bf16⟩
  | .local _ .vmem, ⟨8, _⟩ => ⟨S1x512x128, .bf16⟩
  | .local _ .vmem, ⟨9, _⟩ => ⟨S1x512x128, .bf16⟩
  | .local _ .vmem, ⟨10, _⟩ => ⟨S2x1x512, .f32⟩
  | .local _ .vmem, ⟨11, _⟩ => ⟨S2x1x512, .f32⟩
  | .local _ .vmem, ⟨12, _⟩ => ⟨S2x64x512, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 4, 32], ![false, false, false]⟩

@[reducible] def k0_t1_loop : Scf.Loop 32 :=
  let c0_i32 : BitVec 32 := 0#32
  let c32_i32 : BitVec 32 := 32#32
  let v14 : BitVec 32 := Scalar.addi c0_i32 c32_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v33 : BitVec 32 := Scalar.muli arg11 c512_i32
  v33
def k0_off1 (k0_t1 : Fin k0_t1_loop.trips) : Fin 3 → Nat :=
  let c0_28 : Index := 0#32
  let c0_29 : Index := 0#32
  let c0_i32 : BitVec 32 := 0#32
  let c1_i32 : BitVec 32 := 1#32
  let arg11 : BitVec 32 := Scf.iv c0_i32 c1_i32 k0_t1
  let c512_i32 : BitVec 32 := 512#32
  let v33 : BitVec 32 := Scalar.muli arg11 c512_i32
  let v34 : BitVec 32 := v33
  let v35 : Index := Scalar.indexCast v34
  ![0, 0, v35.toNat]
def k0_off2 (k0_t1 : Fin k0_t1_loop.trips) : Fin 3 → Nat :=
  let c0_30 : Index := 0#32
  let c0_i32 : BitVec 32 := 0#32
  let c1_i32 : BitVec 32 := 1#32
  let arg11 : BitVec 32 := Scf.iv c0_i32 c1_i32 k0_t1
  let c512_i32 : BitVec 32 := 512#32
  let v33 : BitVec 32 := Scalar.muli arg11 c512_i32
  let v34 : BitVec 32 := v33
  let v38 : Index := Scalar.indexCast v34
  let c0_31 : Index := 0#32
  ![0, v38.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c0_i32_5 : BitVec 32 := 0#32
  let c0_i32_6 : BitVec 32 := 0#32
  ![arg0.toNat, c0_i32_5.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c1_i32_5 : BitVec 32 := 1#32
  let v18 : BitVec 32 := Scalar.addi v17 c1_i32_5
  let c0_i32_6 : BitVec 32 := 0#32
  let c0_i32_7 : BitVec 32 := 0#32
  ![arg0.toNat, c0_i32_6.toNat, v18.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference7Ideal.lean ====
abbrev S1x16384x512 : Shape := ⟨3, ![1, 16384, 512]⟩
abbrev S1x16384x128 : Shape := ⟨3, ![1, 16384, 128]⟩
abbrev S1x16384x2x4x64 : Shape := ⟨5, ![1, 16384, 2, 4, 64]⟩
abbrev S1x16384x2x64 : Shape := ⟨4, ![1, 16384, 2, 64]⟩
abbrev S1x2x16384x16384x4 : Shape := ⟨5, ![1, 2, 16384, 16384, 4]⟩
abbrev S1x2x4x16384x16384 : Shape := ⟨5, ![1, 2, 4, 16384, 16384]⟩
abbrev S_ : Shape := ⟨0, ![]⟩
abbrev S1x2x4x16384 : Shape := ⟨4, ![1, 2, 4, 16384]⟩
abbrev S1x2x4x16384x1 : Shape := ⟨5, ![1, 2, 4, 16384, 1]⟩
abbrev S1x2x64x4x16384 : Shape := ⟨5, ![1, 2, 64, 4, 16384]⟩

abbrev nBuf : Space → Nat
  | .hbm => 29
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x128, .f32⟩
  | .hbm, ⟨2, _⟩ => ⟨S1x16384x128, .f32⟩
  | .hbm, ⟨3, _⟩ => ⟨S1x16384x2x4x64, .f32⟩
  | .hbm, ⟨4, _⟩ => ⟨S1x16384x2x64, .f32⟩
  | .hbm, ⟨5, _⟩ => ⟨S1x16384x2x64, .f32⟩
  | .hbm, ⟨6, _⟩ => ⟨S1x2x16384x16384x4, .f32⟩
  | .hbm, ⟨7, _⟩ => ⟨S1x2x4x16384x16384, .f32⟩
  | .hbm, ⟨8, _⟩ => ⟨S_, .f32⟩
  | .hbm, ⟨9, _⟩ => ⟨S1x2x4x16384x16384, .f32⟩
  | .hbm, ⟨10, _⟩ => ⟨S1x2x4x16384x16384, .f32⟩
  | .hbm, ⟨11, _⟩ => ⟨S_, .f32⟩
  | .hbm, ⟨12, _⟩ => ⟨S1x2x4x16384, .f32⟩
  | .hbm, ⟨13, _⟩ => ⟨S_, .f32⟩
  | .hbm, ⟨14, _⟩ => ⟨S1x2x4x16384, .f32⟩
  | .hbm, ⟨15, _⟩ => ⟨S1x2x4x16384, .f32⟩
  | .hbm, ⟨16, _⟩ => ⟨S1x2x4x16384x1, .f32⟩
  | .hbm, ⟨17, _⟩ => ⟨S1x2x4x16384x16384, .f32⟩
  | .hbm, ⟨18, _⟩ => ⟨S1x2x4x16384x16384, .f32⟩
  | .hbm, ⟨19, _⟩ => ⟨S1x2x4x16384x16384, .f32⟩
  | .hbm, ⟨20, _⟩ => ⟨S_, .f32⟩
  | .hbm, ⟨21, _⟩ => ⟨S1x2x4x16384, .f32⟩
  | .hbm, ⟨22, _⟩ => ⟨S1x2x4x16384x1, .f32⟩
  | .hbm, ⟨23, _⟩ => ⟨S1x2x4x16384x16384, .f32⟩
  | .hbm, ⟨24, _⟩ => ⟨S1x2x4x16384x16384, .f32⟩
  | .hbm, ⟨25, _⟩ => ⟨S1x2x64x4x16384, .f32⟩
  | .hbm, ⟨26, _⟩ => ⟨S1x16384x2x4x64, .f32⟩
  | .hbm, ⟨27, _⟩ => ⟨S1x16384x512, .f32⟩
  | .hbm, ⟨28, _⟩ => ⟨S1x16384x512, .bf16⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel8.lean ====
abbrev S1x16384x1024 : Shape := ⟨3, ![1, 16384, 1024]⟩
abbrev S1024 : Shape := ⟨1, ![1024]⟩
abbrev S1024x1280 : Shape := ⟨2, ![1024, 1280]⟩
abbrev S64 : Shape := ⟨1, ![64]⟩
abbrev S256 : Shape := ⟨1, ![256]⟩
abbrev S256x1 : Shape := ⟨2, ![256, 1]⟩
abbrev S256x64 : Shape := ⟨2, ![256, 64]⟩
abbrev S16384 : Shape := ⟨1, ![16384]⟩
abbrev S1x64 : Shape := ⟨2, ![1, 64]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S640 : Shape := ⟨1, ![640]⟩
abbrev S640x1 : Shape := ⟨2, ![640, 1]⟩
abbrev S1x640 : Shape := ⟨2, ![1, 640]⟩
abbrev S640x640 : Shape := ⟨2, ![640, 640]⟩
abbrev S8x64 : Shape := ⟨2, ![8, 64]⟩
abbrev S512 : Shape := ⟨1, ![512]⟩
abbrev S2x64 : Shape := ⟨2, ![2, 64]⟩
abbrev S128 : Shape := ⟨1, ![128]⟩
abbrev S1x1024 : Shape := ⟨2, ![1, 1024]⟩
abbrev S1x16384x512 : Shape := ⟨3, ![1, 16384, 512]⟩
abbrev S1x128x16384 : Shape := ⟨3, ![1, 128, 16384]⟩
abbrev S1x512x1024 : Shape := ⟨3, ![1, 512, 1024]⟩
abbrev S512x128 : Shape := ⟨2, ![512, 128]⟩
abbrev S1x512x512 : Shape := ⟨3, ![1, 512, 512]⟩
abbrev S1x128x512 : Shape := ⟨3, ![1, 128, 512]⟩
abbrev S512x1024 : Shape := ⟨2, ![512, 1024]⟩
abbrev S512x1 : Shape := ⟨2, ![512, 1]⟩
abbrev S512x1280 : Shape := ⟨2, ![512, 1280]⟩
abbrev S512x512 : Shape := ⟨2, ![512, 512]⟩
abbrev S512x640 : Shape := ⟨2, ![512, 640]⟩
abbrev S1x512x128 : Shape := ⟨3, ![1, 512, 128]⟩
abbrev S128x512 : Shape := ⟨2, ![128, 512]⟩

abbrev nBuf : Space → Nat
  | .hbm => 89
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x1280, .f32⟩
  | .hbm, ⟨3, _⟩ => ⟨S64, .f32⟩
  | .hbm, ⟨4, _⟩ => ⟨S64, .f32⟩
  | .hbm, ⟨5, _⟩ => ⟨S256, .i32⟩
  | .hbm, ⟨6, _⟩ => ⟨S256x1, .i32⟩
  | .hbm, ⟨7, _⟩ => ⟨S256x64, .i32⟩
  | .hbm, ⟨8, _⟩ => ⟨S16384, .i32⟩
  | .hbm, ⟨9, _⟩ => ⟨S16384, .f32⟩
  | .hbm, ⟨10, _⟩ => ⟨S64, .i32⟩
  | .hbm, ⟨11, _⟩ => ⟨S1x64, .i32⟩
  | .hbm, ⟨12, _⟩ => ⟨S256x64, .i32⟩
  | .hbm, ⟨13, _⟩ => ⟨S16384, .i32⟩
  | .hbm, ⟨14, _⟩ => ⟨S16384, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S16384x1, .f32⟩
  | .hbm, ⟨30, _⟩ => ⟨S1x16, .f32⟩
  | .hbm, ⟨31, _⟩ => ⟨S16384x16, .f32⟩
  | .hbm, ⟨32, _⟩ => ⟨S16384x16, .f32⟩
  | .hbm, ⟨33, _⟩ => ⟨S16384x16, .f32⟩
  | .hbm, ⟨34, _⟩ => ⟨S16384x1, .f32⟩
  | .hbm, ⟨35, _⟩ => ⟨S1x16, .f32⟩
  | .hbm, ⟨36, _⟩ => ⟨S16384x16, .f32⟩
  | .hbm, ⟨37, _⟩ => ⟨S16384x16, .f32⟩
  | .hbm, ⟨38, _⟩ => ⟨S16384x16, .f32⟩
  | .hbm, ⟨39, _⟩ => ⟨S16384x32, .f32⟩
  | .hbm, ⟨40, _⟩ => ⟨S16384x32, .f32⟩
  | .hbm, ⟨41, _⟩ => ⟨S16384x32, .f32⟩
  | .hbm, ⟨42, _⟩ => ⟨S1x16384x1x32, .f32⟩
  | .hbm, ⟨43, _⟩ => ⟨S1x16384x4x32, .f32⟩
  | .hbm, ⟨44, _⟩ => ⟨S16384x128, .f32⟩
  | .hbm, ⟨45, _⟩ => ⟨S16384x32, .f32⟩
  | .hbm, ⟨46, _⟩ => ⟨S16384x64, .f32⟩
  | .hbm, ⟨47, _⟩ => ⟨S1x16384x1x64, .f32⟩
  | .hbm, ⟨48, _⟩ => ⟨S1x16384x2x64, .f32⟩
  | .hbm, ⟨49, _⟩ => ⟨S16384x128, .f32⟩
  | .hbm, ⟨50, _⟩ => ⟨S640, .i32⟩
  | .hbm, ⟨51, _⟩ => ⟨S_, .i32⟩
  | .hbm, ⟨52, _⟩ => ⟨S_, .i32⟩
  | .hbm, ⟨53, _⟩ => ⟨S640, .i32⟩
  | .hbm, ⟨54, _⟩ => ⟨S640, .i32⟩
  | .hbm, ⟨55, _⟩ => ⟨S640, .i32⟩
  | .hbm, ⟨56, _⟩ => ⟨S_, .i32⟩
  | .hbm, ⟨57, _⟩ => ⟨S640, .i32⟩
  | .hbm, ⟨58, _⟩ => ⟨S640, .i1⟩
  | .hbm, ⟨59, _⟩ => ⟨S640, .i32⟩
  | .hbm, ⟨60, _⟩ => ⟨S640, .i32⟩
  | .hbm, ⟨61, _⟩ => ⟨S_, .i32⟩
  | .hbm, ⟨62, _⟩ => ⟨S640, .i32⟩
  | .hbm, ⟨63, _⟩ => ⟨S640, .i1⟩
  | .hbm, ⟨64, _⟩ => ⟨S640, .i1⟩
  | .hbm, ⟨65, _⟩ => ⟨S_, .i32⟩
  | .hbm, ⟨66, _⟩ => ⟨S640, .i32⟩
  | .hbm, ⟨67, _⟩ => ⟨S640, .i32⟩
  | .hbm, ⟨68, _⟩ => ⟨S640, .i32⟩
  | .hbm, ⟨69, _⟩ => ⟨S640x1, .i32⟩
  | .hbm, ⟨70, _⟩ => ⟨S1x640, .i32⟩
  | .hbm, ⟨71, _⟩ => ⟨S640x640, .i32⟩
  | .hbm, ⟨72, _⟩ => ⟨S640x640, .i32⟩
  | .hbm, ⟨73, _⟩ => ⟨S640x640, .i1⟩
  | .hbm, ⟨74, _⟩ => ⟨S640x640, .bf16⟩
  | .hbm, ⟨75, _⟩ => ⟨S1x64, .f32⟩
  | .hbm, ⟨76, _⟩ => ⟨S8x64, .f32⟩
  | .hbm, ⟨77, _⟩ => ⟨S512, .f32⟩
  | .hbm, ⟨78, _⟩ => ⟨S1x64, .f32⟩
  | .hbm, ⟨79, _⟩ => ⟨S2x64, .f32⟩
  | .hbm, ⟨80, _⟩ => ⟨S128, .f32⟩
  | .hbm, ⟨81, _⟩ => ⟨S640, .f32⟩
  | .hbm, ⟨82, _⟩ => ⟨S1x640, .f32⟩
  | .hbm, ⟨83, _⟩ => ⟨S1x1024, .f32⟩
  | .hbm, ⟨84, _⟩ => ⟨S1024x1280, .bf16⟩
  | .hbm, ⟨85, _⟩ => ⟨S1x16384x512, .bf16⟩
  | .hbm, ⟨86, _⟩ => ⟨S1x16384x512, .bf16⟩
  | .hbm, ⟨87, _⟩ => ⟨S1x16384x512, .bf16⟩
  | .hbm, ⟨88, _⟩ => ⟨S1x128x16384, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1280, .bf16⟩
  | .local _ .vmem, ⟨4, _⟩ => ⟨S640x640, .bf16⟩
  | .local _ .vmem, ⟨5, _⟩ => ⟨S1x640, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x128x512, .bf16⟩
  | .local _ .vmem, ⟨17, _⟩ => ⟨S1x128x512, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_c : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_0 : Ref sig .tc := ⟨.hbm, 65, rfl⟩
abbrev main_call0_v12 : Ref sig .tc := ⟨.hbm, 66, rfl⟩
abbrev main_call0_v13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59_0 : Ref sig .tc := ⟨.hbm, 85, rfl⟩
abbrev main_v59_1 : Ref sig .tc := ⟨.hbm, 86, rfl⟩
abbrev main_v59_2 : Ref sig .tc := ⟨.hbm, 87, rfl⟩
abbrev main_v59_3 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference8Ideal.lean ====
abbrev S1x16384x1024 : Shape := ⟨3, ![1, 16384, 1024]⟩
abbrev S1024 : Shape := ⟨1, ![1024]⟩
abbrev S1024x1280 : Shape := ⟨2, ![1024, 1280]⟩
abbrev S64 : Shape := ⟨1, ![64]⟩
abbrev S256 : Shape := ⟨1, ![256]⟩
abbrev S256x1 : Shape := ⟨2, ![256, 1]⟩
abbrev S256x64 : Shape := ⟨2, ![256, 64]⟩
abbrev S16384 : Shape := ⟨1, ![16384]⟩
abbrev S1x64 : Shape := ⟨2, ![1, 64]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S1x16384 : Shape := ⟨2, ![1, 16384]⟩
abbrev S1x16384x1 : Shape := ⟨3, ![1, 16384, 1]⟩
abbrev S1x1x1024 : Shape := ⟨3, ![1, 1, 1024]⟩
abbrev S1x16384x1280 : Shape := ⟨3, ![1, 16384, 1280]⟩
abbrev S1x16384x512 : Shape := ⟨3, ![1, 16384, 512]⟩
abbrev S1x16384x8x64 : Shape := ⟨4, ![1, 16384, 8, 64]⟩
abbrev S1x16384x128 : Shape := ⟨3, ![1, 16384, 128]⟩
abbrev S1x16384x2x64 : Shape := ⟨4, ![1, 16384, 2, 64]⟩
abbrev S1x16384x8 : Shape := ⟨3, ![1, 16384, 8]⟩
abbrev S1x16384x8x1 : Shape := ⟨4, ![1, 16384, 8, 1]⟩
abbrev S1x1x1x64 : Shape := ⟨4, ![1, 1, 1, 64]⟩
abbrev S1x16384x8x32 : Shape := ⟨4, ![1, 16384, 8, 32]⟩
abbrev S16384x1x32 : Shape := ⟨3, ![16384, 1, 32]⟩
abbrev S1x16384x1x32 : Shape := ⟨4, ![1, 16384, 1, 32]⟩
abbrev S1x16384x2 : Shape := ⟨3, ![1, 16384, 2]⟩
abbrev S1x16384x2x1 : Shape := ⟨4, ![1, 16384, 2, 1]⟩
abbrev S1x16384x2x32 : Shape := ⟨4, ![1, 16384, 2, 32]⟩
abbrev S1x16384x64 : Shape := ⟨3, ![1, 16384, 64]⟩
abbrev S1x16384x1x64 : Shape := ⟨4, ![1, 16384, 1, 64]⟩
abbrev S1x128x16384 : Shape := ⟨3, ![1, 128, 16384]⟩

abbrev nBuf : Space → Nat
  | .hbm => 155
  | .vmem => 0
  | .smem => 0
  | _ => 0

abbrev hbmTy0_0 (i : Nat) : BufTy := match i % 128 with
  | 0 => ⟨S1x16384x1024, .f32⟩
  | 1 => ⟨S1024, .f32⟩
  | 2 => ⟨S1024x1280, .f32⟩
  | 3 => ⟨S64, .f32⟩
  | 4 => ⟨S64, .f32⟩
  | 5 => ⟨S256, .i32⟩
  | 6 => ⟨S256x1, .i32⟩
  | 7 => ⟨S256x64, .i32⟩
  | 8 => ⟨S16384, .i32⟩
  | 9 => ⟨S16384, .f32⟩
  | 10 => ⟨S64, .i32⟩
  | 11 => ⟨S1x64, .i32⟩
  | 12 => ⟨S256x64, .i32⟩
  | 13 => ⟨S16384, .i32⟩
  | 14 => ⟨S16384, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S16384x1, .f32⟩
  | 30 => ⟨S1x16, .f32⟩
  | 31 => ⟨S16384x16, .f32⟩
  | 32 => ⟨S16384x16, .f32⟩
  | 33 => ⟨S16384x16, .f32⟩
  | 34 => ⟨S16384x1, .f32⟩
  | 35 => ⟨S1x16, .f32⟩
  | 36 => ⟨S16384x16, .f32⟩
  | 37 => ⟨S16384x16, .f32⟩
  | 38 => ⟨S16384x16, .f32⟩
  | 39 => ⟨S16384x32, .f32⟩
  | 40 => ⟨S16384x32, .f32⟩
  | 41 => ⟨S16384x32, .f32⟩
  | 42 => ⟨S1x16384x1024, .f32⟩
  | 43 => ⟨S_, .f32⟩
  | 44 => ⟨S1x16384, .f32⟩
  | 45 => ⟨S1x16384x1, .f32⟩
  | 46 => ⟨S_, .f32⟩
  | 47 => ⟨S1x16384x1, .f32⟩
  | 48 => ⟨S1x16384x1, .f32⟩
  | 49 => ⟨S_, .f32⟩
  | 50 => ⟨S1x16384x1, .f32⟩
  | 51 => ⟨S1x16384x1, .f32⟩
  | 52 => ⟨S1x16384x1, .f32⟩
  | 53 => ⟨S1x16384x1024, .f32⟩
  | 54 => ⟨S1x16384x1024, .f32⟩
  | 55 => ⟨S1x1x1024, .f32⟩
  | 56 => ⟨S1x16384x1024, .f32⟩
  | 57 => ⟨S1x16384x1024, .f32⟩
  | 58 => ⟨S1x16384x1280, .f32⟩
  | 59 => ⟨S1x16384x512, .f32⟩
  | 60 => ⟨S1x16384x512, .f32⟩
  | 61 => ⟨S1x16384x8x64, .f32⟩
  | 62 => ⟨S1x16384x128, .f32⟩
  | 63 => ⟨S1x16384x2x64, .f32⟩
  | 64 => ⟨S1x16384x128, .f32⟩
  | 65 => ⟨S1x16384x8x64, .f32⟩
  | 66 => ⟨S_, .f32⟩
  | 67 => ⟨S1x16384x8, .f32⟩
  | 68 => ⟨S1x16384x8x1, .f32⟩
  | 69 => ⟨S_, .f32⟩
  | 70 => ⟨S1x16384x8x1, .f32⟩
  | 71 => ⟨S1x16384x8x1, .f32⟩
  | 72 => ⟨S_, .f32⟩
  | 73 => ⟨S1x16384x8x1, .f32⟩
  | 74 => ⟨S1x16384x8x1, .f32⟩
  | 75 => ⟨S1x16384x8x1, .f32⟩
  | 76 => ⟨S1x16384x8x64, .f32⟩
  | 77 => ⟨S1x16384x8x64, .f32⟩
  | 78 => ⟨S1x1x1x64, .f32⟩
  | 79 => ⟨S1x16384x8x64, .f32⟩
  | 80 => ⟨S1x16384x8x64, .f32⟩
  | 81 => ⟨S1x16384x8x32, .f32⟩
  | 82 => ⟨S1x16384x8x32, .f32⟩
  | 83 => ⟨S16384x1x32, .f32⟩
  | 84 => ⟨S16384x1x32, .f32⟩
  | 85 => ⟨S1x16384x1x32, .f32⟩
  | 86 => ⟨S1x16384x8x32, .f32⟩
  | 87 => ⟨S1x16384x8x32, .f32⟩
  | 88 => ⟨S1x16384x1x32, .f32⟩
  | 89 => ⟨S1x16384x8x32, .f32⟩
  | 90 => ⟨S1x16384x8x32, .f32⟩
  | 91 => ⟨S1x16384x8x32, .f32⟩
  | 92 => ⟨S1x16384x1x32, .f32⟩
  | 93 => ⟨S1x16384x8x32, .f32⟩
  | 94 => ⟨S1x16384x8x32, .f32⟩
  | 95 => ⟨S1x16384x1x32, .f32⟩
  | 96 => ⟨S1x16384x8x32, .f32⟩
  | 97 => ⟨S1x16384x8x32, .f32⟩
  | 98 => ⟨S1x16384x8x32, .f32⟩
  | 99 => ⟨S1x16384x8x64, .f32⟩
  | 100 => ⟨S_, .f32⟩
  | 101 => ⟨S1x16384x8x64, .f32⟩
  | 102 => ⟨S1x16384x8x64, .f32⟩
  | 103 => ⟨S1x16384x2x64, .f32⟩
  | 104 => ⟨S_, .f32⟩
  | 105 => ⟨S1x16384x2, .f32⟩
  | 106 => ⟨S1x16384x2x1, .f32⟩
  | 107 => ⟨S_, .f32⟩
  | 108 => ⟨S1x16384x2x1, .f32⟩
  | 109 => ⟨S1x16384x2x1, .f32⟩
  | 110 => ⟨S_, .f32⟩
  | 111 => ⟨S1x16384x2x1, .f32⟩
  | 112 => ⟨S1x16384x2x1, .f32⟩
  | 113 => ⟨S1x16384x2x1, .f32⟩
  | 114 => ⟨S1x16384x2x64, .f32⟩
  | 115 => ⟨S1x16384x2x64, .f32⟩
  | 116 => ⟨S1x1x1x64, .f32⟩
  | 117 => ⟨S1x16384x2x64, .f32⟩
  | 118 => ⟨S1x16384x2x64, .f32⟩
  | 119 => ⟨S1x16384x2x32, .f32⟩
  | 120 => ⟨S1x16384x2x32, .f32⟩
  | 121 => ⟨S16384x1x32, .f32⟩
  | 122 => ⟨S16384x1x32, .f32⟩
  | 123 => ⟨S1x16384x1x32, .f32⟩
  | 124 => ⟨S1x16384x2x32, .f32⟩
  | 125 => ⟨S1x16384x2x32, .f32⟩
  | 126 => ⟨S1x16384x1x32, .f32⟩
  | 127 => ⟨S1x16384x2x32, .f32⟩
  | _ => ⟨S1x16384x1024, .f32⟩

abbrev hbmTy0_1 (i : Nat) : BufTy := match i % 128 with
  | 0 => ⟨S1x16384x2x32, .f32⟩
  | 1 => ⟨S1x16384x2x32, .f32⟩
  | 2 => ⟨S1x16384x1x32, .f32⟩
  | 3 => ⟨S1x16384x2x32, .f32⟩
  | 4 => ⟨S1x16384x2x32, .f32⟩
  | 5 => ⟨S1x16384x1x32, .f32⟩
  | 6 => ⟨S1x16384x2x32, .f32⟩
  | 7 => ⟨S1x16384x2x32, .f32⟩
  | 8 => ⟨S1x16384x2x32, .f32⟩
  | 9 => ⟨S1x16384x2x64, .f32⟩
  | 10 => ⟨S_, .f32⟩
  | 11 => ⟨S1x16384x64, .f32⟩
  | 12 => ⟨S1x16384x1x64, .f32⟩
  | 13 => ⟨S1x16384x64, .f32⟩
  | 14 => ⟨S1x16384x1x64, .f32⟩
  | 15 => ⟨S1x16384x64, .f32⟩
  | 16 => ⟨S1x16384x1x64, .f32⟩
  | 17 => ⟨S1x16384x64, .f32⟩
  | 18 => ⟨S1x16384x1x64, .f32⟩
  | 19 => ⟨S1x16384x64, .f32⟩
  | 20 => ⟨S1x16384x512, .f32⟩
  | 21 => ⟨S1x16384x512, .bf16⟩
  | 22 => ⟨S1x16384x512, .f32⟩
  | 23 => ⟨S1x16384x512, .bf16⟩
  | 24 => ⟨S1x16384x512, .bf16⟩
  | 25 => ⟨S1x128x16384, .f32⟩
  | 26 => ⟨S1x128x16384, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_9 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_10 : Ref sig .tc := ⟨.hbm, 104, rfl⟩
abbrev main_v88 : Ref sig .tc := ⟨.hbm, 105, rfl⟩
abbrev main_v89 : Ref sig .tc := ⟨.hbm, 106, rfl⟩
abbrev main_cst_11 : Ref sig .tc := ⟨.hbm, 107, rfl⟩
abbrev main_v90 : Ref sig .tc := ⟨.hbm, 108, rfl⟩
abbrev main_v91 : Ref sig .tc := ⟨.hbm, 109, rfl⟩
abbrev main_cst_12 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_13 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩

abbrev nD : Nat := 1
abbrev τ : Topo := Topo.v7x

variable {F : FTy → Type} [FloatOps F]
-- ==== Proof.Online.lean ====
module

public import Idealize.ShloMosaic.Lib.Pointwise
public import Idealize.ShloMosaic.Lib.IdealHost
public import Idealize.ShloMosaic.Lib.Pipeline.ValueKit

@[expose] public section

noncomputable section

open Idealize.ShloMosaic

namespace Cert.Online

open Finset

/-- A non-negative real factor moves inside a finite sum of extended reals. -/
theorem coe_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- A finite sum of real numbers, summed as extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two reals is the same among the extended reals. -/
theorem coe_max (x y : ℝ) : ((max x y : ℝ) : EReal) = max (x : EReal) (y : EReal) :=
  EReal.coe_strictMono.monotone.map_max

/-- Folding the maximum from minus infinity over a non-empty family of reals gives a real. -/
theorem fold_max_coe {ι : Type} [Fintype ι] [Nonempty ι] (f : ι → ℝ) :
    ∃ M : ℝ, (Finset.univ : Finset ι).fold max (⊥ : EReal) (fun t => (f t : EReal)) = (M : EReal) := by
  classical
  have key : ∀ s : Finset ι, s.Nonempty → ∃ M : ℝ, s.fold max (⊥ : EReal) (fun t => (f t : EReal)) = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM, ← coe_max]⟩
  exact key _ Finset.univ_nonempty

section

variable {ι : Type} [Fintype ι] [Nonempty ι] (T : ℕ) (S : ℕ → ι → ℝ) (V : ℕ → ι → EReal) (m l a : ℕ → EReal)

/-- The running maximum, denominator and numerator of an online softmax after `k ≥ 1` blocks: for some real `M` they are
    `M`, the sum of `exp (score - M)` and the sum of `value * exp (score - M)` over the blocks seen so far. -/
theorem online_inv
    (h0 : m 0 = ⊥ ∧ l 0 = 0 ∧ a 0 = 0)
    (hm : ∀ k < T, m (k + 1) = max (m k) (Finset.univ.fold max (⊥ : EReal) fun t => (S k t : EReal)))
    (hl : ∀ k < T, l (k + 1) = Ideal.exp (m k - m (k + 1)) * l k + ∑ t, Ideal.exp ((S k t : EReal) - m (k + 1)))
    (ha : ∀ k < T, a (k + 1) = Ideal.exp (m k - m (k + 1)) * a k + ∑ t, V k t * Ideal.exp ((S k t : EReal) - m (k + 1))) :
    ∀ k < T, ∃ M : ℝ, m (k + 1) = (M : EReal)
      ∧ l (k + 1) = ((∑ j ∈ range (k + 1), ∑ t, Real.exp (S j t - M) : ℝ) : EReal)
      ∧ a (k + 1) = ∑ j ∈ range (k + 1), ∑ t, V j t * ((Real.exp (S j t - M) : ℝ) : EReal) := by
  intro k
  induction k with
  | zero =>
    intro hk
    obtain ⟨M, hM⟩ := fold_max_coe (S 0)
    have e : m (0 + 1) = (M : EReal) := by rw [hm 0 hk, hM, h0.1]; simp
    refine ⟨M, e, ?_, ?_⟩
    · rw [hl 0 hk, e, h0.2.1, mul_zero, zero_add, range_one, sum_singleton, ← coe_sum]
      exact Finset.sum_congr rfl fun t _ => by rw [← EReal.coe_sub, Ideal.exp_coe]
    · rw [ha 0 hk, e, h0.2.2, mul_zero, zero_add, range_one, sum_singleton]
      exact Finset.sum_congr rfl fun t _ => by rw [← EReal.coe_sub, Ideal.exp_coe]
  | succ k ih =>
    intro hk
    obtain ⟨M, eM, eL, eA⟩ := ih (Nat.lt_of_succ_lt hk)
    obtain ⟨B, hB⟩ := fold_max_coe (S (k + 1))
    have e : m (k + 1 + 1) = ((max M B : ℝ) : EReal) := by rw [hm _ hk, hB, eM, coe_max]
    have al : Ideal.exp (m (k + 1) - m (k + 1 + 1)) = ((Real.exp (M - max M B) : ℝ) : EReal) := by
      rw [eM, e, ← EReal.coe_sub, Ideal.exp_coe]
    refine ⟨max M B, e, ?_, ?_⟩
    · rw [hl _ hk, al, eL, e, sum_range_succ (n := k + 1), ← EReal.coe_mul, EReal.coe_add, Finset.mul_sum]
      refine congrArg₂ (· + ·) (congrArg _ (Finset.sum_congr rfl fun j _ => ?_)) ?_
      · rw [Finset.mul_sum]
        exact Finset.sum_congr rfl fun t _ => by rw [← Real.exp_add]; congr 1; ring
      · rw [← coe_sum]
        exact Finset.sum_congr rfl fun t _ => by rw [← EReal.coe_sub, Ideal.exp_coe]
    · rw [ha _ hk, al, eA, e, sum_range_succ (n := k + 1), coe_mul_sum _ (Real.exp_nonneg _)]
      refine congrArg₂ (· + ·) (Finset.sum_congr rfl fun j _ => ?_) ?_
      · rw [coe_mul_sum _ (Real.exp_nonneg _)]
        refine Finset.sum_congr rfl fun t _ => ?_
        rw [mul_left_comm, ← EReal.coe_mul, ← Real.exp_add]
        congr 3; ring
      · exact Finset.sum_congr rfl fun t _ => by rw [← EReal.coe_sub, Ideal.exp_coe]

/-- ONLINE SOFTMAX: after all blocks, numerator over denominator is the softmax-weighted sum of the values, the softmax
    shifted by any real `M'`. -/
theorem online
    (h0 : m 0 = ⊥ ∧ l 0 = 0 ∧ a 0 = 0)
    (hm : ∀ k < T, m (k + 1) = max (m k) (Finset.univ.fold max (⊥ : EReal) fun t => (S k t : EReal)))
    (hl : ∀ k < T, l (k + 1) = Ideal.exp (m k - m (k + 1)) * l k + ∑ t, Ideal.exp ((S k t : EReal) - m (k + 1)))
    (ha : ∀ k < T, a (k + 1) = Ideal.exp (m k - m (k + 1)) * a k + ∑ t, V k t * Ideal.exp ((S k t : EReal) - m (k + 1)))
    (hT : 0 < T) (M' : ℝ) :
    Ideal.div (a T) (l T) = ∑ j ∈ range T, ∑ t, V j t *
      Ideal.div (Ideal.exp ((S j t : EReal) - (M' : EReal))) (∑ j ∈ range T, ∑ t, Ideal.exp ((S j t : EReal) - (M' : EReal))) := by
  obtain ⟨k, rfl⟩ : ∃ k, T = k + 1 := ⟨T - 1, by omega⟩
  obtain ⟨M, -, eL, eA⟩ := online_inv (k + 1) S V m l a h0 hm hl ha k (Nat.lt_succ_self k)
  have pos : ∀ N : ℝ, 0 < ∑ j ∈ range (k + 1), ∑ t, Real.exp (S j t - N) := fun N =>
    Finset.sum_pos (fun j _ => Finset.sum_pos (fun t _ => Real.exp_pos _) Finset.univ_nonempty) ⟨0, by simp⟩
  have hden : (∑ j ∈ range (k + 1), ∑ t, Ideal.exp ((S j t : EReal) - (M' : EReal)))
      = ((∑ j ∈ range (k + 1), ∑ t, Real.exp (S j t - M') : ℝ) : EReal) := by
    rw [← coe_sum]
    refine Finset.sum_congr rfl fun j _ => ?_
    rw [← coe_sum]
    exact Finset.sum_congr rfl fun t _ => by rw [← EReal.coe_sub, Ideal.exp_coe]
  have shift : (∑ j ∈ range (k + 1), ∑ t, Real.exp (S j t - M))
      = Real.exp (M' - M) * ∑ j ∈ range (k + 1), ∑ t, Real.exp (S j t - M') := by
    rw [Finset.mul_sum]
    refine Finset.sum_congr rfl fun j _ => ?_
    rw [Finset.mul_sum]
    exact Finset.sum_congr rfl fun t _ => by rw [← Real.exp_add]; congr 1; ring
  have hdiv : ∀ (x : EReal) (L : ℝ), 0 < L → Ideal.div x (L : EReal) = ((L⁻¹ : ℝ) : EReal) * x := fun x L hL => by
    have hne : (L : EReal) ≠ 0 := by simpa using hL.ne'
    unfold Ideal.div
    rw [if_neg hne, mul_comm, EReal.coe_inv]
  rw [hden, eL, eA, hdiv _ _ (pos M), coe_mul_sum _ (inv_nonneg.mpr (pos M).le)]
  refine Finset.sum_congr rfl fun j _ => ?_
  rw [coe_mul_sum _ (inv_nonneg.mpr (pos M).le)]
  refine Finset.sum_congr rfl fun t _ => ?_
  rw [hdiv _ _ (pos M'), mul_left_comm, ← EReal.coe_sub, Ideal.exp_coe, ← EReal.coe_mul, ← EReal.coe_mul, shift]
  congr 2
  have e1 : Real.exp (S j t - M) = Real.exp (M' - M) * Real.exp (S j t - M') := by rw [← Real.exp_add]; congr 1; ring
  rw [e1, mul_inv]
  have := (Real.exp_pos (M' - M)).ne'
  field_simp

end

/-- One block's new running maximum. -/
def mN {ι : Type} [Fintype ι] (M : EReal) (S : ι → EReal) : EReal := max M (Finset.univ.fold max (⊥ : EReal) S)

/-- One block's new running denominator. -/
def lN {ι : Type} [Fintype ι] (M L : EReal) (S : ι → EReal) : EReal :=
  Ideal.exp (M - mN M S) * L + ∑ t, Ideal.exp (S t - mN M S)

/-- One block's new running numerator. -/
def aN {ι : Type} [Fintype ι] (M A : EReal) (S V : ι → EReal) : EReal :=
  Ideal.exp (M - mN M S) * A + ∑ t, V t * Ideal.exp (S t - mN M S)

/-- Position `t` of block `k`, among `L` keys in `T` blocks of 512. -/
def pos {T L : ℕ} (hL : T * 512 = L) (k : Fin T) (t : Fin 512) : Fin L := ⟨k.val * 512 + t.val, by omega⟩

/-- ONLINE SOFTMAX over the keys read in blocks of 512: when the scores are real numbers, the last numerator over the
    last denominator is the softmax-weighted sum of the values, the softmax shifted by any real number. -/
theorem online_keys {T L : ℕ} (hT : 0 < T) (hL : T * 512 = L) (s v : Fin L → EReal) (hs : ∀ i, ∃ r : ℝ, s i = (r : EReal)) (m l a : ℕ → EReal)
    (h0 : m 0 = ⊥ ∧ l 0 = 0 ∧ a 0 = 0)
    (hm : ∀ k : Fin T, m (k.val + 1) = mN (m k.val) fun t => s (pos hL k t))
    (hl : ∀ k : Fin T, l (k.val + 1) = lN (m k.val) (l k.val) fun t => s (pos hL k t))
    (ha : ∀ k : Fin T, a (k.val + 1) = aN (m k.val) (a k.val) (fun t => s (pos hL k t)) fun t => v (pos hL k t)) (M' : ℝ) :
    Ideal.div (a T) (l T) = ∑ i, v i *
      Ideal.div (Ideal.exp (s i - (M' : EReal))) (∑ i, Ideal.exp (s i - (M' : EReal))) := by
  choose r hr using hs
  obtain rfl : s = fun i => (r i : EReal) := funext hr
  have e := online (ι := Fin 512) T (fun k t => if h : k < T then r (pos hL ⟨k, h⟩ t) else 0)
    (fun k t => if h : k < T then v (pos hL ⟨k, h⟩ t) else 0) m l a h0
    (fun k hk => by rw [hm ⟨k, hk⟩]; simp only [dif_pos hk]; rfl)
    (fun k hk => by rw [hl ⟨k, hk⟩, hm ⟨k, hk⟩]; simp only [dif_pos hk]; rfl)
    (fun k hk => by rw [ha ⟨k, hk⟩, hm ⟨k, hk⟩]; simp only [dif_pos hk]; rfl) hT M'
  have tile : ∀ f : Fin L → EReal, (∑ j ∈ range T, ∑ t : Fin 512, if h : j < T then f (pos hL ⟨j, h⟩ t) else 0) = ∑ i, f i :=
    fun f => by
      rw [Finset.sum_range]
      refine Eq.trans ?_ (Fin.sum_univ_tiles T 512 hL f).symm
      refine Finset.sum_congr rfl fun j _ => Finset.sum_congr rfl fun t _ => ?_
      rw [dif_pos j.isLt]; rfl
  rw [e, ← tile fun i => Ideal.exp ((r i : EReal) - (M' : EReal)),
    ← tile fun i => v i * Ideal.div (Ideal.exp ((r i : EReal) - (M' : EReal))) _]
  have hden : (∑ j ∈ range T, ∑ t : Fin 512, Ideal.exp (((if h : j < T then r (pos hL ⟨j, h⟩ t) else 0 : ℝ) : EReal) - (M' : EReal)))
      = ∑ j ∈ range T, ∑ t : Fin 512, if h : j < T then Ideal.exp ((r (pos hL ⟨j, h⟩ t) : EReal) - (M' : EReal)) else 0 :=
    Finset.sum_congr rfl fun j hj => Finset.sum_congr rfl fun t _ => by
      rw [dif_pos (Finset.mem_range.mp hj), dif_pos (Finset.mem_range.mp hj)]
  rw [hden]
  refine Finset.sum_congr rfl fun j hj => Finset.sum_congr rfl fun t _ => ?_
  rw [dif_pos (Finset.mem_range.mp hj), dif_pos (Finset.mem_range.mp hj), dif_pos (Finset.mem_range.mp hj)]

end Cert.Online

end
-- ==== Proof.Attn.lean ====
module

public import proofs.«01_k».proof.Proof.Gen.KernelIdeal.Value
public import proofs.«01_k».proof.Proof.Online
public import Idealize.ShloMosaic.Lib.Pipeline.ValueKit
public import Idealize.ShloMosaic.Lib.Pointwise
public import Idealize.ShloMosaic.Lib.WritesUnit

/-! The attention's sweep over the keys, for any number of blocks of keys: what one block does to the running maxima,
denominators and weighted sums, and what is left after the last block. -/

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

open Cert.Online

/-- The constant the running maximum starts from is minus infinity. -/
theorem bot_bits : Ideal.ofBits FTy.f32 0xFF800000#32 = (⊥ : EReal) := by simp [Ideal.ofBits, Ideal.ieee]

section payloads

variable (Q : FVec Ideal S512x128 .bf16) (K : FVec Ideal S1x512x128 .bf16) (V : FVec Ideal S1x64x512 .bf16)
  (M L : FVec Ideal S1x1x512 .f32) (A : FVec Ideal S1x64x512 .f32)

/-- The score of query row `c` against row `s` of a block of keys. -/
def sc (c s : Fin 512) : EReal := ∑ d : Fin 128, K (ix3 0 s d) * Q (ix2 c d)

/-- The first head's new maximum after one block of keys. -/
theorem pay_m0 (c : Fin 512) : k0_pay11 (k0_pay5 Q K M) (ix3 0 0 c) = mN (M (ix3 0 0 c)) (sc Q K c) := by
  pointwise [k0_pay11, k0_pay5, k0_pay4, k0_pay3]
  rw [bot_bits]; rfl

/-- The second head's new maximum after one block of keys. -/
theorem pay_m1 (c : Fin 512) : k0_pay25 (k0_pay14 Q K M) (ix3 0 0 c) = mN (M (ix3 0 0 c)) (sc Q K c) := by
  pointwise [k0_pay25, k0_pay14, k0_pay13, k0_pay12]
  rw [bot_bits]; rfl

/-- The first head's new denominator after one block of keys. -/
theorem pay_l0 (c : Fin 512) : k0_pay8 Q K M L (ix3 0 0 c) = lN (M (ix3 0 0 c)) (L (ix3 0 0 c)) (sc Q K c) := by
  pointwise [k0_pay8, k0_pay7, k0_pay6, k0_pay5, k0_pay4, k0_pay3]
  rw [bot_bits]; rfl

/-- The second head's new denominator after one block of keys. -/
theorem pay_l1 (c : Fin 512) : k0_pay17 Q K M L (ix3 0 0 c) = lN (M (ix3 0 0 c)) (L (ix3 0 0 c)) (sc Q K c) := by
  pointwise [k0_pay17, k0_pay16, k0_pay15, k0_pay14, k0_pay13, k0_pay12]
  rw [bot_bits]; rfl

/-- The first head's new weighted sum after one block of keys. -/
theorem pay_a0 (e : Fin 64) (c : Fin 512) : k0_pay10 (k0_pay9 Q V K M A) (ix3 0 e c)
    = aN (M (ix3 0 0 c)) (A (ix3 0 e c)) (sc Q K c) fun t => V (ix3 0 e t) := by
  pointwise [k0_pay10, k0_pay9, k0_pay2, k0_pay8, k0_pay7, k0_pay6, k0_pay5, k0_pay4, k0_pay3]
  rw [bot_bits]; rfl

/-- The second head's new weighted sum after one block of keys. -/
theorem pay_a1 (e : Fin 64) (c : Fin 512) : k0_pay24 (k0_pay18 Q K M A) (k0_pay19 Q (k0_pay2 V) K M) (ix3 0 e c)
    = aN (M (ix3 0 0 c)) (A (ix3 0 e c)) (sc Q K c) fun t => V (ix3 0 e t) := by
  pointwise [k0_pay24, k0_pay18, k0_pay19, k0_pay2, k0_pay15, k0_pay16, k0_pay14, k0_pay13, k0_pay12]
  rw [bot_bits]; rfl

/-- The block that is written out: each head's weighted sum over its denominator, the heads side by side. -/
theorem pay_out (A0 A1 : FVec Ideal S1x64x512 .f32) (L0 L1 : FVec Ideal S1x1x512 .f32) (c : Fin 512) (e : Fin 128) :
    k0_pay1 (F := Ideal) (k0_pay26 A0 L0) (k0_pay27 A1) L1 (ix3 0 c e)
      = if h : e.val < 64 then Ideal.div (A0 (ix3 0 ⟨e.val, h⟩ c)) (L0 (ix3 0 0 c))
        else Ideal.div (A1 (ix3 0 ⟨e.val - 64, by omega⟩ c)) (L1 (ix3 0 0 c)) := by
  pointwise [k0_pay1, k0_pay26, k0_pay27]

end payloads

/-- A load at offset `o` of the row axis reads the rows from `o` on. -/
theorem readAt_at {sg : RefSig} {κ : Kind} {sp : Space} {d : Fin 3 → ℕ} {z : Fin 3 → ℕ} {e : EltTy} (v : View sg κ sp ⟨3, d⟩ e)
    (f : v.ty.Contents (Elt Ideal)) {off off' : Fin 3 → ℕ} (inb) (h : off = off')
    (x : (⟨3, z⟩ : Shape).Idx) (y : (⟨3, d⟩ : Shape).Idx) (hy : ∀ a, (y a).val = off' a + (x a).val) :
    v.readAt (Elt Ideal) (Rect.unit (s := ⟨3, d⟩) off z inb).toLoadRect f x = v.read (Elt Ideal) f y := by
  subst h
  refine congrArg (v.read (Elt Ideal) f) (funext fun a => Fin.ext ?_)
  have e1 := hy a
  show off a + 1 * (x a).val = (y a).val
  omega

section sweep

variable {sg : RefSig} {κ : Kind} {sp : Space} (v8 v9 : View sg κ sp S2x1x512 .f32) (v10 : View sg κ sp S2x64x512 .f32)

/-- A head's row lies in the scratch of both heads. -/
theorem inb_row (h : Fin 2) : ∀ a, (![h.val, 0, 0] : Fin 3 → ℕ) a + (![1, 1, 512] : Fin 3 → ℕ) a ≤ S2x1x512.size a := fun a => by
  fin_cases a
  · show h.val + 1 ≤ 2; omega
  · show 0 + 1 ≤ 1; omega
  · show 0 + 512 ≤ 512; omega

/-- A head's rows lie in the scratch of both heads. -/
theorem inb_rows (h : Fin 2) : ∀ a, (![h.val, 0, 0] : Fin 3 → ℕ) a + (![1, 64, 512] : Fin 3 → ℕ) a ≤ S2x64x512.size a := fun a => by
  fin_cases a
  · show h.val + 1 ≤ 2; omega
  · show 0 + 64 ≤ 64; omega
  · show 0 + 512 ≤ 512; omega

/-- One head's row of a scratch that holds one row for each head. -/
def row (v : View sg κ sp S2x1x512 .f32) (h : Fin 2) (f : v.ty.Contents (Elt Ideal)) : FVec Ideal S1x1x512 .f32 :=
  v.readAt (Elt Ideal) (Rect.unit (s := S2x1x512) ![h.val, 0, 0] ![1, 1, 512] (inb_row h)).toLoadRect f

/-- One head's rows of the scratch of the weighted sums. -/
def rows (v : View sg κ sp S2x64x512 .f32) (h : Fin 2) (f : v.ty.Contents (Elt Ideal)) : FVec Ideal S1x64x512 .f32 :=
  v.readAt (Elt Ideal) (Rect.unit (s := S2x64x512) ![h.val, 0, 0] ![1, 64, 512] (inb_rows h)).toLoadRect f

/-- A head's row at one index. -/
theorem row_at (v : View sg κ sp S2x1x512 .f32) (h : Fin 2) (f : v.ty.Contents (Elt Ideal)) (r : Fin 512) :
    row v h f (ix3 0 0 r) = v.read (Elt Ideal) f (ix3 h 0 r) :=
  readAt_at (z := ![1, 1, 512]) v f _ rfl (ix3 0 0 r) _ fun a => by fin_cases a <;> simp

/-- A head's rows at one index. -/
theorem rows_at (v : View sg κ sp S2x64x512 .f32) (h : Fin 2) (f : v.ty.Contents (Elt Ideal)) (e : Fin 64) (r : Fin 512) :
    rows v h f (ix3 0 e r) = v.read (Elt Ideal) f (ix3 h e r) :=
  readAt_at (z := ![1, 64, 512]) v f _ rfl (ix3 0 e r) _ fun a => by fin_cases a <;> simp

/-- A scratch of one row for each head after both rows are stored. -/
def put (v : View sg κ sp S2x1x512 .f32) (f : v.ty.Contents (Elt Ideal)) (p0 p1 : FVec Ideal S1x1x512 .f32) : v.ty.Contents (Elt Ideal) :=
  v.writes (Elt Ideal) f [⟨Rect.unit (s := S2x1x512) ![(1 : Fin 2).val, 0, 0] ![1, 1, 512] (inb_row 1), p1⟩, ⟨Rect.unit (s := S2x1x512) ![(0 : Fin 2).val, 0, 0] ![1, 1, 512] (inb_row 0), p0⟩]

/-- The scratch of the weighted sums after both heads' rows are stored. -/
def puts (v : View sg κ sp S2x64x512 .f32) (f : v.ty.Contents (Elt Ideal)) (p0 p1 : FVec Ideal S1x64x512 .f32) : v.ty.Contents (Elt Ideal) :=
  v.writes (Elt Ideal) f [⟨Rect.unit (s := S2x64x512) ![(1 : Fin 2).val, 0, 0] ![1, 64, 512] (inb_rows 1), p1⟩, ⟨Rect.unit (s := S2x64x512) ![(0 : Fin 2).val, 0, 0] ![1, 64, 512] (inb_rows 0), p0⟩]

/-- The first head's row after both are stored. -/
theorem put_0 (v : View sg κ sp S2x1x512 .f32) (f : v.ty.Contents (Elt Ideal)) (p0 p1 : FVec Ideal S1x1x512 .f32) (r : Fin 512) :
    v.read (Elt Ideal) (put v f p0 p1) (ix3 0 0 r) = p0 (ix3 0 0 r) := by
  unfold put
  rw [View.read_writes_cons_unit_of_not_mem _ _ _ _ _ _ rfl 0 (.inl Nat.zero_lt_one)]
  refine (View.read_writes_cons_unit_of_mem _ _ _ _ _ _ (ix3 0 0 r) rfl fun a => ?_).trans ?_
  · fin_cases a <;> simp
  · rfl

/-- The second head's row after both are stored. -/
theorem put_1 (v : View sg κ sp S2x1x512 .f32) (f : v.ty.Contents (Elt Ideal)) (p0 p1 : FVec Ideal S1x1x512 .f32) (r : Fin 512) :
    v.read (Elt Ideal) (put v f p0 p1) (ix3 1 0 r) = p1 (ix3 0 0 r) := by
  unfold put
  refine (View.read_writes_cons_unit_of_mem _ _ _ _ _ _ (ix3 0 0 r) rfl fun a => ?_).trans ?_
  · fin_cases a <;> simp
  · rfl

/-- The first head's weighted sums after both are stored. -/
theorem puts_0 (v : View sg κ sp S2x64x512 .f32) (f : v.ty.Contents (Elt Ideal)) (p0 p1 : FVec Ideal S1x64x512 .f32) (e : Fin 64) (r : Fin 512) :
    v.read (Elt Ideal) (puts v f p0 p1) (ix3 0 e r) = p0 (ix3 0 e r) := by
  unfold puts
  rw [View.read_writes_cons_unit_of_not_mem _ _ _ _ _ _ rfl 0 (.inl Nat.zero_lt_one)]
  refine (View.read_writes_cons_unit_of_mem _ _ _ _ _ _ (ix3 0 e r) rfl fun a => ?_).trans ?_
  · fin_cases a <;> simp
  · rfl

/-- The second head's weighted sums after both are stored. -/
theorem puts_1 (v : View sg κ sp S2x64x512 .f32) (f : v.ty.Contents (Elt Ideal)) (p0 p1 : FVec Ideal S1x64x512 .f32) (e : Fin 64) (r : Fin 512) :
    v.read (Elt Ideal) (puts v f p0 p1) (ix3 1 e r) = p1 (ix3 0 e r) := by
  unfold puts
  refine (View.read_writes_cons_unit_of_mem _ _ _ _ _ _ (ix3 0 e r) rfl fun a => ?_).trans ?_
  · fin_cases a <;> simp
  · rfl

/-- Every running maximum is minus infinity at the loop's start. -/
def start8 : v8.ty.Contents (Elt Ideal) :=
  v8.writes (Elt Ideal) v8.junk [⟨Rect.unit (s := S2x1x512) ![0, 0, 0] ![2, 1, 512] Gen.inb_S2x1x512_S2x1x512_0_0_0, k0_pay21 (F := Ideal)⟩]
/-- Every running denominator is zero at the loop's start. -/
def start9 : v9.ty.Contents (Elt Ideal) :=
  v9.writes (Elt Ideal) v9.junk [⟨Rect.unit (s := S2x1x512) ![0, 0, 0] ![2, 1, 512] Gen.inb_S2x1x512_S2x1x512_0_0_0, k0_pay22 (F := Ideal)⟩]
/-- Every running weighted sum is zero at the loop's start. -/
def start10 : v10.ty.Contents (Elt Ideal) :=
  v10.writes (Elt Ideal) v10.junk [⟨Rect.unit (s := S2x64x512) ![0, 0, 0] ![2, 64, 512] Gen.inb_S2x64x512_S2x64x512_0_0_0, k0_pay23 (F := Ideal)⟩]

/-- The running maximum starts from minus infinity. -/
theorem start8_at (h : Fin 2) (r : Fin 512) : v8.read (Elt Ideal) (start8 v8) (ix3 h 0 r) = (⊥ : EReal) := by
  unfold start8
  refine (View.read_writes_cons_unit_of_mem _ _ _ _ _ _ (ix3 h 0 r) rfl fun a => ?_).trans ?_
  · fin_cases a <;> simp
  · pointwise [k0_pay21]
    exact bot_bits

/-- The running denominator starts from zero. -/
theorem start9_at (h : Fin 2) (r : Fin 512) : v9.read (Elt Ideal) (start9 v9) (ix3 h 0 r) = (0 : EReal) := by
  unfold start9
  refine (View.read_writes_cons_unit_of_mem _ _ _ _ _ _ (ix3 h 0 r) rfl fun a => ?_).trans ?_
  · fin_cases a <;> simp
  · pointwise [k0_pay22]

/-- The running weighted sum starts from zero. -/
theorem start10_at (h : Fin 2) (e : Fin 64) (r : Fin 512) : v10.read (Elt Ideal) (start10 v10) (ix3 h e r) = (0 : EReal) := by
  unfold start10
  refine (View.read_writes_cons_unit_of_mem _ _ _ _ _ _ (ix3 h e r) rfl fun a => ?_).trans ?_
  · fin_cases a <;> simp
  · pointwise [k0_pay23]

variable {T L : ℕ} (hL : T * 512 = L)

/-- Block `k` of the keys. -/
def keys (x : FVec Ideal ⟨3, ![1, L, 128]⟩ .bf16) (k : Fin T) : FVec Ideal S1x512x128 .bf16 := fun j => x (ix3 0 (pos hL k (j 1)) (j 2))

/-- Block `k` of the values. -/
def vals (x : FVec Ideal ⟨3, ![1, 64, L]⟩ .bf16) (k : Fin T) : FVec Ideal S1x64x512 .bf16 := fun j => x (ix3 0 (j 1) (pos hL k (j 2)))

/-- A load of 512 rows from row `512 k` on is block `k` of the keys. -/
theorem keys_read (v : View sg κ sp ⟨3, ![1, L, 128]⟩ .bf16) (X : v.ty.Contents (Elt Ideal)) (x : FVec Ideal ⟨3, ![1, L, 128]⟩ .bf16) (hx : v.read (Elt Ideal) X = x)
    (k : Fin T) {off : Fin 3 → ℕ} (inb) (h : off = ![0, 512 * k.val, 0]) :
    v.readAt (Elt Ideal) (Rect.unit (s := ⟨3, ![1, L, 128]⟩) off ![1, 512, 128] inb).toLoadRect X = keys hL x k := by
  subst hx
  funext j
  refine readAt_at (z := ![1, 512, 128]) v X inb h j _ fun a => ?_
  match a with
  | ⟨0, _⟩ => show 0 = 0 + (j 0).val; have : (j 0).val < 1 := (j 0).isLt; omega
  | ⟨1, _⟩ => show k.val * 512 + (j 1).val = 512 * k.val + (j 1).val; omega
  | ⟨2, _⟩ => exact (Nat.zero_add _).symm

/-- A load of 512 columns from column `512 k` on is block `k` of the values. -/
theorem vals_read (v : View sg κ sp ⟨3, ![1, 64, L]⟩ .bf16) (X : v.ty.Contents (Elt Ideal)) (x : FVec Ideal ⟨3, ![1, 64, L]⟩ .bf16) (hx : v.read (Elt Ideal) X = x)
    (k : Fin T) {off : Fin 3 → ℕ} (inb) (h : off = ![0, 0, 512 * k.val]) :
    v.readAt (Elt Ideal) (Rect.unit (s := ⟨3, ![1, 64, L]⟩) off ![1, 64, 512] inb).toLoadRect X = vals hL x k := by
  subst hx
  funext j
  refine readAt_at (z := ![1, 64, 512]) v X inb h j _ fun a => ?_
  match a with
  | ⟨0, _⟩ => show 0 = 0 + (j 0).val; have : (j 0).val < 1 := (j 0).isLt; omega
  | ⟨1, _⟩ => exact (Nat.zero_add _).symm
  | ⟨2, _⟩ => show k.val * 512 + (j 2).val = 512 * k.val + (j 2).val; omega

variable (z : FVec Ideal S1x512x128 .bf16) (x1 x2 : FVec Ideal ⟨3, ![1, L, 128]⟩ .bf16) (x3 : FVec Ideal ⟨3, ![1, 64, L]⟩ .bf16)

/-- What one block of keys and values makes of the running maxima. -/
def next8 (K0 K1 : FVec Ideal S1x512x128 .bf16) (f8 : v8.ty.Contents (Elt Ideal)) : v8.ty.Contents (Elt Ideal) :=
  put v8 f8 (k0_pay11 (k0_pay5 (k0_pay20 z) K0 (row v8 0 f8))) (k0_pay25 (k0_pay14 (k0_pay20 z) K1 (row v8 1 f8)))

/-- What one block makes of the running denominators. -/
def next9 (K0 K1 : FVec Ideal S1x512x128 .bf16) (f8 : v8.ty.Contents (Elt Ideal)) (f9 : v9.ty.Contents (Elt Ideal)) : v9.ty.Contents (Elt Ideal) :=
  put v9 f9 (k0_pay8 (k0_pay20 z) K0 (row v8 0 f8) (row v9 0 f9)) (k0_pay17 (k0_pay20 z) K1 (row v8 1 f8) (row v9 1 f9))

/-- What one block makes of the running weighted sums. -/
def next10 (K0 K1 : FVec Ideal S1x512x128 .bf16) (W : FVec Ideal S1x64x512 .bf16) (f8 : v8.ty.Contents (Elt Ideal)) (f10 : v10.ty.Contents (Elt Ideal)) : v10.ty.Contents (Elt Ideal) :=
  puts v10 f10 (k0_pay10 (k0_pay9 (k0_pay20 z) W K0 (row v8 0 f8) (rows v10 0 f10)))
    (k0_pay24 (k0_pay18 (k0_pay20 z) K1 (row v8 1 f8) (rows v10 1 f10)) (k0_pay19 (k0_pay20 z) (k0_pay2 W) K1 (row v8 1 f8)))

/-- The block `o` is what a sweep over all blocks of keys and values leaves: the scratch starts empty, takes one block after
    another, and each head's weighted sum is divided by its denominator. -/
def Swept (o : FVec Ideal S1x512x128 .bf16) : Prop :=
  ∃ (f8 : ℕ → v8.ty.Contents (Elt Ideal)) (f9 : ℕ → v9.ty.Contents (Elt Ideal)) (f10 : ℕ → v10.ty.Contents (Elt Ideal)),
    (f8 0 = start8 v8 ∧ f9 0 = start9 v9 ∧ f10 0 = start10 v10)
    ∧ (∀ k : Fin T, f8 (k.val + 1) = next8 v8 z (keys hL x1 k) (keys hL x2 k) (f8 k.val)
      ∧ f9 (k.val + 1) = next9 v8 v9 z (keys hL x1 k) (keys hL x2 k) (f8 k.val) (f9 k.val)
      ∧ f10 (k.val + 1) = next10 v8 v10 z (keys hL x1 k) (keys hL x2 k) (vals hL x3 k) (f8 k.val) (f10 k.val))
    ∧ o = k0_pay1 (F := Ideal) (k0_pay26 (rows v10 0 (f10 T)) (row v9 0 (f9 T))) (k0_pay27 (rows v10 1 (f10 T))) (row v9 1 (f9 T))

/-- The scores of a query row against a block of keys are those against the keys from that block's first on. -/
theorem sc_keys (x : FVec Ideal ⟨3, ![1, L, 128]⟩ .bf16) (k : Fin T) (r : Fin 512) :
    sc (k0_pay20 z) (keys hL x k) r = fun t => (∑ d : Fin 128, x (ix3 0 (pos hL k t) d) * z (ix3 0 r d) : EReal) := by
  funext t
  unfold sc
  refine Finset.sum_congr rfl fun d _ => congrArg₂ (· * ·) rfl ?_
  pointwise [k0_pay20]

variable {v8 v9 v10 hL z x1 x2 x3}

/-- The block that a sweep leaves holds, head by head, the softmax-weighted sums of the values. -/
theorem swept_softmax {o : FVec Ideal S1x512x128 .bf16} (h : Swept v8 v9 v10 hL z x1 x2 x3 o) (hT : 0 < T) (r : Fin 512) (y : Fin 128)
    (x : FVec Ideal ⟨3, ![1, L, 128]⟩ .bf16) (e : Fin 64)
    (hx : (y.val < 64 ∧ x = x1 ∧ e.val = y.val) ∨ (64 ≤ y.val ∧ x = x2 ∧ e.val + 64 = y.val))
    (hs : ∀ n, ∃ s : ℝ, (∑ d : Fin 128, x (ix3 0 n d) * z (ix3 0 r d) : EReal) = (s : EReal)) (M' : ℝ) :
    o (ix3 0 r y) = (∑ n : Fin L, x3 (ix3 0 e n) * Ideal.div (Ideal.exp ((∑ d : Fin 128, x (ix3 0 n d) * z (ix3 0 r d)) - (M' : EReal)))
          (∑ n : Fin L, Ideal.exp ((∑ d : Fin 128, x (ix3 0 n d) * z (ix3 0 r d)) - (M' : EReal))) : EReal) := by
  obtain ⟨f8, f9, f10, ⟨h8, h9, h10⟩, hk, rfl⟩ := h
  refine (pay_out _ _ _ _ r y).trans ?_
  rcases hx with ⟨h, rfl, he⟩ | ⟨h, rfl, he⟩
  · rw [dif_pos h, show (⟨y.val, h⟩ : Fin 64) = e from Fin.ext he.symm, rows_at, row_at]
    refine online_keys hT hL (fun n => ∑ d : Fin 128, x (ix3 0 n d) * z (ix3 0 r d)) (fun n => x3 (ix3 0 e n)) hs
      (fun n => v8.read (Elt Ideal) (f8 n) (ix3 0 0 r)) (fun n => v9.read (Elt Ideal) (f9 n) (ix3 0 0 r)) (fun n => v10.read (Elt Ideal) (f10 n) (ix3 0 e r))
      ⟨?_, ?_, ?_⟩ (fun k => ?_) (fun k => ?_) (fun k => ?_) M'
    · exact h8 ▸ start8_at v8 0 r
    · exact h9 ▸ start9_at v9 0 r
    · exact h10 ▸ start10_at v10 0 e r
    · rw [(hk k).1]
      refine (put_0 _ _ _ _ r).trans ((pay_m0 _ _ _ r).trans ?_)
      rw [row_at, sc_keys]
    · rw [(hk k).2.1]
      refine (put_0 _ _ _ _ r).trans ((pay_l0 _ _ _ _ r).trans ?_)
      rw [row_at, row_at, sc_keys]
    · rw [(hk k).2.2]
      refine (puts_0 _ _ _ _ e r).trans ((pay_a0 _ _ _ _ _ e r).trans ?_)
      rw [row_at, rows_at, sc_keys]
      rfl
  · rw [dif_neg (by omega), show (⟨y.val - 64, by omega⟩ : Fin 64) = e from Fin.ext (by show y.val - 64 = e.val; omega), rows_at, row_at]
    refine online_keys hT hL (fun n => ∑ d : Fin 128, x (ix3 0 n d) * z (ix3 0 r d)) (fun n => x3 (ix3 0 e n)) hs
      (fun n => v8.read (Elt Ideal) (f8 n) (ix3 1 0 r)) (fun n => v9.read (Elt Ideal) (f9 n) (ix3 1 0 r)) (fun n => v10.read (Elt Ideal) (f10 n) (ix3 1 e r))
      ⟨?_, ?_, ?_⟩ (fun k => ?_) (fun k => ?_) (fun k => ?_) M'
    · exact h8 ▸ start8_at v8 1 r
    · exact h9 ▸ start9_at v9 1 r
    · exact h10 ▸ start10_at v10 1 e r
    · rw [(hk k).1]
      refine (put_1 _ _ _ _ r).trans ((pay_m1 _ _ _ r).trans ?_)
      rw [row_at, sc_keys]
    · rw [(hk k).2.1]
      refine (put_1 _ _ _ _ r).trans ((pay_l1 _ _ _ _ r).trans ?_)
      rw [row_at, row_at, sc_keys]
    · rw [(hk k).2.2]
      refine (puts_1 _ _ _ _ e r).trans ((pay_a1 _ _ _ _ _ e r).trans ?_)
      rw [row_at, rows_at, sc_keys]
      rfl

end sweep

end Cert.Attn

end
-- ==== Proof.AttnOut.lean ====
module

public import proofs.«01_k».proof.Proof.Gen.KernelIdeal.Value
public import proofs.«01_k».proof.Proof.Attn
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

open Cert.Attn Cert.Online

section out

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x64x8192 .bf16) (harg6 : arg6.IsWhole) (arg7 : Memref sig .tc .vmem S1x512x128 .bf16) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S2x64x512 .f32) (harg10 : arg10.IsWhole)
  (x0 : Vec Ideal S1x512x128 .bf16) (x1 x2 : Vec Ideal S1x8192x128 .bf16) (x3 : Vec Ideal S1x64x8192 .bf16)

/-- The loop runs sixteen times. -/
theorem trips_eq : k0_t1_loop.trips = 16 := by decide +kernel

/-- The stores of all trips before trip `n` of the loop over the keys. -/
def stores (n : ℕ) : List (View.Piece (Elt Ideal) S2x1x512 .f32) × List (View.Piece (Elt Ideal) S2x1x512 .f32) × List (View.Piece (Elt Ideal) S2x64x512 .f32) :=
  pb_k0_t1 (F := Ideal) Variants.none c none i arg3 harg3 arg4 harg4 arg5 harg5 arg6 harg6 arg7 harg7 arg8 harg8 arg9 harg9 arg10 harg10
    (View.readAt (Elt Ideal) arg3.view (Rect.unit (s := S1x512x128) ![0, 0, 0] S1x512x128.size Gen.inb_S1x512x128_S1x512x128_0_0_0).toLoadRect (harg3.unread x0))
    (harg4.unread x1) (harg5.unread x2) (harg6.unread x3) (start8 arg8.view) (start9 arg9.view) (start10 arg10.view) n

/-- The queries that the body loads are its whole block. -/
theorem query_read : View.readAt (Elt Ideal) arg3.view (Rect.unit (s := S1x512x128) ![0, 0, 0] S1x512x128.size Gen.inb_S1x512x128_S1x512x128_0_0_0).toLoadRect (harg3.unread x0) = x0 := by
  funext j
  refine (readAt_at (z := S1x512x128.size) arg3.view (harg3.unread x0) _ rfl j j fun a => ?_).trans ?_
  · fin_cases a <;> simp
  · rw [harg3.read_unread]

/-- The output block is what a sweep over the keys and values leaves. -/
theorem swept : Swept arg8.view arg9.view arg10.view (show 16 * 512 = 8192 from rfl) x0 x1 x2 x3
    (out0_A_4 (F := Ideal) c i arg3 harg3 arg4 harg4 arg5 harg5 arg6 harg6 arg7 harg7 arg8 harg8 arg9 harg9 arg10 harg10 x0 x1 x2 x3) := by
  refine ⟨fun n => arg8.view.writes (Elt Ideal) (start8 arg8.view) (stores c i arg3 harg3 arg4 harg4 arg5 harg5 arg6 harg6 arg7 harg7 arg8 harg8 arg9 harg9 arg10 harg10 x0 x1 x2 x3 n).1,
    fun n => arg9.view.writes (Elt Ideal) (start9 arg9.view) (stores c i arg3 harg3 arg4 harg4 arg5 harg5 arg6 harg6 arg7 harg7 arg8 harg8 arg9 harg9 arg10 harg10 x0 x1 x2 x3 n).2.1,
    fun n => arg10.view.writes (Elt Ideal) (start10 arg10.view) (stores c i arg3 harg3 arg4 harg4 arg5 harg5 arg6 harg6 arg7 harg7 arg8 harg8 arg9 harg9 arg10 harg10 x0 x1 x2 x3 n).2.2,
    ⟨rfl, rfl, rfl⟩, fun k => ?_, ?_⟩
  · have e := pb_k0_t1_succ (F := Ideal) Variants.none c none i arg3 harg3 arg4 harg4 arg5 harg5 arg6 harg6 arg7 harg7 arg8 harg8 arg9 harg9 arg10 harg10
      (View.readAt (Elt Ideal) arg3.view (Rect.unit (s := S1x512x128) ![0, 0, 0] S1x512x128.size Gen.inb_S1x512x128_S1x512x128_0_0_0).toLoadRect (harg3.unread x0))
      (harg4.unread x1) (harg5.unread x2) (harg6.unread x3) (start8 arg8.view) (start9 arg9.view) (start10 arg10.view) (⟨k.val, k.isLt.trans_eq trips_eq.symm⟩ : Fin k0_t1_loop.trips)
    have e4 := keys_read (show 16 * 512 = 8192 from rfl) arg4.view (harg4.unread x1) x1 (harg4.read_unread x1) k (k0_off2_inb _) (k0_off2_eq (⟨k.val, k.isLt.trans_eq trips_eq.symm⟩ : Fin k0_t1_loop.trips))
    have e5 := keys_read (show 16 * 512 = 8192 from rfl) arg5.view (harg5.unread x2) x2 (harg5.read_unread x2) k (k0_off2_inb _) (k0_off2_eq (⟨k.val, k.isLt.trans_eq trips_eq.symm⟩ : Fin k0_t1_loop.trips))
    have e6 := vals_read (show 16 * 512 = 8192 from rfl) arg6.view (harg6.unread x3) x3 (harg6.read_unread x3) k (k0_off1_inb _) (k0_off1_eq (⟨k.val, k.isLt.trans_eq trips_eq.symm⟩ : Fin k0_t1_loop.trips))
    unfold stores
    dsimp only at e ⊢
    rw [e]
    simp only [View.writes_append]
    rw [query_read]
    rw [← e4, ← e5, ← e6]
    unfold trip_k0_t1
    dsimp only
    sl_unfold_words
    exact ⟨rfl, rfl, rfl⟩
  · funext j
    obtain ⟨r, y, rfl⟩ : ∃ (r : Fin 512) (y : Fin 128), j = ix3 0 r y := ⟨j 1, j 2, by
      funext a
      match a with
      | ⟨0, _⟩ => exact Subsingleton.elim (α := Fin 1) _ _
      | ⟨1, _⟩ => rfl
      | ⟨2, _⟩ => rfl⟩
    unfold stores
    rw [← trips_eq]
    unfold out0_A_4 kernelRun0_A
    dsimp only
    sl_unfold_words
    refine (View.read_writes_cons_unit_of_mem _ _ _ _ _ _ (ix3 0 r y) rfl fun a => ?_).trans ?_
    · fin_cases a <;> simp
    unfold View.readCov
    simp only [View.writes_append]
    rfl

end out

end Cert.KernelIdeal.Attn

end
-- ==== Proof.Rows.lean ====
module

public import Idealize.ShloMosaic.Lib.StableHlo.Run
public import Idealize.ShloMosaic.Lib.Pointwise
public import Idealize.ShloMosaic.PureOps.Ideal

/-! Arrays of batches of rows, for any number of batches and rows: a product with a matrix, and the two broadcasts to
such an array, read at an index; and the normalisation of rows by the root of their mean square. -/

@[expose] public section

set_option maxRecDepth 16384

noncomputable section

open Idealize.ShloMosaic Idealize.ShloMosaic.TcCoe Idealize.SL.Sem

/-- A row divided by the root of its mean square and scaled. -/
def Cert.Mix.norm {n : ℕ} (c : EReal) (v g : Fin n → EReal) (d : Fin n) : EReal :=
  v d * Ideal.rsqrt (Ideal.div (∑ d, v d * v d) c + Ideal.ofBits .f32 0x358637BD#32) * g d

namespace Cert.Rows

/-- Batches of rows. -/
abbrev Sq (B L n : ℕ) : Shape := ⟨3, ![B, L, n]⟩

/-- A matrix. -/
abbrev Mat (k n : ℕ) : Shape := ⟨2, ![k, n]⟩

/-- A vector. -/
abbrev Vc (n : ℕ) : Shape := ⟨1, ![n]⟩

/-- A single number. -/
abbrev Pt : Shape := ⟨0, ![]⟩

variable {B L k n : ℕ}

/-- Which axes the product of every row with a matrix sums and keeps. -/
def dims (wf : DotDims.WF (Sq B L k) (Mat k n) (Sq B L n) [2] [0] [0, 1] [1] [] []) : DotDims (Sq B L k) (Mat k n) (Sq B L n) where
  lhsContracting := [2]
  rhsContracting := [0]
  lhsNonContracting := [0, 1]
  rhsNonContracting := [1]
  lhsBatch := []
  rhsBatch := []
  wf := wf

/-- The product of every row with a matrix, at one index. -/
theorem dot_at (wf : DotDims.WF (Sq B L k) (Mat k n) (Sq B L n) [2] [0] [0, 1] [1] [] []) (h : FVec Ideal (Sq B L k) .f32) (w : FVec Ideal (Mat k n) .f32)
    (b : Fin B) (l : Fin L) (f : Fin n) :
    Host.dotGeneral (dims wf) none h w (ix3 b l f) = (∑ d : Fin k, h (ix3 b l d) * w (ix2 d f) : EReal) := by
  refine (Ideal.matmul_apply₁_of (dims wf) (a := 2) rfl (K := k) rfl h w (fun _ => 0) (ix3 b l f) (fun d => ix3 b l d) (fun d => ix2 d f)
    (fun d => ?_) (fun d => ?_)).trans (zero_add _)
  · funext a
    match a with
    | ⟨0, _⟩ => rfl
    | ⟨1, _⟩ => rfl
    | ⟨2, _⟩ => rfl
  · funext a
    match a with
    | ⟨0, _⟩ => rfl
    | ⟨1, _⟩ => rfl

/-- One number for every row, repeated along the row. -/
theorem keep_at {α : Type} (h : (Sq B L 1).BroadcastsInDim (Sq B L n) (![0, 1, 2] : Fin 3 → Fin 3)) (x : (Sq B L 1).Idx → α) (b : Fin B) (l : Fin L) (f : Fin n) :
    broadcastInDim (Sq B L n) ![0, 1, 2] h x (ix3 b l f) = x (ix3 b l 0) := by
  refine congrArg x ?_
  funext a
  match a with
  | ⟨0, _⟩ =>
    dsimp only
    split
    · rename_i e; exact Fin.ext (by have := b.isLt; change B = 1 at e; change 0 = b.val; omega)
    · rfl
  | ⟨1, _⟩ =>
    dsimp only
    split
    · rename_i e; exact Fin.ext (by have := l.isLt; change L = 1 at e; change 0 = l.val; omega)
    · rfl
  | ⟨2, _⟩ => exact Subsingleton.elim (α := Fin 1) _ _

/-- One number for every row, as a column of its own. -/
theorem column_at {α : Type} (h : (Mat B L).BroadcastsInDim (Sq B L 1) (![0, 1] : Fin 2 → Fin 3)) (x : (Mat B L).Idx → α) (b : Fin B) (l : Fin L) (z : Fin 1) :
    broadcastInDim (Sq B L 1) ![0, 1] h x (ix3 b l z) = x (ix2 b l) := by
  refine congrArg x ?_
  funext a
  match a with
  | ⟨0, _⟩ =>
    dsimp only
    split
    · rename_i e; exact Fin.ext (by have := b.isLt; change B = 1 at e; change 0 = b.val; omega)
    · rfl
  | ⟨1, _⟩ =>
    dsimp only
    split
    · rename_i e; exact Fin.ext (by have := l.isLt; change L = 1 at e; change 0 = l.val; omega)
    · rfl

/-- The rows from row `o` on, at one index. -/
theorem from_at {α : Type} {P o : ℕ} (h : (Sq B P n).Slices ![0, o, 0] (Sq B L n)) (x : (Sq B P n).Idx → α) (b : Fin B) (l : Fin L) (f : Fin n) (k : Fin P)
    (hk : k.val = o + l.val) : extractStridedSlice (Sq B L n) ![0, o, 0] x h (ix3 b l f) = x (ix3 b k f) := by
  refine congrArg x ?_
  funext a
  match a with
  | ⟨0, _⟩ => exact Fin.ext (Nat.zero_add b.val)
  | ⟨1, _⟩ => exact Fin.ext hk.symm
  | ⟨2, _⟩ => exact Fin.ext (Nat.zero_add f.val)

/-- A vector repeated for every row. -/
theorem row_at {α : Type} (h0 : (Vc n).BroadcastsInDim (Sq 1 1 n) (![2] : Fin 1 → Fin 3)) (h1 : (Sq 1 1 n).BroadcastsInDim (Sq B L n) (![0, 1, 2] : Fin 3 → Fin 3))
    (v : (Vc n).Idx → α) (b : Fin B) (l : Fin L) (f : Fin n) :
    broadcastInDim (Sq B L n) ![0, 1, 2] h1 (broadcastInDim (Sq 1 1 n) ![2] h0 v) (ix3 b l f) = v (ix1 f) := by
  refine congrArg v ?_
  funext a
  match a with
  | ⟨0, _⟩ =>
    dsimp only
    split
    · rename_i e; exact Fin.ext (by have := f.isLt; change n = 1 at e; change 0 = f.val; omega)
    · refine Fin.ext ?_
      change (if h : n = 1 then (⟨0, by omega⟩ : Fin n) else ⟨f.val, by omega⟩).val = f.val
      split
      · have := f.isLt; change 0 = f.val; omega
      · rfl

/-- The shapes of a normalisation of rows of `n` numbers fit together. -/
structure Fits (B L n : ℕ) : Prop where
  one : 0 < Pt.numel
  sum : (Sq B L n).ReducesTo [2] (Mat B L)
  column : (Mat B L).BroadcastsInDim (Sq B L 1) (![0, 1] : Fin 2 → Fin 3)
  fill : Pt.BroadcastsInDim (Sq B L 1) (![] : Fin 0 → Fin 3)
  keep : (Sq B L 1).BroadcastsInDim (Sq B L n) (![0, 1, 2] : Fin 3 → Fin 3)
  lift : (Vc n).BroadcastsInDim (Sq 1 1 n) (![2] : Fin 1 → Fin 3)
  spread : (Sq 1 1 n).BroadcastsInDim (Sq B L n) (![0, 1, 2] : Fin 3 → Fin 3)

variable (S : Fits B L n)

/-- A vector repeated for every row. -/
def refRow (v : FVec Ideal (Vc n) .f32) : FVec Ideal (Sq B L n) .f32 :=
  broadcastInDim (Sq B L n) ![0, 1, 2] S.spread (broadcastInDim (Sq 1 1 n) ![2] S.lift v)

/-- The mean square of every row, by the row's length `w`, plus a small constant. -/
def refMean (w : BitVec 32) (x : FVec Ideal (Sq B L n) .f32) : FVec Ideal (Sq B L 1) .f32 :=
  addf (Host.divf (broadcastInDim (Sq B L 1) ![0, 1] S.column (Host.reduceAdd (mulf x x) (constant Pt .f32 0x00000000#32) S.sum S.one))
    (broadcastInDim (Sq B L 1) ![] S.fill (constant Pt .f32 w)))
    (broadcastInDim (Sq B L 1) ![] S.fill (constant Pt .f32 0x358637BD#32))

/-- The normalisation of rows by the root of the mean square. -/
def refNorm (w : BitVec 32) (x : FVec Ideal (Sq B L n) .f32) (g : FVec Ideal (Vc n) .f32) : FVec Ideal (Sq B L n) .f32 :=
  mulf (mulf x (broadcastInDim (Sq B L n) ![0, 1, 2] S.keep (Host.rsqrt (refMean S w x)))) (refRow S g)

/-- The mean square of a row at its one index. -/
theorem refMean_at (w : BitVec 32) (x : FVec Ideal (Sq B L n) .f32) (b : Fin B) (l : Fin L) :
    refMean S w x (ix3 b l 0) = (Ideal.div (∑ d : Fin n, x (ix3 b l d) * x (ix3 b l d)) (Ideal.ofBits .f32 w) + Ideal.ofBits .f32 0x358637BD#32 : EReal) := by
  have e : Host.reduceAdd (mulf x x) (constant Pt .f32 0x00000000#32) S.sum S.one (ix2 b l) = (∑ d : Fin n, x (ix3 b l d) * x (ix3 b l d) : EReal) := by
    pointwise
  exact congrArg (fun s : EReal => Ideal.div s _ + _) ((column_at _ _ _ _ _).trans e)

/-- A normalised row at one index. -/
theorem refNorm_at (w : BitVec 32) (x : FVec Ideal (Sq B L n) .f32) (g : FVec Ideal (Vc n) .f32) (b : Fin B) (l : Fin L) (q : Fin n) :
    refNorm S w x g (ix3 b l q) = Cert.Mix.norm (Ideal.ofBits .f32 w) (fun d => x (ix3 b l d)) (fun d => g (ix1 d)) q :=
  congrArg₂ (fun s t : EReal => x (ix3 b l q) * s * t) ((keep_at _ _ _ _ _).trans (congrArg Ideal.rsqrt (refMean_at S w x b l))) (row_at _ _ _ _ _ _)

end Cert.Rows

end
-- ==== Proof.AttnRef.lean ====
module

public import proofs.«01_k».proof.Proof.Rows
public import proofs.«01_k».proof.Proof.Online
public import Idealize.ShloMosaic.Lib.StableHlo.Run
public import Idealize.ShloMosaic.Lib.Pipeline.ValueKit
public import Idealize.ShloMosaic.Lib.Pointwise
public import proofs.«01_k».proof.Proof.Gen.ReferenceIdeal
public import proofs.«01_k».proof.Proof.Gen.Reference7Ideal

/-! The attention's reference, for any number of batches and of positions, each stage read at an index; the references of
the prompt and of the sample batch are this function. -/

@[expose] public section

set_option maxRecDepth 16384

noncomputable section

open Idealize.ShloMosaic Idealize.ShloMosaic.TcCoe Idealize.SL.Sem

namespace Cert.Attn

open Cert.Rows (Sq Pt)
open Cert.Online

/-- One number for every key head, query head, query and key. -/
abbrev Sc (B L : ℕ) : Shape := ⟨5, ![B, 2, 4, L, L]⟩

/-- One number for every key head, query head and query. -/
abbrev Qr (B L : ℕ) : Shape := ⟨4, ![B, 2, 4, L]⟩

/-- The same, as an axis of one number. -/
abbrev Qc (B L : ℕ) : Shape := ⟨5, ![B, 2, 4, L, 1]⟩

/-- Keys or values, head by head. -/
abbrev Kh (B L : ℕ) : Shape := ⟨4, ![B, L, 2, 64]⟩

/-- Queries, key head by key head and query head by query head. -/
abbrev Qh (B L : ℕ) : Shape := ⟨5, ![B, L, 2, 4, 64]⟩

/-- The shapes of the attention fit together. -/
structure Fits (B L : ℕ) : Prop where
  queries : (Sq B L 512).ShapeCasts (Qh B L)
  heads : (Sq B L 128).ShapeCasts (Kh B L)
  turn : (⟨5, ![B, 2, L, L, 4]⟩ : Shape).Transposes [0, 1, 4, 3, 2] (Sc B L)
  fill : Pt.BroadcastsInDim (Sc B L) (![] : Fin 0 → Fin 5)
  along : (Sc B L).ReducesTo [4] (Qr B L)
  one : 0 < Pt.numel
  low : Pt.BroadcastsInDim (Qr B L) (![] : Fin 0 → Fin 4)
  column : (Qr B L).BroadcastsInDim (Qc B L) (![0, 1, 2, 3] : Fin 4 → Fin 5)
  keep : (Qc B L).BroadcastsInDim (Sc B L) (![0, 1, 2, 3, 4] : Fin 5 → Fin 5)
  back : (⟨5, ![B, 2, 64, 4, L]⟩ : Shape).Transposes [0, 4, 1, 3, 2] (Qh B L)
  join : (Qh B L).ShapeCasts (Sq B L 512)
  narrow : FTy.bits .bf16 < FTy.bits .f32
  dotScore : DotDims.WF (Kh B L) (Qh B L) ⟨5, ![B, 2, L, L, 4]⟩ [3] [4] [1] [1, 3] [0, 2] [0, 2]
  dotOut : DotDims.WF (Kh B L) (Sc B L) ⟨5, ![B, 2, 64, 4, L]⟩ [1] [4] [3] [2, 3] [0, 2] [0, 1]

variable {B L : ℕ}

/-- Which axes the product of keys and queries sums and keeps. -/
def dimsScore (wf : DotDims.WF (Kh B L) (Qh B L) ⟨5, ![B, 2, L, L, 4]⟩ [3] [4] [1] [1, 3] [0, 2] [0, 2]) : DotDims (Kh B L) (Qh B L) ⟨5, ![B, 2, L, L, 4]⟩ where
  lhsContracting := [3]
  rhsContracting := [4]
  lhsNonContracting := [1]
  rhsNonContracting := [1, 3]
  lhsBatch := [0, 2]
  rhsBatch := [0, 2]
  wf := wf

/-- Which axes the product of values and weights sums and keeps. -/
def dimsOut (wf : DotDims.WF (Kh B L) (Sc B L) ⟨5, ![B, 2, 64, 4, L]⟩ [1] [4] [3] [2, 3] [0, 2] [0, 1]) : DotDims (Kh B L) (Sc B L) ⟨5, ![B, 2, 64, 4, L]⟩ where
  lhsContracting := [1]
  rhsContracting := [4]
  lhsNonContracting := [3]
  rhsNonContracting := [2, 3]
  lhsBatch := [0, 2]
  rhsBatch := [0, 1]
  wf := wf

/-- A key's head at one index. -/
theorem heads_at {α : Type} (h : (Sq B L 128).ShapeCasts (Kh B L)) (k : (Sq B L 128).Idx → α) (b : Fin B) (n : Fin L) (g : Fin 2) (d : Fin 64) :
    shapeCast (Kh B L) k h (ix4 b n g d) = k (ix3 b n ⟨g.val * 64 + d.val, by omega⟩) := by
  refine shapeCast_apply k h _ _ ?_
  rw [Shape.rowMajor_val_three, Shape.rowMajor_val_four]
  show (b.val * L + n.val) * 128 + (g.val * 64 + d.val) = ((b.val * L + n.val) * 2 + g.val) * 64 + d.val
  omega

/-- A query's head at one index. -/
theorem queries_at {α : Type} (h : (Sq B L 512).ShapeCasts (Qh B L)) (q : (Sq B L 512).Idx → α) (b : Fin B) (l : Fin L) (g : Fin 2) (h' : Fin 4) (d : Fin 64) :
    shapeCast (Qh B L) q h (ix5 b l g h' d) = q (ix3 b l ⟨(g.val * 4 + h'.val) * 64 + d.val, by omega⟩) := by
  refine shapeCast_apply q h _ _ ?_
  rw [Shape.rowMajor_val_three, Shape.rowMajor_val_five]
  show (b.val * L + l.val) * 512 + ((g.val * 4 + h'.val) * 64 + d.val) = (((b.val * L + l.val) * 2 + g.val) * 4 + h'.val) * 64 + d.val
  omega

/-- The heads set side by side, at one index. -/
theorem join_at {α : Type} (h : (Qh B L).ShapeCasts (Sq B L 512)) (x : (Qh B L).Idx → α) (b : Fin B) (l : Fin L) (y : Fin 512) :
    shapeCast (Sq B L 512) x h (ix3 b l y) = x (ix5 b l ⟨y.val / 256, by omega⟩ ⟨y.val / 64 % 4, by omega⟩ ⟨y.val % 64, by omega⟩) := by
  refine shapeCast_apply x h _ _ ?_
  rw [Shape.rowMajor_val_three, Shape.rowMajor_val_five]
  show (((b.val * L + l.val) * 2 + y.val / 256) * 4 + y.val / 64 % 4) * 64 + y.val % 64 = (b.val * L + l.val) * 512 + y.val
  omega

/-- The product of keys and queries at one index. -/
theorem dotScore_at (wf) (k : FVec Ideal (Kh B L) .f32) (q : FVec Ideal (Qh B L) .f32) (b : Fin B) (g : Fin 2) (n l : Fin L) (h : Fin 4) :
    Host.dotGeneral (dimsScore wf) none k q (ix5 b g n l h) = (∑ d : Fin 64, k (ix4 b n g d) * q (ix5 b l g h d) : EReal) := by
  refine (Ideal.matmul_apply₁_of (dimsScore wf) (a := 3) rfl (K := 64) rfl k q (fun _ => 0) (ix5 b g n l h) (fun d => ix4 b n g d) (fun d => ix5 b l g h d)
    (fun d => ?_) (fun d => ?_)).trans (zero_add _)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl
    | ⟨4, _⟩ => rfl

/-- The product of values and weights at one index. -/
theorem dotOut_at (wf) (v : FVec Ideal (Kh B L) .f32) (p : FVec Ideal (Sc B L) .f32) (b : Fin B) (g : Fin 2) (d : Fin 64) (h : Fin 4) (l : Fin L) :
    Host.dotGeneral (dimsOut wf) none v p (ix5 b g d h l) = (∑ n : Fin L, v (ix4 b n g d) * p (ix5 b g h l n) : EReal) := by
  refine (Ideal.matmul_apply₁_of (dimsOut wf) (a := 1) rfl (K := L) rfl v p (fun _ => 0) (ix5 b g d h l) (fun n => ix4 b n g d) (fun n => ix5 b g h l n)
    (fun d => ?_) (fun d => ?_)).trans (zero_add _)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl
    | ⟨4, _⟩ => rfl

/-- One number for every query, repeated for every key. -/
theorem spread_at {α : Type} (h0 : (Qr B L).BroadcastsInDim (Qc B L) (![0, 1, 2, 3] : Fin 4 → Fin 5)) (h1 : (Qc B L).BroadcastsInDim (Sc B L) (![0, 1, 2, 3, 4] : Fin 5 → Fin 5))
    (x : (Qr B L).Idx → α) (b : Fin B) (g : Fin 2) (h : Fin 4) (l n : Fin L) :
    broadcastInDim (Sc B L) ![0, 1, 2, 3, 4] h1 (broadcastInDim (Qc B L) ![0, 1, 2, 3] h0 x) (ix5 b g h l n) = x (ix4 b g h l) := by
  refine (broadcastInDim_apply _ h1 _ _ (ix5 b g h l 0) fun a => ?_).trans (broadcastInDim_apply _ h0 x _ (ix4 b g h l) fun a => ?_)
  · match a with
    | ⟨0, _⟩ => show b.val = if B = 1 then 0 else b.val; split <;> omega
    | ⟨1, _⟩ => rfl
    | ⟨2, _⟩ => rfl
    | ⟨3, _⟩ => show l.val = if L = 1 then 0 else l.val; split <;> omega
    | ⟨4, _⟩ => rfl
  · match a with
    | ⟨0, _⟩ => show b.val = if B = 1 then 0 else b.val; split <;> omega
    | ⟨1, _⟩ => rfl
    | ⟨2, _⟩ => rfl
    | ⟨3, _⟩ => show l.val = if L = 1 then 0 else l.val; split <;> omega

/-- A maximum along the last of five axes, read at an index. -/
theorem reduce_max {n0 n1 n2 n3 n4 : ℕ} (h : (⟨5, ![n0, n1, n2, n3, n4]⟩ : Shape).ReducesTo [4] ⟨4, ![n0, n1, n2, n3]⟩)
    (v : FVec Ideal ⟨5, ![n0, n1, n2, n3, n4]⟩ .f32) (c : FVec Ideal ⟨0, ![]⟩ .f32) (hu) (b : Fin n0) (g : Fin n1) (k : Fin n2) (l : Fin n3) :
    Host.reduce FloatOps.maximumf v c h hu (ix4 b g k l) = Finset.univ.fold max (c (Shape.Idx.first hu)) fun n => v (ix5 b g k l n) := by
  pointwise

/-- The constant the maximum starts from is minus infinity. -/
theorem low_bits : Ideal.ofBits FTy.f32 0xFF800000#32 = (⊥ : EReal) := by simp [Ideal.ofBits, Ideal.ieee]

variable (S : Fits B L)

/-- The reference's scaled scores of every query against every key, head by head. -/
def refScores (q : FVec Ideal (Sq B L 512) .f32) (k : FVec Ideal (Sq B L 128) .f32) : FVec Ideal (Sc B L) .f32 :=
  mulf (transpose (Sc B L) [0, 1, 4, 3, 2] (Host.dotGeneral (dimsScore S.dotScore) none (shapeCast _ k S.heads) (shapeCast _ q S.queries)) S.turn)
    (broadcastInDim (Sc B L) ![] S.fill (constant Pt .f32 0x3E000000#32))

/-- Each row's maximum. -/
def refMax (s : FVec Ideal (Sc B L) .f32) : FVec Ideal (Qr B L) .f32 :=
  Host.reduce FloatOps.maximumf s (constant Pt .f32 0xFF800000#32) S.along S.one

/-- The exponentials of the scores less their row maximum. -/
def refExp (s : FVec Ideal (Sc B L) .f32) (x : FVec Ideal (Qr B L) .f32) : FVec Ideal (Sc B L) .f32 :=
  Host.exp (subf s (broadcastInDim (Sc B L) ![0, 1, 2, 3, 4] S.keep (broadcastInDim (Qc B L) ![0, 1, 2, 3] S.column
    (maximumf (broadcastInDim (Qr B L) ![] S.low (constant Pt .f32 0xFF800000#32)) x))))

/-- The reference's weights: each exponential over its row's sum. -/
def refProbs (p : FVec Ideal (Sc B L) .f32) : FVec Ideal (Sc B L) .f32 :=
  Host.divf p (broadcastInDim (Sc B L) ![0, 1, 2, 3, 4] S.keep (broadcastInDim (Qc B L) ![0, 1, 2, 3] S.column
    (Host.reduceAdd p (constant Pt .f32 0x00000000#32) S.along S.one)))

/-- The reference's result: the weighted sums of the values, heads side by side. -/
def refOut (v : FVec Ideal (Sq B L 128) .f32) (p : FVec Ideal (Sc B L) .f32) : FVec Ideal (Sq B L 512) .bf16 :=
  truncf .bf16 (shapeCast _ (transpose (Qh B L) [0, 4, 1, 3, 2] (Host.dotGeneral (dimsOut S.dotOut) none (shapeCast _ v S.heads) p) S.back) S.join) S.narrow

/-- The reference as one function of its three arguments. -/
def ref (q : FVec Ideal (Sq B L 512) .f32) (k v : FVec Ideal (Sq B L 128) .f32) : FVec Ideal (Sq B L 512) .bf16 :=
  refOut S v (refProbs S (refExp S (refScores S q k) (refMax S (refScores S q k))))

/-- A score of the reference: the product of a query head and its key head, scaled. -/
theorem refScores_at (q : FVec Ideal (Sq B L 512) .f32) (k : FVec Ideal (Sq B L 128) .f32) (b : Fin B) (g : Fin 2) (h : Fin 4) (l n : Fin L) :
    refScores S q k (ix5 b g h l n) = ((∑ d : Fin 64, k (ix3 b n ⟨g.val * 64 + d.val, by omega⟩) * q (ix3 b l ⟨(g.val * 4 + h.val) * 64 + d.val, by omega⟩)) *
      Ideal.ofBits .f32 0x3E000000#32 : EReal) := by
  refine congrArg (fun x : EReal => x * Ideal.ofBits .f32 0x3E000000#32) ?_
  refine Eq.trans (congrArg (Host.dotGeneral (dimsScore S.dotScore) none (shapeCast _ k S.heads) (shapeCast _ q S.queries)) ?_) ((dotScore_at S.dotScore _ _ b g n l h).trans ?_)
  · funext a
    match a with
    | ⟨0, _⟩ => rfl
    | ⟨1, _⟩ => rfl
    | ⟨2, _⟩ => rfl
    | ⟨3, _⟩ => rfl
    | ⟨4, _⟩ => rfl
  · exact Finset.sum_congr rfl fun d _ => congrArg₂ (· * ·) (heads_at _ _ _ _ _ _) (queries_at _ _ _ _ _ _ _)

/-- The reference's largest score of a query. -/
theorem refMax_at (s : FVec Ideal (Sc B L) .f32) (b : Fin B) (g : Fin 2) (h : Fin 4) (l : Fin L) :
    refMax S s (ix4 b g h l) = (Finset.univ.fold max ⊥ fun n => s (ix5 b g h l n) : EReal) := by
  refine (reduce_max _ s _ _ b g h l).trans ?_
  exact congrArg (fun z : EReal => Finset.univ.fold max z fun n => s (ix5 b g h l n)) low_bits

/-- The reference's exponential of a score less the largest. -/
theorem refExp_at (s : FVec Ideal (Sc B L) .f32) (x : FVec Ideal (Qr B L) .f32) (b : Fin B) (g : Fin 2) (h : Fin 4) (l n : Fin L) :
    refExp S s x (ix5 b g h l n) = (Ideal.exp (s (ix5 b g h l n) - x (ix4 b g h l)) : EReal) := by
  refine congrArg (fun z : EReal => Ideal.exp (s (ix5 b g h l n) - z)) ((spread_at _ _ _ b g h l n).trans ?_)
  show max (Ideal.ofBits FTy.f32 0xFF800000#32) (x (ix4 b g h l) : EReal) = x (ix4 b g h l)
  rw [low_bits, max_eq_right bot_le]

/-- The reference's weight of a key: its exponential over the sum of all. -/
theorem refProbs_at (p : FVec Ideal (Sc B L) .f32) (b : Fin B) (g : Fin 2) (h : Fin 4) (l n : Fin L) :
    refProbs S p (ix5 b g h l n) = (Ideal.div (p (ix5 b g h l n)) (∑ n : Fin L, p (ix5 b g h l n)) : EReal) := by
  refine congrArg (Ideal.div (p (ix5 b g h l n))) ((spread_at _ _ _ b g h l n).trans ?_)
  pointwise

/-- The reference's result: the values weighted and summed. -/
theorem refOut_at (v : FVec Ideal (Sq B L 128) .f32) (p : FVec Ideal (Sc B L) .f32) (b : Fin B) (l : Fin L) (y : Fin 512) :
    refOut S v p (ix3 b l y) = (∑ n : Fin L, v (ix3 b n ⟨y.val / 256 * 64 + y.val % 64, by omega⟩) *
      p (ix5 b ⟨y.val / 256, by omega⟩ ⟨y.val / 64 % 4, by omega⟩ l n) : EReal) := by
  have e : refOut S v p (ix3 b l y) = shapeCast _ (transpose (Qh B L) [0, 4, 1, 3, 2] (Host.dotGeneral (dimsOut S.dotOut) none (shapeCast _ v S.heads) p) S.back) S.join (ix3 b l y) := rfl
  rw [e, join_at]
  refine Eq.trans (congrArg (Host.dotGeneral (dimsOut S.dotOut) none (shapeCast _ v S.heads) p) ?_) ((dotOut_at S.dotOut _ _ b ⟨y.val / 256, by omega⟩ ⟨y.val % 64, by omega⟩ ⟨y.val / 64 % 4, by omega⟩ l).trans ?_)
  · funext a
    match a with
    | ⟨0, _⟩ => rfl
    | ⟨1, _⟩ => rfl
    | ⟨2, _⟩ => rfl
    | ⟨3, _⟩ => rfl
    | ⟨4, _⟩ => rfl
  · exact Finset.sum_congr rfl fun n _ => congrArg (· * _) (heads_at _ _ _ _ _ _)

/-- A value whose magnitude is below infinity is a real number. -/
theorem abs_lt_top (x : EReal) (h : BitVec.ofBool (decide (FloatOps.absf (F := Ideal) (φ := .f32) x < Ideal.ofBits FTy.f32 0x7F800000#32)) = 1#1) : ∃ r : ℝ, x = (r : EReal) := by
  have e : Ideal.ofBits FTy.f32 0x7F800000#32 = (⊤ : EReal) := by simp [Ideal.ofBits, Ideal.ieee]
  rw [e] at h
  have h2 : FloatOps.absf (F := Ideal) (φ := .f32) x < (⊤ : EReal) := by
    by_contra hn
    simp [hn] at h
  induction x using EReal.rec with
  | bot => exact absurd h2 (by simp [FloatOps.absf])
  | top => exact absurd h2 (by simp [FloatOps.absf])
  | coe r => exact ⟨r, rfl⟩

/-- The score scale is one eighth. -/
theorem eighth : Ideal.ofBits FTy.f32 0x3E000000#32 = ((1 / 8 : ℝ) : EReal) := by
  simp [Ideal.ofBits, Ideal.ieee, -EReal.coe_mul]; norm_num

/-- A product with a scaled query is the scaled product: every factor is real. -/
theorem scale_out {n : ℕ} (f g : Fin n → EReal) (hf : ∀ d, ∃ r : ℝ, f d = (r : EReal)) (hg : ∀ d, ∃ r : ℝ, g d = (r : EReal)) (c : ℝ) :
    ∑ d, f d * (g d * (c : EReal)) = (∑ d, f d * g d) * (c : EReal) ∧ ∃ r : ℝ, (∑ d, f d * g d) * (c : EReal) = (r : EReal) := by
  choose f' hf using hf
  choose g' hg using hg
  have e1 : ∀ d, f d * (g d * (c : EReal)) = ((f' d * (g' d * c) : ℝ) : EReal) := fun d => by rw [hf, hg]; push_cast; rfl
  have e2 : ∀ d, f d * g d = ((f' d * g' d : ℝ) : EReal) := fun d => by rw [hf, hg]; push_cast; rfl
  simp only [e1, e2, coe_sum]
  rw [← EReal.coe_mul]
  refine ⟨?_, _, rfl⟩
  rw [Finset.sum_mul]
  exact congrArg _ (Finset.sum_congr rfl fun d _ => by ring)

/-- A contraction over 128 columns of which one half is zero. -/
theorem half_left (f : Fin 128 → EReal) (g : Fin 64 → EReal) (h0 : ∀ d : Fin 64, f ⟨d.val, by omega⟩ = g d) (h1 : ∀ d : Fin 64, f ⟨64 + d.val, by omega⟩ = 0) :
    ∑ d, f d = ∑ d, g d := by
  refine (Fin.sum_univ_add (a := 64) (b := 64) f).trans ?_
  exact (congrArg₂ (· + ·) (Finset.sum_congr rfl fun d _ => h0 d) (Finset.sum_eq_zero fun d _ => h1 d)).trans (add_zero _)

/-- A contraction over 128 columns of which the other half is zero. -/
theorem half_right (f : Fin 128 → EReal) (g : Fin 64 → EReal) (h0 : ∀ d : Fin 64, f ⟨d.val, by omega⟩ = 0) (h1 : ∀ d : Fin 64, f ⟨64 + d.val, by omega⟩ = g d) :
    ∑ d, f d = ∑ d, g d := by
  refine (Fin.sum_univ_add (a := 64) (b := 64) f).trans ?_
  exact (congrArg₂ (· + ·) (Finset.sum_eq_zero fun d _ => h0 d) (Finset.sum_congr rfl fun d _ => h1 d)).trans (zero_add _)

variable (q : FVec Ideal (Sq B L 512) .f32) (k v : FVec Ideal (Sq B L 128) .f32)
  (hq : ∀ b l y, ∃ r : ℝ, q (ix3 b l y) = (r : EReal)) (hk : ∀ b l y, ∃ r : ℝ, k (ix3 b l y) = (r : EReal))

/-- The reference's score of one query against one key. -/
def score (b : Fin B) (l : Fin L) (y : Fin 512) (n : Fin L) : EReal :=
  refScores S q k (ix5 b ⟨y.val / 256, by omega⟩ ⟨y.val / 64 % 4, by omega⟩ l n)

include hq hk in
/-- Every score of the reference is real. -/
theorem score_real (b : Fin B) (l : Fin L) (y : Fin 512) (n : Fin L) : ∃ r : ℝ, score S q k b l y n = (r : EReal) := by
  unfold score
  rw [refScores_at, eighth]
  exact (scale_out _ _ (fun d => hk _ _ _) (fun d => hq _ _ _) _).2

include hq hk in
/-- The reference's result at an index: the softmax-weighted sum of the values, over any real shift. -/
theorem ref_at (b : Fin B) (l : Fin L) (y : Fin 512) : ∃ M : ℝ, ref S q k v (ix3 b l y)
    = (∑ n : Fin L, v (ix3 b n ⟨y.val / 256 * 64 + y.val % 64, by omega⟩) *
        Ideal.div (Ideal.exp (score S q k b l y n - (M : EReal))) (∑ n : Fin L, Ideal.exp (score S q k b l y n - (M : EReal))) : EReal) := by
  haveI : Nonempty (Fin L) := ⟨l⟩
  choose s hs using fun n => score_real S q k hq hk b l y n
  obtain ⟨M, hM⟩ := fold_max_coe s
  refine ⟨M, ?_⟩
  have e : ∀ n, refExp S (refScores S q k) (refMax S (refScores S q k)) (ix5 b ⟨y.val / 256, by omega⟩ ⟨y.val / 64 % 4, by omega⟩ l n)
      = Ideal.exp (score S q k b l y n - (M : EReal)) := fun n => by
    refine (refExp_at S _ _ _ _ _ _ _).trans (congrArg (fun z : EReal => Ideal.exp (score S q k b l y n - z)) ?_)
    refine (refMax_at S _ _ _ _ _).trans ?_
    rw [← hM]
    exact congrArg (fun f : Fin L → EReal => Finset.univ.fold max ⊥ f) (funext hs)
  unfold ref
  refine (refOut_at S _ _ _ _ _).trans (Finset.sum_congr rfl fun n _ => congrArg _ ?_)
  refine (refProbs_at S _ _ _ _ _ _).trans ?_
  exact congrArg₂ Ideal.div (e n) (Finset.sum_congr rfl fun n _ => e n)

section prompt

open Cert.ReferenceIdeal Cert.ReferenceIdeal.Gen

/-- The shapes of the prompt batch fit. -/
theorem prompt : Fits 8 8192 where
  queries := shapeCasts_S8x8192x512_S8x8192x2x4x64
  heads := shapeCasts_S8x8192x128_S8x8192x2x64
  turn := transposes_S8x2x8192x8192x4_S8x2x4x8192x8192_0_1_4_3_2
  fill := bcast_S_S8x2x4x8192x8192
  along := reducesTo_S8x2x4x8192x8192_S8x2x4x8192_d4
  one := h_S_
  low := bcast_S_S8x2x4x8192
  column := bcast_S8x2x4x8192_S8x2x4x8192x1_0_1_2_3
  keep := bcast_S8x2x4x8192x1_S8x2x4x8192x8192_0_1_2_3_4
  back := transposes_S8x2x64x4x8192_S8x8192x2x4x64_0_4_1_3_2
  join := shapeCasts_S8x8192x2x4x64_S8x8192x512
  narrow := bitsLt_bf16_f32
  dotScore := dot_S8x8192x2x64_S8x8192x2x4x64_S8x2x8192x8192x4_3_4_1_13_02_02_wf
  dotOut := dot_S8x8192x2x64_S8x2x4x8192x8192_S8x2x64x4x8192_1_4_3_23_02_01_wf

end prompt

section sample

open Cert.Reference7Ideal Cert.Reference7Ideal.Gen

/-- The shapes of the sample batch fit. -/
theorem sample : Fits 1 16384 where
  queries := shapeCasts_S1x16384x512_S1x16384x2x4x64
  heads := shapeCasts_S1x16384x128_S1x16384x2x64
  turn := transposes_S1x2x16384x16384x4_S1x2x4x16384x16384_0_1_4_3_2
  fill := bcast_S_S1x2x4x16384x16384
  along := reducesTo_S1x2x4x16384x16384_S1x2x4x16384_d4
  one := h_S_
  low := bcast_S_S1x2x4x16384
  column := bcast_S1x2x4x16384_S1x2x4x16384x1_0_1_2_3
  keep := bcast_S1x2x4x16384x1_S1x2x4x16384x16384_0_1_2_3_4
  back := transposes_S1x2x64x4x16384_S1x16384x2x4x64_0_4_1_3_2
  join := shapeCasts_S1x16384x2x4x64_S1x16384x512
  narrow := bitsLt_bf16_f32
  dotScore := dot_S1x16384x2x64_S1x16384x2x4x64_S1x2x16384x16384x4_3_4_1_13_02_02_wf
  dotOut := dot_S1x16384x2x64_S1x2x4x16384x16384_S1x2x64x4x16384_1_4_3_23_02_01_wf

end sample

end Cert.Attn

end
-- ==== Proof.AttnBlock.lean ====
module

public import proofs.«01_k».proof.Proof.Attn
public import proofs.«01_k».proof.Proof.AttnRef
public import Idealize.ShloMosaic.Lib.StableHlo.Run
public import Idealize.ShloMosaic.Lib.Pipeline.ValueKit
public import Idealize.ShloMosaic.Lib.Pointwise

/-! One block of the attention's output against the reference, for any number of batches and of positions. -/

@[expose] public section

set_option maxRecDepth 16384

noncomputable section

open Idealize.ShloMosaic Idealize.ShloMosaic.TcCoe Idealize.SL.Sem

namespace Cert.Attn

open Cert.Rows (Sq Pt)
open Cert.Online

variable {B L : ℕ}

/-- The shapes of the padded keys fit together. -/
structure FitsKeys (B L : ℕ) : Prop where
  first : (Sq B L 128).Slices ![0, 0, 0] (Sq B L 64)
  second : (Sq B L 128).Slices ![0, 0, 64] (Sq B L 64)
  zero : Pt.BroadcastsInDim (Sq B L 64) (![] : Fin 0 → Fin 3)
  beside : Shape.Concatenates [Sq B L 64, Sq B L 64, Sq B L 64, Sq B L 64, Sq B L 64, Sq B L 64, Sq B L 64, Sq B L 64] (Sq B L 512) 2
  narrow : FTy.bits .bf16 < FTy.bits .f32

variable (S : Fits B L) (Z : FitsKeys B L)

/-- The two halves of the keys, each beside a block of zeros on either side. -/
def padded (k : FVec Ideal (Sq B L 128) .f32) : FVec Ideal (Sq B L 512) .bf16 :=
  truncf .bf16 (concatenate (Sq B L 512) 2 [⟨Sq B L 64, extractStridedSlice (Sq B L 64) ![0, 0, 0] k Z.first⟩,
    ⟨Sq B L 64, broadcastInDim (Sq B L 64) ![] Z.zero (constant Pt .f32 0x00000000#32)⟩,
    ⟨Sq B L 64, broadcastInDim (Sq B L 64) ![] Z.zero (constant Pt .f32 0x00000000#32)⟩,
    ⟨Sq B L 64, extractStridedSlice (Sq B L 64) ![0, 0, 0] k Z.first⟩,
    ⟨Sq B L 64, extractStridedSlice (Sq B L 64) ![0, 0, 64] k Z.second⟩,
    ⟨Sq B L 64, broadcastInDim (Sq B L 64) ![] Z.zero (constant Pt .f32 0x00000000#32)⟩,
    ⟨Sq B L 64, broadcastInDim (Sq B L 64) ![] Z.zero (constant Pt .f32 0x00000000#32)⟩,
    ⟨Sq B L 64, extractStridedSlice (Sq B L 64) ![0, 0, 64] k Z.second⟩]
    Z.beside) Z.narrow

/-- A lane of the padded keys that holds a key. -/
theorem padded_key (k : FVec Ideal (Sq B L 128) .f32) (b : Fin B) (l : Fin L) (y : Fin 512) (h : y.val / 64 % 4 = 0 ∨ y.val / 64 % 4 = 3) :
    padded Z k (ix3 b l y) = (k (ix3 b l ⟨y.val / 256 * 64 + y.val % 64, by omega⟩) : EReal) := by
  pointwise [padded]
  split_ifs <;> try (exfalso; omega)
  all_goals
    refine congrArg k (funext fun a => Fin.ext ?_)
    match a with
    | ⟨0, _⟩ => exact Nat.zero_add _
    | ⟨1, _⟩ => exact Nat.zero_add _
    | ⟨2, _⟩ =>
      simp [Shape.Idx.norm]
      omega

/-- A lane of the padded keys that holds zero. -/
theorem padded_zero (k : FVec Ideal (Sq B L 128) .f32) (b : Fin B) (l : Fin L) (y : Fin 512) (h : ¬ (y.val / 64 % 4 = 0 ∨ y.val / 64 % 4 = 3)) :
    padded Z k (ix3 b l y) = (0 : EReal) := by
  pointwise [padded]
  split_ifs <;> first | rfl | (exfalso; omega)

variable (q : FVec Ideal (Sq B L 512) .f32) (k v : FVec Ideal (Sq B L 128) .f32)
  (hq : ∀ b l y, ∃ r : ℝ, q (ix3 b l y) = (r : EReal)) (hk : ∀ b l y, ∃ r : ℝ, k (ix3 b l y) = (r : EReal))

include hq hk in
/-- The kernel's score of a head whose keys stand in the left half of the padded block. -/
theorem score_left (x : Fin 128 → EReal) (z : Fin 128 → EReal) (b : Fin B) (l : Fin L) (J : Fin 4) (n : Fin L)
    (y : Fin 512) (hy : y.val / 64 = 2 * J.val)
    (hx : ∀ d : Fin 128, x d = padded Z k (ix3 b n ⟨256 * (J.val / 2) + d.val, by omega⟩))
    (hz : ∀ d : Fin 128, z d = (q (ix3 b l ⟨J.val * 128 + d.val, by omega⟩) * Ideal.ofBits .f32 0x3E000000#32 : EReal)) :
    ∑ d, x d * z d = score S q k b l y n := by
  refine (half_left (fun d => x d * z d) (fun d => k (ix3 b n ⟨y.val / 256 * 64 + d.val, by omega⟩) *
      (q (ix3 b l ⟨(y.val / 256 * 4 + y.val / 64 % 4) * 64 + d.val, by omega⟩) * Ideal.ofBits .f32 0x3E000000#32)) (fun d => ?_) (fun d => ?_)).trans ?_
  · rw [hx, hz, padded_key Z _ _ _ _ (.inl (by dsimp only; omega))]
    refine congrArg₂ (· * ·) (congrArg k (congrArg (ix3 b n) (Fin.ext ?_))) (congrArg (· * _) (congrArg q (congrArg (ix3 b l) (Fin.ext ?_)))) <;> dsimp only <;> omega
  · rw [hx, padded_zero Z _ _ _ _ (by dsimp only; omega), zero_mul]
  · unfold score
    rw [refScores_at, eighth]
    exact (scale_out _ _ (fun d => hk _ _ _) (fun d => hq _ _ _) _).1

include hq hk in
/-- The kernel's score of a head whose keys stand in the right half of the padded block. -/
theorem score_right (x : Fin 128 → EReal) (z : Fin 128 → EReal) (b : Fin B) (l : Fin L) (J : Fin 4) (n : Fin L)
    (y : Fin 512) (hy : y.val / 64 = 2 * J.val + 1)
    (hx : ∀ d : Fin 128, x d = padded Z k (ix3 b n ⟨256 * (J.val / 2) + 128 + d.val, by omega⟩))
    (hz : ∀ d : Fin 128, z d = (q (ix3 b l ⟨J.val * 128 + d.val, by omega⟩) * Ideal.ofBits .f32 0x3E000000#32 : EReal)) :
    ∑ d, x d * z d = score S q k b l y n := by
  refine (half_right (fun d => x d * z d) (fun d => k (ix3 b n ⟨y.val / 256 * 64 + d.val, by omega⟩) *
      (q (ix3 b l ⟨(y.val / 256 * 4 + y.val / 64 % 4) * 64 + d.val, by omega⟩) * Ideal.ofBits .f32 0x3E000000#32)) (fun d => ?_) (fun d => ?_)).trans ?_
  · rw [hx, padded_zero Z _ _ _ _ (by dsimp only; omega), zero_mul]
  · rw [hx, hz, padded_key Z _ _ _ _ (.inr (by dsimp only; omega))]
    refine congrArg₂ (· * ·) (congrArg k (congrArg (ix3 b n) (Fin.ext ?_))) (congrArg (· * _) (congrArg q (congrArg (ix3 b l) (Fin.ext ?_)))) <;> dsimp only <;> omega
  · unfold score
    rw [refScores_at, eighth]
    exact (scale_out _ _ (fun d => hk _ _ _) (fun d => hq _ _ _) _).1

include hq hk in
/-- A block that a sweep over the scaled queries, the padded keys and the transposed values leaves is cut from the reference. -/
theorem swept_ref {sg : RefSig} {κ : Kind} {sp : Space} {v8 v9 : View sg κ sp Cert.KernelIdeal.S2x1x512 .f32} {v10 : View sg κ sp Cert.KernelIdeal.S2x64x512 .f32}
    {T : ℕ} {hL : T * 512 = L} {x0 : FVec Ideal Cert.KernelIdeal.S1x512x128 .bf16} {x1 x2 : FVec Ideal ⟨3, ![1, L, 128]⟩ .bf16} {x3 : FVec Ideal ⟨3, ![1, 64, L]⟩ .bf16}
    {o : FVec Ideal Cert.KernelIdeal.S1x512x128 .bf16} (h : Swept v8 v9 v10 hL x0 x1 x2 x3 o) (hT : 0 < T)
    (b : Fin B) (l : Fin L) (J : Fin 4) (r : Fin 512) (y : Fin 128)
    (hz : ∀ d : Fin 128, x0 (ix3 0 r d) = (q (ix3 b l ⟨J.val * 128 + d.val, by omega⟩) * Ideal.ofBits .f32 0x3E000000#32 : EReal))
    (hx1 : ∀ (n : Fin L) (d : Fin 128), x1 (ix3 0 n d) = padded Z k (ix3 b n ⟨256 * (J.val / 2) + d.val, by omega⟩))
    (hx2 : ∀ (n : Fin L) (d : Fin 128), x2 (ix3 0 n d) = padded Z k (ix3 b n ⟨256 * (J.val / 2) + 128 + d.val, by omega⟩))
    (hv : ∀ (e : Fin 64) (n : Fin L), x3 (ix3 0 e n) = v (ix3 b n ⟨J.val / 2 * 64 + e.val, by omega⟩)) :
    o (ix3 0 r y) = ref S q k v (ix3 b l ⟨J.val * 128 + y.val, by omega⟩) := by
  obtain ⟨M, hM⟩ := ref_at S q k v hq hk b l ⟨J.val * 128 + y.val, by omega⟩
  refine Eq.trans ?_ hM.symm
  have hs : ∀ n, ∃ s : ℝ, score S q k b l ⟨J.val * 128 + y.val, by omega⟩ n = (s : EReal) := fun n => score_real S q k hq hk _ _ _ n
  by_cases hy : y.val < 64
  · have e : ∀ n : Fin L, (∑ d : Fin 128, x1 (ix3 0 n d) * x0 (ix3 0 r d) : EReal) = score S q k b l ⟨J.val * 128 + y.val, by omega⟩ n := fun n =>
      score_left S Z q k hq hk _ _ b l J n ⟨J.val * 128 + y.val, by omega⟩ (by dsimp only; omega) (hx1 n) hz
    refine (swept_softmax h hT r y x1 ⟨y.val, hy⟩ (.inl ⟨hy, rfl, rfl⟩) (fun n => ?_) M).trans ?_
    · exact (hs n).imp fun s hs => (e n).trans hs
    · exact congrArg₂ (fun (v : Fin L → EReal) (s : Fin L → EReal) => ∑ n, v n * Ideal.div (Ideal.exp (s n - (M : EReal))) (∑ n, Ideal.exp (s n - (M : EReal))))
        (funext fun n => (hv _ n).trans (congrArg v (congrArg (ix3 b n) (Fin.ext (by dsimp only; omega))))) (funext e)
  · have e : ∀ n : Fin L, (∑ d : Fin 128, x2 (ix3 0 n d) * x0 (ix3 0 r d) : EReal) = score S q k b l ⟨J.val * 128 + y.val, by omega⟩ n := fun n =>
      score_right S Z q k hq hk _ _ b l J n ⟨J.val * 128 + y.val, by omega⟩ (by dsimp only; omega) (hx2 n) hz
    refine (swept_softmax h hT r y x2 ⟨y.val - 64, by omega⟩ (.inr ⟨by omega, rfl, by dsimp only; omega⟩) (fun n => ?_) M).trans ?_
    · exact (hs n).imp fun s hs => (e n).trans hs
    · exact congrArg₂ (fun (v : Fin L → EReal) (s : Fin L → EReal) => ∑ n, v n * Ideal.div (Ideal.exp (s n - (M : EReal))) (∑ n, Ideal.exp (s n - (M : EReal))))
        (funext fun n => (hv _ n).trans (congrArg v (congrArg (ix3 b n) (Fin.ext (by dsimp only; omega))))) (funext e)

end Cert.Attn

end
-- ==== Proof.AttnValue.lean ====
module

public import proofs.«01_k».proof.Proof.Gen.KernelIdeal.Value
public import proofs.«01_k».proof.Proof.AttnOut
public import proofs.«01_k».proof.Proof.AttnBlock
public import proofs.«01_k».proof.Proof.Gen.Pre_finite
public import proofs.«01_k».proof.Defs
public import Idealize.ShloMosaic.Lib.StableHlo.Run
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

open Cert.Attn Cert.Online

/-- The shapes of the prompt batch's padded keys fit. -/
theorem keysFit : FitsKeys 8 8192 where
  first := slices_S8x8192x128_S8x8192x64_0_0_0
  second := slices_S8x8192x128_S8x8192x64_0_0_64
  zero := bcast_S_S8x8192x64
  beside := concatenates_S8x8192x64_S8x8192x64_S8x8192x64_S8x8192x64_S8x8192x64_S8x8192x64_S8x8192x64_S8x8192x64_S8x8192x512_d2
  narrow := bitsLt_bf16_f32

section final

variable (m : (ℓ : Loc nD τ sig) → Buf (Elt Ideal) ℓ)

/-- The queries that the call takes are the arguments scaled. -/
theorem qs_at (c : Dev nD) (q : FVec Ideal S8x8192x512 .f32) (hq : q = m ((c : Thread nD τ).loc main_arg0)) (b : Fin 8) (l : Fin 8192) (y : Fin 512) :
    V m c main_v2 (ix3 b l y) = (q (ix3 b l y) * Ideal.ofBits .f32 0x3E000000#32 : EReal) := by
  subst hq
  entry_read
  pointwise

/-- The values that the call takes are the arguments transposed. -/
theorem vt_at (c : Dev nD) (v : FVec Ideal S8x8192x128 .f32) (hv : v = m ((c : Thread nD τ).loc main_arg2)) (b : Fin 8) (l : Fin 8192) (y : Fin 128) :
    V m c main_v9 (ix3 b y l) = (v (ix3 b l y) : EReal) := by
  subst hv
  entry_read
  pointwise

/-- The keys that the call takes are the padded arguments. -/
theorem padded_entry (c : Dev nD) (k : FVec Ideal S8x8192x128 .f32) (hv : k = m ((c : Thread nD τ).loc main_arg1)) : V m c main_v7 = padded keysFit k := by
  subst hv
  unfold V
  after_results_simp
  dsimp only [Matrix.cons_val]
  rfl

/-- Which block of each array a grid point reads or writes. -/
theorem idx : ∀ t : Fin cfg0.N, win0_0.index t = ![t.val / 64, t.val % 16, t.val / 16 % 4] ∧ win0_1.index t = ![t.val / 64, 0, 2 * ((t.val / 16 % 4) / 2)]
    ∧ win0_2.index t = ![t.val / 64, 0, 2 * ((t.val / 16 % 4) / 2) + 1] ∧ win0_3.index t = ![t.val / 64, (t.val / 16 % 4) / 2, 0]
    ∧ win0_4.index t = ![t.val / 64, t.val % 16, t.val / 16 % 4] ∧ t.val / 64 < 8 :=
  (by decide +kernel : ∀ t : Fin grid0.N, _)

/-- What a grid point leaves in its output block is the reference's result there. -/
theorem point (c : Dev nD) (q : FVec Ideal S8x8192x512 .f32) (k v : FVec Ideal S8x8192x128 .f32)
    (hq : ∀ b l y, ∃ r : ℝ, q (ix3 b l y) = (r : EReal)) (hk : ∀ b l y, ∃ r : ℝ, k (ix3 b l y) = (r : EReal))
    (eq : q = m ((c : Thread nD τ).loc main_arg0)) (ek : k = m ((c : Thread nD τ).loc main_arg1)) (ev : v = m ((c : Thread nD τ).loc main_arg2))
    (t : Fin cfg0.N) (r : Fin 512) (y : Fin 128) :
    outsAt0 m c t (ix3 0 r y) = ref Cert.Attn.prompt q k v (ix3 ⟨t.val / 64, (idx t).2.2.2.2.2⟩ ⟨t.val % 16 * 512 + r.val, by omega⟩ ⟨t.val / 16 % 4 * 128 + y.val, by omega⟩) := by
  unfold outsAt0
  obtain ⟨i0, i1, i2, i3, i4, i5⟩ := idx t
  refine swept_ref Cert.Attn.prompt keysFit q k v hq hk (swept _ _ _ _ _ _ _ _ _ _ _ _ _ _ _ _ _ _ _ _ _ _) (by omega) ⟨t.val / 64, i5⟩ ⟨t.val % 16 * 512 + r.val, by omega⟩ ⟨t.val / 16 % 4, by omega⟩ r y
    (fun d => ?_) (fun n d => ?_) (fun n d => ?_) (fun e n => ?_)
  · rw [← qs_at m c q eq]
    blk_ext [iblk, i0]
  · rw [← padded_entry m c k ek]
    blk_ext [iblk, i1]
  · rw [← padded_entry m c k ek]
    blk_ext [iblk, i2]
  · rw [← vt_at m c v ev]
    blk_ext [iblk, i3]

/-- The result array of the kernel is the reference's function of the arguments. -/
theorem final (c : Dev nD) (q : FVec Ideal S8x8192x512 .f32) (k v : FVec Ideal S8x8192x128 .f32)
    (hq : ∀ b l y, ∃ r : ℝ, q (ix3 b l y) = (r : EReal)) (hk : ∀ b l y, ∃ r : ℝ, k (ix3 b l y) = (r : EReal))
    (eq : q = m ((c : Thread nD τ).loc main_arg0)) (ek : k = m ((c : Thread nD τ).loc main_arg1)) (ev : v = m ((c : Thread nD τ).loc main_arg2)) :
    (dats m 0 c).arrAt 4 (cfgs 0).N = ref Cert.Attn.prompt q k v := by
  refine (dats m 0 c).arrAt_eq_of_covers 4 _ (by decide +kernel) fun t hf y => ?_
  blk_simp; rw [after0_4]
  have e := point m c q k v hq hk eq ek ev t (y 1) (y 2)
  obtain ⟨i0, i1, i2, i3, i4, i5⟩ := idx t
  refine Eq.trans (congrArg (outsAt0 m c t) ?_) (e.trans (congrArg (ref Cert.Attn.prompt q k v) ?_))
  · blk_ext
  · blk_ext [i4]

/-- The precondition says that the queries and keys are real numbers. -/
theorem finite_real (q : FVec Ideal S8x8192x512 .f32) (k v : FVec Ideal S8x8192x128 .f32)
    (h : (Cert.Pre_finite.fn (F := Ideal) q k v).1 = (fun _ => 1#1) ∧ (Cert.Pre_finite.fn (F := Ideal) q k v).2 = (fun _ => 1#1)) :
    (∀ b l y, ∃ r : ℝ, q (ix3 b l y) = (r : EReal)) ∧ (∀ b l y, ∃ r : ℝ, k (ix3 b l y) = (r : EReal)) := by
  refine ⟨fun b l y => ?_, fun b l y => ?_⟩
  · have h1 := congrFun h.1 (ix3 b l y)
    unfold Cert.Pre_finite.fn at h1
    pointwise at h1
    exact abs_lt_top _ h1
  · have h1 := congrFun h.2 (ix3 b l y)
    unfold Cert.Pre_finite.fn at h1
    pointwise at h1
    exact abs_lt_top _ h1

end final

end Cert.KernelIdeal.Attn

end
-- ==== Proof.AttnSample.lean ====
module

public import proofs.«01_k».proof.Proof.Gen.Kernel7Ideal.Value
public import proofs.«01_k».proof.Proof.AttnBlock
public import proofs.«01_k».proof.Proof.Gen.Pre_finite7
public import proofs.«01_k».proof.Defs
public import Idealize.ShloMosaic.Lib.StableHlo.Run
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Kernel7Ideal.Attn

open Cert.Kernel7Ideal Cert.Kernel7Ideal.Gen

open Cert.Attn Cert.Online

section out

variable (c : Dev nD) (i : grid0.Coords) (arg3 : Memref sig .tc .vmem S1x512x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x64x16384 .bf16) (harg6 : arg6.IsWhole) (arg7 : Memref sig .tc .vmem S1x512x128 .bf16) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S2x64x512 .f32) (harg10 : arg10.IsWhole)
  (x0 : Vec Ideal S1x512x128 .bf16) (x1 x2 : Vec Ideal S1x16384x128 .bf16) (x3 : Vec Ideal S1x64x16384 .bf16)

/-- The loop runs thirty-two times. -/
theorem trips_eq : k0_t1_loop.trips = 32 := by decide +kernel

/-- The stores of all trips before trip `n` of the loop over the keys. -/
def stores (n : ℕ) : List (View.Piece (Elt Ideal) S2x1x512 .f32) × List (View.Piece (Elt Ideal) S2x1x512 .f32) × List (View.Piece (Elt Ideal) S2x64x512 .f32) :=
  pb_k0_t1 (F := Ideal) Variants.none c none i arg3 harg3 arg4 harg4 arg5 harg5 arg6 harg6 arg7 harg7 arg8 harg8 arg9 harg9 arg10 harg10
    (View.readAt (Elt Ideal) arg3.view (Rect.unit (s := S1x512x128) ![0, 0, 0] S1x512x128.size Gen.inb_S1x512x128_S1x512x128_0_0_0).toLoadRect (harg3.unread x0))
    (harg4.unread x1) (harg5.unread x2) (harg6.unread x3) (start8 arg8.view) (start9 arg9.view) (start10 arg10.view) n

/-- The queries that the body loads are its whole block. -/
theorem query_read : View.readAt (Elt Ideal) arg3.view (Rect.unit (s := S1x512x128) ![0, 0, 0] S1x512x128.size Gen.inb_S1x512x128_S1x512x128_0_0_0).toLoadRect (harg3.unread x0) = x0 := by
  funext j
  refine (readAt_at (z := S1x512x128.size) arg3.view (harg3.unread x0) _ rfl j j fun a => ?_).trans ?_
  · fin_cases a <;> simp
  · rw [harg3.read_unread]

/-- The output block is what a sweep over the keys and values leaves. -/
theorem swept : Swept arg8.view arg9.view arg10.view (show 32 * 512 = 16384 from rfl) x0 x1 x2 x3
    (out0_A_4 (F := Ideal) c i arg3 harg3 arg4 harg4 arg5 harg5 arg6 harg6 arg7 harg7 arg8 harg8 arg9 harg9 arg10 harg10 x0 x1 x2 x3) := by
  refine ⟨fun n => arg8.view.writes (Elt Ideal) (start8 arg8.view) (stores c i arg3 harg3 arg4 harg4 arg5 harg5 arg6 harg6 arg7 harg7 arg8 harg8 arg9 harg9 arg10 harg10 x0 x1 x2 x3 n).1,
    fun n => arg9.view.writes (Elt Ideal) (start9 arg9.view) (stores c i arg3 harg3 arg4 harg4 arg5 harg5 arg6 harg6 arg7 harg7 arg8 harg8 arg9 harg9 arg10 harg10 x0 x1 x2 x3 n).2.1,
    fun n => arg10.view.writes (Elt Ideal) (start10 arg10.view) (stores c i arg3 harg3 arg4 harg4 arg5 harg5 arg6 harg6 arg7 harg7 arg8 harg8 arg9 harg9 arg10 harg10 x0 x1 x2 x3 n).2.2,
    ⟨rfl, rfl, rfl⟩, fun k => ?_, ?_⟩
  · have e := pb_k0_t1_succ (F := Ideal) Variants.none c none i arg3 harg3 arg4 harg4 arg5 harg5 arg6 harg6 arg7 harg7 arg8 harg8 arg9 harg9 arg10 harg10
      (View.readAt (Elt Ideal) arg3.view (Rect.unit (s := S1x512x128) ![0, 0, 0] S1x512x128.size Gen.inb_S1x512x128_S1x512x128_0_0_0).toLoadRect (harg3.unread x0))
      (harg4.unread x1) (harg5.unread x2) (harg6.unread x3) (start8 arg8.view) (start9 arg9.view) (start10 arg10.view) (⟨k.val, k.isLt.trans_eq trips_eq.symm⟩ : Fin k0_t1_loop.trips)
    have e4 := keys_read (show 32 * 512 = 16384 from rfl) arg4.view (harg4.unread x1) x1 (harg4.read_unread x1) k (k0_off2_inb _) (k0_off2_eq (⟨k.val, k.isLt.trans_eq trips_eq.symm⟩ : Fin k0_t1_loop.trips))
    have e5 := keys_read (show 32 * 512 = 16384 from rfl) arg5.view (harg5.unread x2) x2 (harg5.read_unread x2) k (k0_off2_inb _) (k0_off2_eq (⟨k.val, k.isLt.trans_eq trips_eq.symm⟩ : Fin k0_t1_loop.trips))
    have e6 := vals_read (show 32 * 512 = 16384 from rfl) arg6.view (harg6.unread x3) x3 (harg6.read_unread x3) k (k0_off1_inb _) (k0_off1_eq (⟨k.val, k.isLt.trans_eq trips_eq.symm⟩ : Fin k0_t1_loop.trips))
    unfold stores
    dsimp only at e ⊢
    rw [e]
    simp only [View.writes_append]
    rw [query_read]
    rw [← e4, ← e5, ← e6]
    unfold trip_k0_t1
    dsimp only
    sl_unfold_words
    exact ⟨rfl, rfl, rfl⟩
  · funext j
    obtain ⟨r, y, rfl⟩ : ∃ (r : Fin 512) (y : Fin 128), j = ix3 0 r y := ⟨j 1, j 2, by
      funext a
      match a with
      | ⟨0, _⟩ => exact Subsingleton.elim (α := Fin 1) _ _
      | ⟨1, _⟩ => rfl
      | ⟨2, _⟩ => rfl⟩
    unfold stores
    rw [← trips_eq]
    unfold out0_A_4 kernelRun0_A
    dsimp only
    sl_unfold_words
    refine (View.read_writes_cons_unit_of_mem _ _ _ _ _ _ (ix3 0 r y) rfl fun a => ?_).trans ?_
    · fin_cases a <;> simp
    unfold View.readCov
    simp only [View.writes_append]
    rfl

end out

/-- The shapes of the sample batch's padded keys fit. -/
theorem keysFit : FitsKeys 1 16384 where
  first := slices_S1x16384x128_S1x16384x64_0_0_0
  second := slices_S1x16384x128_S1x16384x64_0_0_64
  zero := bcast_S_S1x16384x64
  beside := concatenates_S1x16384x64_S1x16384x64_S1x16384x64_S1x16384x64_S1x16384x64_S1x16384x64_S1x16384x64_S1x16384x64_S1x16384x512_d2
  narrow := bitsLt_bf16_f32

section final

variable (m : (ℓ : Loc nD τ sig) → Buf (Elt Ideal) ℓ)

/-- The queries that the call takes are the arguments scaled. -/
theorem qs_at (c : Dev nD) (q : FVec Ideal S1x16384x512 .f32) (hq : q = m ((c : Thread nD τ).loc main_arg0)) (b : Fin 1) (l : Fin 16384) (y : Fin 512) :
    V m c main_v2 (ix3 b l y) = (q (ix3 b l y) * Ideal.ofBits .f32 0x3E000000#32 : EReal) := by
  subst hq
  entry_read
  pointwise

/-- The values that the call takes are the arguments transposed. -/
theorem vt_at (c : Dev nD) (v : FVec Ideal S1x16384x128 .f32) (hv : v = m ((c : Thread nD τ).loc main_arg2)) (b : Fin 1) (l : Fin 16384) (y : Fin 128) :
    V m c main_v9 (ix3 b y l) = (v (ix3 b l y) : EReal) := by
  subst hv
  obtain rfl : b = 0 := Subsingleton.elim _ _
  entry_read
  pointwise

/-- The keys that the call takes are the padded arguments. -/
theorem padded_entry (c : Dev nD) (k : FVec Ideal S1x16384x128 .f32) (hv : k = m ((c : Thread nD τ).loc main_arg1)) : V m c main_v7 = padded keysFit k := by
  subst hv
  unfold V
  after_results_simp
  dsimp only [Matrix.cons_val]
  rfl

/-- Which block of each array a grid point reads or writes. -/
theorem idx : ∀ t : Fin cfg0.N, win0_0.index t = ![t.val / 128, t.val % 32, t.val / 32 % 4] ∧ win0_1.index t = ![t.val / 128, 0, 2 * ((t.val / 32 % 4) / 2)]
    ∧ win0_2.index t = ![t.val / 128, 0, 2 * ((t.val / 32 % 4) / 2) + 1] ∧ win0_3.index t = ![t.val / 128, (t.val / 32 % 4) / 2, 0]
    ∧ win0_4.index t = ![t.val / 128, t.val % 32, t.val / 32 % 4] ∧ t.val / 128 < 1 :=
  (by decide +kernel : ∀ t : Fin grid0.N, _)

/-- What a grid point leaves in its output block is the reference's result there. -/
theorem point (c : Dev nD) (q : FVec Ideal S1x16384x512 .f32) (k v : FVec Ideal S1x16384x128 .f32)
    (hq : ∀ b l y, ∃ r : ℝ, q (ix3 b l y) = (r : EReal)) (hk : ∀ b l y, ∃ r : ℝ, k (ix3 b l y) = (r : EReal))
    (eq : q = m ((c : Thread nD τ).loc main_arg0)) (ek : k = m ((c : Thread nD τ).loc main_arg1)) (ev : v = m ((c : Thread nD τ).loc main_arg2))
    (t : Fin cfg0.N) (r : Fin 512) (y : Fin 128) :
    outsAt0 m c t (ix3 0 r y) = ref Cert.Attn.sample q k v (ix3 ⟨t.val / 128, (idx t).2.2.2.2.2⟩ ⟨t.val % 32 * 512 + r.val, by omega⟩ ⟨t.val / 32 % 4 * 128 + y.val, by omega⟩) := by
  unfold outsAt0
  obtain ⟨i0, i1, i2, i3, i4, i5⟩ := idx t
  refine swept_ref Cert.Attn.sample keysFit q k v hq hk (swept _ _ _ _ _ _ _ _ _ _ _ _ _ _ _ _ _ _ _ _ _ _) (by omega) ⟨t.val / 128, i5⟩ ⟨t.val % 32 * 512 + r.val, by omega⟩ ⟨t.val / 32 % 4, by omega⟩ r y
    (fun d => ?_) (fun n d => ?_) (fun n d => ?_) (fun e n => ?_)
  · rw [← qs_at m c q eq]
    blk_ext [iblk, i0]
  · rw [← padded_entry m c k ek]
    blk_ext [iblk, i1]
  · rw [← padded_entry m c k ek]
    blk_ext [iblk, i2]
  · rw [← vt_at m c v ev]
    blk_ext [iblk, i3]

/-- The result array of the kernel is the reference's function of the arguments. -/
theorem final (c : Dev nD) (q : FVec Ideal S1x16384x512 .f32) (k v : FVec Ideal S1x16384x128 .f32)
    (hq : ∀ b l y, ∃ r : ℝ, q (ix3 b l y) = (r : EReal)) (hk : ∀ b l y, ∃ r : ℝ, k (ix3 b l y) = (r : EReal))
    (eq : q = m ((c : Thread nD τ).loc main_arg0)) (ek : k = m ((c : Thread nD τ).loc main_arg1)) (ev : v = m ((c : Thread nD τ).loc main_arg2)) :
    (dats m 0 c).arrAt 4 (cfgs 0).N = ref Cert.Attn.sample q k v := by
  refine (dats m 0 c).arrAt_eq_of_covers 4 _ (by decide +kernel) fun t hf y => ?_
  blk_simp; rw [after0_4]
  have e := point m c q k v hq hk eq ek ev t (y 1) (y 2)
  obtain ⟨i0, i1, i2, i3, i4, i5⟩ := idx t
  refine Eq.trans (congrArg (outsAt0 m c t) ?_) (e.trans (congrArg (ref Cert.Attn.sample q k v) ?_))
  · blk_ext
  · blk_ext [i4]

/-- The precondition says that the queries and keys are real numbers. -/
theorem finite_real (q : FVec Ideal S1x16384x512 .f32) (k v : FVec Ideal S1x16384x128 .f32)
    (h : (Cert.Pre_finite7.fn (F := Ideal) q k v).1 = (fun _ => 1#1) ∧ (Cert.Pre_finite7.fn (F := Ideal) q k v).2 = (fun _ => 1#1)) :
    (∀ b l y, ∃ r : ℝ, q (ix3 b l y) = (r : EReal)) ∧ (∀ b l y, ∃ r : ℝ, k (ix3 b l y) = (r : EReal)) := by
  refine ⟨fun b l y => ?_, fun b l y => ?_⟩
  · have h1 := congrFun h.1 (ix3 b l y)
    unfold Cert.Pre_finite7.fn at h1
    pointwise at h1
    exact abs_lt_top _ h1
  · have h1 := congrFun h.2 (ix3 b l y)
    unfold Cert.Pre_finite7.fn at h1
    pointwise at h1
    exact abs_lt_top _ h1

end final

end Cert.Kernel7Ideal.Attn

end
-- ==== Proof.Ffn.lean ====
module

public import proofs.«01_k».proof.Proof.Gen.Kernel2Ideal.Value
public import proofs.«01_k».proof.Proof.Gen.Kernel5Ideal.Value
public import proofs.«01_k».proof.Defs
public import Idealize.ShloMosaic.Lib.StableHlo.Run
public import Idealize.ShloMosaic.Lib.Pipeline.ValueKit
public import Idealize.ShloMosaic.Lib.Pointwise
public import Idealize.ShloMosaic.Lib.WritesUnit

/-! What one grid point of the feed-forward leaves in its block: the eleven chunks of 256 hidden columns, one after
another, each adding its part of the last product to the accumulator. -/

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- A box inside a matrix, from its two axes. -/
theorem inside {d0 d1 o0 o1 s0 s1 : ℕ} (h0 : o0 + s0 ≤ d0) (h1 : o1 + s1 ≤ d1) :
    ∀ a : Fin 2, (![o0, o1] : Fin 2 → ℕ) a + (![s0, s1] : Fin 2 → ℕ) a ≤ (![d0, d1] : Fin 2 → ℕ) a :=
  Fin.forall_fin_two.mpr ⟨h0, h1⟩

section chain

variable (mb ma : IVec S512x1 1) (x0 : Vec Ideal S1x512x1024 .bf16) (x1 x2 : Vec Ideal S1x16x1024 .bf16) (x3 : Vec Ideal S1x512x1024 .f32)
  (x4 x5 : Vec Ideal S1024x2816 .bf16) (x6 : Vec Ideal S8x2816 .f32) (x7 : Vec Ideal S1x2816 .f32) (x8 : Vec Ideal S2816x1024 .bf16)
  (x9 : Vec Ideal S1x1024 .f32)

/-- One chunk of 256 hidden columns, from column `256 n` on, added to the accumulator `a`; the masks say which rows have a row
before and a row after them in the sequence. -/
def step (n : ℕ) (h : n < 11) (a : FVec Ideal S512x1024 .f32) : FVec Ideal S512x1024 .f32 :=
  k0_pay14 (k0_pay12 (k0_pay2 x0) (View.ld x5 (Rect.unit (s := S1024x2816) ![0, 256 * n] ![1024, 256] (inside (by omega) (by omega)))))
    (k0_pay13 (k0_pay3 x0 x1 x2) mb ma
      (View.ld x4 (Rect.unit (s := S1024x2816) ![0, 256 * n] ![1024, 256] (inside (by omega) (by omega))))
      (View.ld x7 (Rect.unit (s := S1x2816) ![0, 256 * n] ![1, 256] (inside (by omega) (by omega))))
      (View.ld x6 (Rect.unit (s := S8x2816) ![0, 256 * n] ![1, 256] (inside (by omega) (by omega))))
      (View.ld x6 (Rect.unit (s := S8x2816) ![1, 256 * n] ![1, 256] (inside (by omega) (by omega))))
      (View.ld x6 (Rect.unit (s := S8x2816) ![2, 256 * n] ![1, 256] (inside (by omega) (by omega)))))
    a (View.ld x8 (Rect.unit (s := S2816x1024) ![256 * n, 0] ![256, 1024] (inside (by omega) (by omega))))

/-- The accumulator after the first `n` chunks: it starts at the residual stream. -/
def accum : (n : ℕ) → n ≤ 11 → FVec Ideal S512x1024 .f32
  | 0, _ => k0_pay6 x3
  | n + 1, h => step mb ma x0 x1 x2 x4 x5 x6 x7 x8 n h (accum n (Nat.le_of_succ_le h))

end chain

variable (m : (ℓ : Loc nD τ sig) → Buf (Elt Ideal) ℓ)

/-- What a grid point leaves in its block: the normalised accumulator after all eleven chunks. -/
theorem outs_eq (c : Dev nD) (t : Fin cfg0.N) : outsAt0 m c t =
    k0_pay1 (k0_pay53 (accum (k0_pay4 (grid0.coords t)) (k0_pay5 (grid0.coords t)) (iblk m c 0 t) (iblk m c 1 t) (iblk m c 2 t) (iblk m c 3 t) (iblk m c 4 t) (iblk m c 5 t)
      (iblk m c 6 t) (iblk m c 7 t) (iblk m c 8 t) 11 le_rfl) (iblk m c 9 t)) := by
  unfold outsAt0
  frame_out
  rfl

/-- The same for the sample batch, whose grid points compute the same. -/
theorem sample_outs_eq (m : (ℓ : Loc Cert.Kernel5Ideal.nD Cert.Kernel5Ideal.τ Cert.Kernel5Ideal.sig) → Buf (Elt Ideal) ℓ) (c : Dev Cert.Kernel5Ideal.nD)
    (t : Fin Cert.Kernel5Ideal.cfg0.N) : Cert.Kernel5Ideal.Gen.outsAt0 m c t =
    k0_pay1 (k0_pay53 (accum (Cert.Kernel5Ideal.Gen.k0_pay4 (Cert.Kernel5Ideal.grid0.coords t)) (Cert.Kernel5Ideal.Gen.k0_pay5 (Cert.Kernel5Ideal.grid0.coords t))
      (Cert.Kernel5Ideal.Gen.iblk m c 0 t) (Cert.Kernel5Ideal.Gen.iblk m c 1 t) (Cert.Kernel5Ideal.Gen.iblk m c 2 t) (Cert.Kernel5Ideal.Gen.iblk m c 3 t)
      (Cert.Kernel5Ideal.Gen.iblk m c 4 t) (Cert.Kernel5Ideal.Gen.iblk m c 5 t) (Cert.Kernel5Ideal.Gen.iblk m c 6 t) (Cert.Kernel5Ideal.Gen.iblk m c 7 t)
      (Cert.Kernel5Ideal.Gen.iblk m c 8 t) 11 le_rfl) (Cert.Kernel5Ideal.Gen.iblk m c 9 t)) := by
  unfold Cert.Kernel5Ideal.Gen.outsAt0
  frame_out
  rfl

end Cert.Kernel2Ideal.Ffn

end
-- ==== Proof.FfnRef.lean ====
module

public import proofs.«01_k».proof.Proof.Gen.Reference2Ideal.Run
public import proofs.«01_k».proof.Proof.Gen.Reference5Ideal.Run
public import proofs.«01_k».proof.Defs
public import proofs.«01_k».proof.Proof.Rows
public import Idealize.ShloMosaic.Lib.StableHlo.Run
public import Idealize.ShloMosaic.Lib.Pointwise

/-! The reference of the feed-forward as one function of its eight arguments, stage by stage, for any number of batches
and of rows, and each stage read at an index; the references of the prompt and of the sample batch are this function. -/

@[expose] public section

set_option maxRecDepth 16384

noncomputable section

open Idealize.ShloMosaic Idealize.ShloMosaic.TcCoe Idealize.SL.Sem

namespace Cert.Ffn

open Cert.Rows hiding Fits refRow

/-- The shapes of the stages fit together: `B` batches of `L` rows, and of `P = L + 2` rows with one before and one after. -/
structure Fits (B L P : ℕ) : Prop where
  len : P = L + 2
  widen : FTy.bits .bf16 < FTy.bits .f32
  one : 0 < Pt.numel
  pads : (Sq B L 2816).Pads (![0, 1, 0] : Fin 3 → ℕ) ![0, 1, 0] ![0, 0, 0] (Sq B P 2816)
  from0 : (Sq B P 2816).Slices ![0, 0, 0] (Sq B L 2816)
  from1 : (Sq B P 2816).Slices ![0, 1, 0] (Sq B L 2816)
  from2 : (Sq B P 2816).Slices ![0, 2, 0] (Sq B L 2816)
  tap0 : (Mat 3 2816).Slices ![0, 0] (Mat 1 2816)
  tap1 : (Mat 3 2816).Slices ![1, 0] (Mat 1 2816)
  tap2 : (Mat 3 2816).Slices ![2, 0] (Mat 1 2816)
  flat : (Mat 1 2816).ShapeCasts (Vc 2816)
  lift : (Vc 2816).BroadcastsInDim (Sq 1 1 2816) (![2] : Fin 1 → Fin 3)
  spread : (Sq 1 1 2816).BroadcastsInDim (Sq B L 2816) (![0, 1, 2] : Fin 3 → Fin 3)
  fill : Pt.BroadcastsInDim (Sq B L 2816) (![] : Fin 0 → Fin 3)
  norm : Rows.Fits B L 1024
  dotIn : DotDims.WF (Sq B L 1024) (Mat 1024 2816) (Sq B L 2816) [2] [0] [0, 1] [1] [] []
  dotOut : DotDims.WF (Sq B L 2816) (Mat 2816 1024) (Sq B L 1024) [2] [0] [0, 1] [1] [] []

variable {B L P : ℕ} (S : Fits B L P)

/-- The product of the normalised rows with a weight matrix. -/
def refDot (h : FVec Ideal (Sq B L 1024) .bf16) (w : FVec Ideal (Mat 1024 2816) .f32) : FVec Ideal (Sq B L 2816) .f32 :=
  Host.dotGeneral (dims S.dotIn) none (extf .f32 h S.widen) w

/-- A vector over the hidden columns, repeated for every row. -/
def refRow (v : FVec Ideal (Vc 2816) .f32) : FVec Ideal (Sq B L 2816) .f32 :=
  broadcastInDim (Sq B L 2816) ![0, 1, 2] S.spread (broadcastInDim (Sq 1 1 2816) ![2] S.lift v)

/-- The gate with a row of zeros before and after each sequence. -/
def refPad (g : FVec Ideal (Sq B L 2816) .f32) : FVec Ideal (Sq B P 2816) .f32 :=
  pad (Sq B P 2816) ![0, 1, 0] ![0, 1, 0] ![0, 0, 0] g (sitofp .f32 (constantI Pt 32 0#32)) S.pads S.one

/-- The convolution of three taps along the sequence. -/
def refConv (g : FVec Ideal (Sq B P 2816) .f32) (w : FVec Ideal (Mat 3 2816) .f32) (b : FVec Ideal (Vc 2816) .f32) : FVec Ideal (Sq B L 2816) .f32 :=
  addf (addf (addf (refRow S b)
    (mulf (extractStridedSlice (Sq B L 2816) ![0, 0, 0] g S.from0) (refRow S (shapeCast _ (extractStridedSlice (Mat 1 2816) ![0, 0] w S.tap0) S.flat))))
    (mulf (extractStridedSlice (Sq B L 2816) ![0, 1, 0] g S.from1) (refRow S (shapeCast _ (extractStridedSlice (Mat 1 2816) ![1, 0] w S.tap1) S.flat))))
    (mulf (extractStridedSlice (Sq B L 2816) ![0, 2, 0] g S.from2) (refRow S (shapeCast _ (extractStridedSlice (Mat 1 2816) ![2, 0] w S.tap2) S.flat)))

/-- The gated hidden values: silu of the convolution, times the other product. -/
def refHid (x u : FVec Ideal (Sq B L 2816) .f32) : FVec Ideal (Sq B L 2816) .f32 :=
  mulf (mulf x (Host.divf (broadcastInDim (Sq B L 2816) ![] S.fill (constant Pt .f32 0x3F800000#32))
    (addf (broadcastInDim (Sq B L 2816) ![] S.fill (constant Pt .f32 0x3F800000#32)) (Host.exp (Host.negf x))))) u

/-- The residual stream plus the last product. -/
def refSum (x : FVec Ideal (Sq B L 1024) .f32) (h : FVec Ideal (Sq B L 2816) .f32) (w : FVec Ideal (Mat 2816 1024) .f32) : FVec Ideal (Sq B L 1024) .f32 :=
  addf x (Host.dotGeneral (dims S.dotOut) none h w)

/-- The reference as one function of its eight arguments. -/
def ref (h : FVec Ideal (Sq B L 1024) .bf16) (x : FVec Ideal (Sq B L 1024) .f32) (wg wu : FVec Ideal (Mat 1024 2816) .f32) (cw : FVec Ideal (Mat 3 2816) .f32)
    (cb : FVec Ideal (Vc 2816) .f32) (wd : FVec Ideal (Mat 2816 1024) .f32) (g : FVec Ideal (Vc 1024) .f32) : FVec Ideal (Sq B L 1024) .f32 :=
  Rows.refNorm S.norm 0x44800000#32 (refSum S x (refHid S (refConv S (refPad S (refDot S h wg)) cw cb) (refDot S h wu)) wd) g

/-- The reference's product at one index. -/
theorem refDot_at (h : FVec Ideal (Sq B L 1024) .bf16) (w : FVec Ideal (Mat 1024 2816) .f32) (b : Fin B) (l : Fin L) (f : Fin 2816) :
    refDot S h w (ix3 b l f) = (∑ d : Fin 1024, h (ix3 b l d) * w (ix2 d f) : EReal) :=
  dot_at _ _ _ _ _ _

/-- The padded sequence at one index: zero in the first and the last row. -/
theorem refPad_at (g : FVec Ideal (Sq B L 2816) .f32) (b : Fin B) (l : Fin P) (f : Fin 2816) :
    refPad S g (ix3 b l f) = (if h : 1 ≤ l.val ∧ l.val - 1 < L then g (ix3 b ⟨l.val - 1, h.2⟩ f) else 0 : EReal) := by
  pointwise [refPad]
  have e : (FloatOps.sitofp (F := Ideal) FTy.f32 0#32 : EReal) = 0 := by simp [FloatOps.sitofp]
  rw [e]
  split
  · refine congrArg g ?_
    funext a
    match a with
    | ⟨0, _⟩ => exact Fin.ext (Nat.div_one b.val)
    | ⟨1, _⟩ => exact Fin.ext (Nat.div_one (l.val - 1))
    | ⟨2, _⟩ => exact Fin.ext (Nat.div_one f.val)
  · rfl

/-- The convolution at one index: the bias and three taps. -/
theorem refConv_at (g : FVec Ideal (Sq B P 2816) .f32) (w : FVec Ideal (Mat 3 2816) .f32) (v : FVec Ideal (Vc 2816) .f32) (b : Fin B) (l : Fin L) (f : Fin 2816) :
    refConv S g w v (ix3 b l f) = (v (ix1 f) + g (ix3 b ⟨l.val, by have := S.len; omega⟩ f) * w (ix2 0 f) + g (ix3 b ⟨1 + l.val, by have := S.len; omega⟩ f) * w (ix2 1 f)
      + g (ix3 b ⟨2 + l.val, by have := S.len; omega⟩ f) * w (ix2 2 f) : EReal) := by
  have r (u : FVec Ideal (Vc 2816) .f32) : refRow S u (ix3 b l f) = u (ix1 f) := row_at _ _ _ _ _ _
  have t0 : shapeCast (Vc 2816) (extractStridedSlice (Mat 1 2816) ![0, 0] w S.tap0) S.flat (ix1 f) = w (ix2 0 f) := by pointwise
  have t1 : shapeCast (Vc 2816) (extractStridedSlice (Mat 1 2816) ![1, 0] w S.tap1) S.flat (ix1 f) = w (ix2 1 f) := by pointwise
  have t2 : shapeCast (Vc 2816) (extractStridedSlice (Mat 1 2816) ![2, 0] w S.tap2) S.flat (ix1 f) = w (ix2 2 f) := by pointwise
  exact congrArg₂ (· + ·) (congrArg₂ (· + ·) (congrArg₂ (· + ·) (r v) (congrArg₂ (· * ·) (from_at _ _ _ _ _ _ (Nat.zero_add _).symm) ((r _).trans t0)))
    (congrArg₂ (· * ·) (from_at _ _ _ _ _ _ rfl) ((r _).trans t1))) (congrArg₂ (· * ·) (from_at _ _ _ _ _ _ rfl) ((r _).trans t2))

/-- The quotient of one by one plus the exponential of the negation is the logistic function. -/
theorem logistic_eq (x : EReal) : Ideal.div 1 (1 + Ideal.exp (-x)) = Ideal.logistic x := rfl

/-- A hidden column of the reference: the gate times its logistic, times the other product. -/
theorem refHid_at (x u : FVec Ideal (Sq B L 2816) .f32) (b : Fin B) (l : Fin L) (f : Fin 2816) :
    refHid S x u (ix3 b l f) = (x (ix3 b l f) * Ideal.logistic (x (ix3 b l f)) * u (ix3 b l f) : EReal) := by
  pointwise [refHid]
  rw [logistic_eq]

/-- The reference's residual sum at one index. -/
theorem refSum_at (x : FVec Ideal (Sq B L 1024) .f32) (h : FVec Ideal (Sq B L 2816) .f32) (w : FVec Ideal (Mat 2816 1024) .f32) (b : Fin B) (l : Fin L) (q : Fin 1024) :
    refSum S x h w (ix3 b l q) = (x (ix3 b l q) + ∑ f : Fin 2816, h (ix3 b l f) * w (ix2 f q) : EReal) :=
  congrArg (x (ix3 b l q) + ·) (dot_at _ _ _ _ _ _)

section prompt

open Cert.Reference2Ideal Cert.Reference2Ideal.Gen

/-- The shapes of the prompt batch fit. -/
theorem prompt : Fits 8 8192 8194 where
  len := rfl
  widen := bitsLt_bf16_f32
  one := h_S_
  pads := pads_S8x8192x2816_S8x8194x2816_000_110_000
  from0 := slices_S8x8194x2816_S8x8192x2816_0_0_0
  from1 := slices_S8x8194x2816_S8x8192x2816_0_1_0
  from2 := slices_S8x8194x2816_S8x8192x2816_0_2_0
  tap0 := slices_S3x2816_S1x2816_0_0
  tap1 := slices_S3x2816_S1x2816_1_0
  tap2 := slices_S3x2816_S1x2816_2_0
  flat := shapeCasts_S1x2816_S2816
  lift := bcast_S2816_S1x1x2816_2
  spread := bcast_S1x1x2816_S8x8192x2816_0_1_2
  fill := bcast_S_S8x8192x2816
  norm := ⟨h_S_, reducesTo_S8x8192x1024_S8x8192_d2, bcast_S8x8192_S8x8192x1_0_1, bcast_S_S8x8192x1, bcast_S8x8192x1_S8x8192x1024_0_1_2, bcast_S1024_S1x1x1024_2,
    bcast_S1x1x1024_S8x8192x1024_0_1_2⟩
  dotIn := dot_S8x8192x1024_S1024x2816_S8x8192x2816_2_0_01_1_n_n_wf
  dotOut := dot_S8x8192x2816_S2816x1024_S8x8192x1024_2_0_01_1_n_n_wf

/-- The composed result of the prompt batch's reference is this function of the arguments. -/
theorem prompt_eq (m : (ℓ : Loc nD τ sig) → Buf (Elt Ideal) ℓ) (c : Dev nD) : Cert.Reference2Ideal.Value.res_main_v43 m c
    = ref prompt (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := rfl

end prompt

section sample

open Cert.Reference5Ideal Cert.Reference5Ideal.Gen

/-- The shapes of the sample batch fit. -/
theorem sample : Fits 1 16384 16386 where
  len := rfl
  widen := bitsLt_bf16_f32
  one := h_S_
  pads := pads_S1x16384x2816_S1x16386x2816_000_110_000
  from0 := slices_S1x16386x2816_S1x16384x2816_0_0_0
  from1 := slices_S1x16386x2816_S1x16384x2816_0_1_0
  from2 := slices_S1x16386x2816_S1x16384x2816_0_2_0
  tap0 := slices_S3x2816_S1x2816_0_0
  tap1 := slices_S3x2816_S1x2816_1_0
  tap2 := slices_S3x2816_S1x2816_2_0
  flat := shapeCasts_S1x2816_S2816
  lift := bcast_S2816_S1x1x2816_2
  spread := bcast_S1x1x2816_S1x16384x2816_0_1_2
  fill := bcast_S_S1x16384x2816
  norm := ⟨h_S_, reducesTo_S1x16384x1024_S1x16384_d2, bcast_S1x16384_S1x16384x1_0_1, bcast_S_S1x16384x1, bcast_S1x16384x1_S1x16384x1024_0_1_2, bcast_S1024_S1x1x1024_2,
    bcast_S1x1x1024_S1x16384x1024_0_1_2⟩
  dotIn := dot_S1x16384x1024_S1024x2816_S1x16384x2816_2_0_01_1_n_n_wf
  dotOut := dot_S1x16384x2816_S2816x1024_S1x16384x1024_2_0_01_1_n_n_wf

/-- The composed result of the sample batch's reference is this function of the arguments. -/
theorem sample_eq (m : (ℓ : Loc nD τ sig) → Buf (Elt Ideal) ℓ) (c : Dev nD) : Cert.Reference5Ideal.Value.res_main_v43 m c
    = ref sample (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := rfl

end sample

end Cert.Ffn

end
-- ==== Proof.FfnBlock.lean ====
module

public import proofs.«01_k».proof.Proof.Gen.Kernel2Ideal.Value
public import proofs.«01_k».proof.Defs
public import proofs.«01_k».proof.Proof.Ffn
public import proofs.«01_k».proof.Proof.FfnRef
public import Idealize.ShloMosaic.Lib.StableHlo.Run
public import Idealize.ShloMosaic.Lib.Pipeline.ValueKit
public import Idealize.ShloMosaic.Lib.Pointwise
public import Idealize.ShloMosaic.Lib.WritesUnit

/-! One block of 512 rows of the feed-forward, for any number of batches and rows: what the eleven chunks leave in it is
the reference there, when the blocks read are cut from the arguments. -/

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

open Cert.Ffn
open Cert.Rows hiding Fits refRow refNorm refNorm_at

/-- The word of a mask: false where both numbers are the given ones. -/
theorem mask_word (p r j e : ℕ) (hp : p < 2 ^ 32) (hr : r < 2 ^ 32) (hj : j < 2 ^ 32) (he : e < 2 ^ 32) :
    IntOp.xori (IntOp.andi (IntOp.cmpi CmpIPredicate.eq (BitVec.ofNat 32 p) (BitVec.ofNat 32 r))
      (Scalar.cmpi CmpIPredicate.eq (BitVec.ofNat 32 j) (BitVec.ofNat 32 e))) 1#1 = if p = r ∧ j = e then 0#1 else 1#1 := by
  have h (a b : ℕ) (ha : a < 2 ^ 32) (hb : b < 2 ^ 32) : IntOp.cmpi CmpIPredicate.eq (BitVec.ofNat 32 a) (BitVec.ofNat 32 b) = if a = b then 1#1 else 0#1 := by
    change BitVec.ofBool (BitVec.ofNat 32 a == BitVec.ofNat 32 b) = _
    by_cases e : a = b
    · subst e; simp
    · rw [if_neg e, beq_eq_false_iff_ne.mpr fun q => e ?_]; rfl
      have q := congrArg BitVec.toNat q
      rwa [BitVec.toNat_ofNat, BitVec.toNat_ofNat, Nat.mod_eq_of_lt ha, Nat.mod_eq_of_lt hb] at q
  change IntOp.xori (IntOp.andi _ (IntOp.cmpi CmpIPredicate.eq (BitVec.ofNat 32 j) (BitVec.ofNat 32 e))) 1#1 = _
  rw [h p r hp hr, h j e hj he]
  by_cases h0 : p = r <;> by_cases h1 : j = e <;> simp [h0, h1] <;> rfl

section rows

variable (x0 : Vec Ideal S1x512x1024 .bf16) (x1 x2 : Vec Ideal S1x16x1024 .bf16)

/-- Row 15 of the stacked rows is the last of the block before. -/
theorem rows_before (r : Fin 544) (hr : r.val = 15) (d : Fin 1024) : k0_pay3 x0 x1 x2 (ix2 r d) = x1 (ix3 0 15 d) := by
  obtain ⟨r, hr'⟩ := r
  subst hr
  pointwise [k0_pay3, k0_pay2]

/-- Rows 16 to 527 of the stacked rows are the block's own. -/
theorem rows_block (r : Fin 544) (p : Fin 512) (hr : r.val = 16 + p.val) (d : Fin 1024) : k0_pay3 x0 x1 x2 (ix2 r d) = x0 (ix3 0 p d) := by
  pointwise [k0_pay3, k0_pay2]
  rw [dif_neg (by omega), dif_pos (by omega)]
  exact congrArg x0 (congrArg (ix3 0 · d) (Fin.ext (by dsimp only; omega)))

/-- Row 528 of the stacked rows is the first of the block after. -/
theorem rows_after (r : Fin 544) (hr : r.val = 528) (d : Fin 1024) : k0_pay3 x0 x1 x2 (ix2 r d) = x2 (ix3 0 0 d) := by
  obtain ⟨r, hr'⟩ := r
  subst hr
  pointwise [k0_pay3, k0_pay2]

end rows

/-- A gated value from equal parts. -/
theorem silu_congr {c c' u u' w w' : EReal} (hc : c = c') (hu : u = u') (hw : w = w') :
    c * Ideal.logistic c * u * w = c' * Ideal.logistic c' * u' * w' := by
  subst hc hu hw; rfl

section step

variable {B L P : ℕ} (S : Fits B L P) (h : FVec Ideal (Sq B L 1024) .bf16) (x : FVec Ideal (Sq B L 1024) .f32) (wg wu : FVec Ideal (Mat 1024 2816) .f32)
  (cw : FVec Ideal (Mat 3 2816) .f32) (cb : FVec Ideal (Vc 2816) .f32) (wd : FVec Ideal (Mat 2816 1024) .f32) (g : FVec Ideal (Vc 1024) .f32)

/-- The reference's gated hidden values. -/
def hidden : FVec Ideal (Sq B L 2816) .f32 :=
  refHid S (refConv S (refPad S (refDot S h wg)) cw cb) (refDot S h wu)

/-- The blocks that a grid point reads are cut from the arguments: batch `b`, rows from `512 j` on; and its masks are false
just where the sequence begins and ends. -/
structure Cut (b : Fin B) (j : ℕ) (mb ma : IVec S512x1 1) (x0 : Vec Ideal S1x512x1024 .bf16) (x1 x2 : Vec Ideal S1x16x1024 .bf16) (x3 : Vec Ideal S1x512x1024 .f32)
    (x4 x5 : Vec Ideal S1024x2816 .bf16) (x6 : Vec Ideal S8x2816 .f32) (x7 : Vec Ideal S1x2816 .f32) (x8 : Vec Ideal S2816x1024 .bf16)
    (x9 : Vec Ideal S1x1024 .f32) : Prop where
  le : j * 512 + 512 ≤ L
  first : ∀ p : Fin 512, mb (ix2 p 0) = if p.val = 0 ∧ j = 0 then 0#1 else 1#1
  last : ∀ p : Fin 512, ma (ix2 p 0) = if p.val = 511 ∧ j * 512 + 512 = L then 0#1 else 1#1
  own : ∀ (p : Fin 512) (d : Fin 1024), x0 (ix3 0 p d) = h (ix3 b ⟨j * 512 + p.val, by omega⟩ d)
  before : ∀ (hj : 0 < j) (d : Fin 1024), x1 (ix3 0 15 d) = h (ix3 b ⟨j * 512 - 1, by omega⟩ d)
  after : ∀ (hj : j * 512 + 512 < L) (d : Fin 1024), x2 (ix3 0 0 d) = h (ix3 b ⟨j * 512 + 512, by omega⟩ d)
  stream : ∀ (p : Fin 512) (d : Fin 1024), x3 (ix3 0 p d) = x (ix3 b ⟨j * 512 + p.val, by omega⟩ d)
  gate : ∀ d f, x4 (ix2 d f) = wg (ix2 d f)
  up : ∀ d f, x5 (ix2 d f) = wu (ix2 d f)
  tap0 : ∀ f, x6 (ix2 0 f) = cw (ix2 0 f)
  tap1 : ∀ f, x6 (ix2 1 f) = cw (ix2 1 f)
  tap2 : ∀ f, x6 (ix2 2 f) = cw (ix2 2 f)
  bias : ∀ f, x7 (ix2 0 f) = cb (ix1 f)
  down : ∀ f d, x8 (ix2 f d) = wd (ix2 f d)
  scale : ∀ d, x9 (ix2 0 d) = g (ix1 d)

variable {b : Fin B} {j : ℕ} {mb ma : IVec S512x1 1} {x0 : Vec Ideal S1x512x1024 .bf16} {x1 x2 : Vec Ideal S1x16x1024 .bf16} {x3 : Vec Ideal S1x512x1024 .f32}
    {x4 x5 : Vec Ideal S1024x2816 .bf16} {x6 : Vec Ideal S8x2816 .f32} {x7 : Vec Ideal S1x2816 .f32} {x8 : Vec Ideal S2816x1024 .bf16}
    {x9 : Vec Ideal S1x1024 .f32}

variable {h x wg wu cw cb wd g}

/-- The padded gate inside the sequence. -/
theorem pad_in (l : Fin P) (k : Fin L) (hl : l.val = k.val + 1) (f : Fin 2816) :
    refPad S (refDot S h wg) (ix3 b l f) = (∑ d : Fin 1024, h (ix3 b k d) * wg (ix2 d f) : EReal) := by
  rw [refPad_at, dif_pos ⟨by omega, by omega⟩, refDot_at]
  exact Finset.sum_congr rfl fun d _ => congrArg (· * _) (congrArg h (congrArg (ix3 b · d) (Fin.ext (by dsimp only; omega))))

/-- The padded gate outside the sequence is zero. -/
theorem pad_out (l : Fin P) (hl : l.val = 0 ∨ l.val = L + 1) (f : Fin 2816) : refPad S (refDot S h wg) (ix3 b l f) = (0 : EReal) := by
  rw [refPad_at, dif_neg (by omega)]

variable (C : Cut h x wg wu cw cb wd g b j mb ma x0 x1 x2 x3 x4 x5 x6 x7 x8 x9)

include C

/-- The gate of the row before, masked, is the padded gate there. -/
theorem gate_before (p : Fin 512) (r : Fin 544) (hr : r.val = 15 + p.val) (f : Fin 2816) :
    Scalar.select (mb (ix2 p 0)) ((∑ d : Fin 1024, k0_pay3 x0 x1 x2 (ix2 r d) * x4 (ix2 d f)) * x6 (ix2 0 f)) (0 : EReal)
      = refPad S (refDot S h wg) (ix3 b ⟨j * 512 + p.val, by have := C.le; have := S.len; omega⟩ f) * cw (ix2 0 f) := by
  have hj := C.le
  have hL := S.len
  rw [C.first]
  by_cases h0 : p.val = 0 ∧ j = 0
  · rw [if_pos h0, pad_out S _ (.inl (by dsimp only; omega)), zero_mul]; rfl
  · rw [if_neg h0, pad_in S _ ⟨j * 512 + p.val - 1, by omega⟩ (by dsimp only; omega)]
    refine congrArg₂ (· * ·) (Finset.sum_congr rfl fun d _ => congrArg₂ (· * ·) ?_ (C.gate d f)) (C.tap0 f)
    by_cases hp : p.val = 0
    · rw [rows_before x0 x1 x2 r (by omega), C.before (by omega)]
      exact congrArg h (congrArg (ix3 b · d) (Fin.ext (by dsimp only; omega)))
    · rw [rows_block x0 x1 x2 r ⟨p.val - 1, by omega⟩ (by dsimp only; omega), C.own]
      exact congrArg h (congrArg (ix3 b · d) (Fin.ext (by dsimp only; omega)))

/-- The gate of the row itself is the padded gate one further. -/
theorem gate_own (p : Fin 512) (r : Fin 544) (hr : r.val = 16 + p.val) (f : Fin 2816) :
    ((∑ d : Fin 1024, k0_pay3 x0 x1 x2 (ix2 r d) * x4 (ix2 d f)) * x6 (ix2 1 f) : EReal)
      = refPad S (refDot S h wg) (ix3 b ⟨1 + (j * 512 + p.val), by have := C.le; have := S.len; omega⟩ f) * cw (ix2 1 f) := by
  have hj := C.le
  have hL := S.len
  rw [pad_in S _ ⟨j * 512 + p.val, by omega⟩ (by dsimp only; omega)]
  refine congrArg₂ (· * ·) (Finset.sum_congr rfl fun d _ => congrArg₂ (· * ·) ?_ (C.gate d f)) (C.tap1 f)
  rw [rows_block x0 x1 x2 r p hr, C.own]

/-- The gate of the row after, masked, is the padded gate two further. -/
theorem gate_after (p : Fin 512) (r : Fin 544) (hr : r.val = 17 + p.val) (f : Fin 2816) :
    Scalar.select (ma (ix2 p 0)) ((∑ d : Fin 1024, k0_pay3 x0 x1 x2 (ix2 r d) * x4 (ix2 d f)) * x6 (ix2 2 f)) (0 : EReal)
      = refPad S (refDot S h wg) (ix3 b ⟨2 + (j * 512 + p.val), by have := C.le; have := S.len; omega⟩ f) * cw (ix2 2 f) := by
  have hj := C.le
  have hL := S.len
  rw [C.last]
  by_cases h0 : p.val = 511 ∧ j * 512 + 512 = L
  · rw [if_pos h0, pad_out S _ (.inr (by dsimp only; omega)), zero_mul]; rfl
  · rw [if_neg h0, pad_in S _ ⟨j * 512 + p.val + 1, by omega⟩ (by dsimp only; omega)]
    refine congrArg₂ (· * ·) (Finset.sum_congr rfl fun d _ => congrArg₂ (· * ·) ?_ (C.gate d f)) (C.tap2 f)
    by_cases hp : p.val = 511
    · rw [rows_after x0 x1 x2 r (by omega), C.after (by omega)]
      exact congrArg h (congrArg (ix3 b · d) (Fin.ext (by dsimp only; omega)))
    · rw [rows_block x0 x1 x2 r ⟨p.val + 1, by omega⟩ (by dsimp only; omega), C.own]
      exact congrArg h (congrArg (ix3 b · d) (Fin.ext (by dsimp only; omega)))

omit C in
/-- One hidden column's part of the last product, by the column's number. -/
def part (h : FVec Ideal (Sq B L 1024) .bf16) (wg wu : FVec Ideal (Mat 1024 2816) .f32) (cw : FVec Ideal (Mat 3 2816) .f32)
    (cb : FVec Ideal (Vc 2816) .f32) (wd : FVec Ideal (Mat 2816 1024) .f32) (b : Fin B) (l : Fin L) (q : Fin 1024) (f : ℕ) : EReal :=
  if hf : f < 2816 then hidden S h wg wu cw cb (ix3 b l ⟨f, hf⟩) * wd (ix2 ⟨f, hf⟩ q) else 0

/-- One chunk adds the parts of its 256 columns. -/
theorem step_at (n : ℕ) (hn : n < 11) (a : FVec Ideal S512x1024 .f32) (p : Fin 512) (q : Fin 1024) :
    step mb ma x0 x1 x2 x4 x5 x6 x7 x8 n hn a (ix2 p q) = (a (ix2 p q)
      + ∑ f : Fin 256, part S h wg wu cw cb wd b ⟨j * 512 + p.val, by have := C.le; omega⟩ q (256 * n + f.val) : EReal) := by
  have hj := C.le
  have hL := S.len
  pointwise [step, k0_pay14, k0_pay13, k0_pay12, k0_pay2]
  refine congrArg (a (ix2 p q) + ·) (Finset.sum_congr rfl fun f _ => ?_)
  have hf : 256 * n + f.val < 2816 := by omega
  unfold part hidden
  rw [dif_pos hf, refHid_at, refConv_at, refDot_at]
  exact silu_congr (congrArg₂ (· + ·) (congrArg₂ (· + ·) (congrArg₂ (· + ·) (C.bias _) (gate_before S C p _ (by dsimp only; omega) _))
    (gate_own S C p _ rfl _)) (gate_after S C p _ (by dsimp only; omega) _))
    (Finset.sum_congr rfl fun d _ => congrArg₂ (· * ·) (C.own p d) (C.up d _)) (C.down _ q)

/-- The accumulator after some chunks: the residual stream and the parts of the columns so far. -/
theorem accum_at (p : Fin 512) (q : Fin 1024) : ∀ (n : ℕ) (hn : n ≤ 11),
    accum mb ma x0 x1 x2 x3 x4 x5 x6 x7 x8 n hn (ix2 p q) = (x (ix3 b ⟨j * 512 + p.val, by have := C.le; omega⟩ q)
      + ∑ f ∈ Finset.range (256 * n), part S h wg wu cw cb wd b ⟨j * 512 + p.val, by have := C.le; omega⟩ q f : EReal)
  | 0, hn => by
    have e : k0_pay6 x3 (ix2 p q) = (x3 (ix3 0 p q) : EReal) := by pointwise [k0_pay6]
    rw [Nat.mul_zero, Finset.range_zero, Finset.sum_empty, add_zero]
    exact e.trans (C.stream p q)
  | n + 1, hn => by
    refine (step_at S C n _ _ p q).trans ?_
    rw [accum_at p q n (Nat.le_of_succ_le hn), add_assoc]
    refine congrArg (_ + ·) ?_
    rw [show 256 * (n + 1) = 256 * n + 256 from rfl, Finset.sum_range_add, Finset.sum_range (n := 256)]

/-- The whole accumulator is the reference's sum. -/
theorem accum_all (p : Fin 512) (q : Fin 1024) :
    accum mb ma x0 x1 x2 x3 x4 x5 x6 x7 x8 11 le_rfl (ix2 p q)
      = refSum S x (hidden S h wg wu cw cb) wd (ix3 b ⟨j * 512 + p.val, by have := C.le; omega⟩ q) := by
  refine (accum_at S C p q 11 le_rfl).trans (Eq.trans ?_ (refSum_at _ _ _ _ _ _ _).symm)
  refine congrArg (_ + ·) ((Finset.sum_range (n := 2816) _).trans (Finset.sum_congr rfl fun f _ => ?_))
  unfold part
  rw [dif_pos f.isLt]

/-- The normalised accumulator is the reference's result. -/
theorem block_ref (p : Fin 512) (q : Fin 1024) :
    k0_pay1 (k0_pay53 (accum mb ma x0 x1 x2 x3 x4 x5 x6 x7 x8 11 le_rfl) x9) (ix3 0 p q)
      = ref S h x wg wu cw cb wd g (ix3 b ⟨j * 512 + p.val, by have := C.le; omega⟩ q) := by
  have e := accum_all S C p
  have r : ref S h x wg wu cw cb wd g = Rows.refNorm S.norm 0x44800000#32 (refSum S x (hidden S h wg wu cw cb) wd) g := rfl
  rw [r, Rows.refNorm_at]
  generalize accum mb ma x0 x1 x2 x3 x4 x5 x6 x7 x8 11 le_rfl = a at e ⊢
  generalize refSum S x (hidden S h wg wu cw cb) wd = s at e ⊢
  pointwise [k0_pay1, k0_pay53]
  rw [e q, C.scale]
  exact congrArg (fun s : EReal => _ * Ideal.rsqrt (Ideal.div s _ + _) * _) (Finset.sum_congr rfl fun d _ => congrArg₂ (· * ·) (e d) (e d))

end step

end Cert.Kernel2Ideal.Ffn

end
-- ==== Proof.FfnValue.lean ====
module

public import proofs.«01_k».proof.Proof.Gen.Kernel2Ideal.Value
public import proofs.«01_k».proof.Defs
public import proofs.«01_k».proof.Proof.FfnBlock
public import Idealize.ShloMosaic.Lib.StableHlo.Run
public import Idealize.ShloMosaic.Lib.Pipeline.ValueKit
public import Idealize.ShloMosaic.Lib.Pointwise
public import Idealize.ShloMosaic.Lib.WritesUnit

/-! The feed-forward of the prompt batch: the arrays its blocks are cut from, and its result. -/

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

open Cert.Ffn

/-- The mask of the row before, at a row: false in the first row of the first block. -/
theorem before_mask (i : grid0.Coords) (p : Fin 512) : k0_pay4 i (ix2 p 0) = if p.val = 0 ∧ (i 1).val = 0 then 0#1 else 1#1 := by
  pointwise [k0_pay4]
  exact Cert.Kernel2Ideal.Ffn.mask_word p.val 0 (i 1).val 0 (by omega) (by decide) (lt_trans (i 1).isLt (by decide)) (by decide)

/-- The mask of the row after, at a row: false in the last row of the last block. -/
theorem after_mask (i : grid0.Coords) (p : Fin 512) : k0_pay5 i (ix2 p 0) = if p.val = 511 ∧ (i 1).val = 15 then 0#1 else 1#1 := by
  pointwise [k0_pay5]
  exact Cert.Kernel2Ideal.Ffn.mask_word p.val 511 (i 1).val 15 (by omega) (by decide) (lt_trans (i 1).isLt (by decide)) (by decide)

variable (m : (ℓ : Loc nD τ sig) → Buf (Elt Ideal) ℓ)

/-- The gate's weights reach the blocks unchanged: a cast is the identity. -/
theorem gate_entry (c : Dev nD) (w : FVec Ideal S1024x2816 .f32) (hw : w = m ((c : Thread nD τ).loc main_arg2)) (d : Fin 1024) (f : Fin 2816) :
    V m c main_v2 (ix2 d f) = (w (ix2 d f) : EReal) := by
  subst hw
  entry_read
  pointwise

/-- So do the other product's weights. -/
theorem up_entry (c : Dev nD) (w : FVec Ideal S1024x2816 .f32) (hw : w = m ((c : Thread nD τ).loc main_arg3)) (d : Fin 1024) (f : Fin 2816) :
    V m c main_v3 (ix2 d f) = (w (ix2 d f) : EReal) := by
  subst hw
  entry_read
  pointwise

/-- So do the last product's weights. -/
theorem down_entry (c : Dev nD) (w : FVec Ideal S2816x1024 .f32) (hw : w = m ((c : Thread nD τ).loc main_arg6)) (f : Fin 2816) (d : Fin 1024) :
    V m c main_v5 (ix2 f d) = (w (ix2 f d) : EReal) := by
  subst hw
  entry_read
  pointwise

/-- The convolution's bias as a row. -/
theorem bias_entry (c : Dev nD) (w : FVec Ideal S2816 .f32) (hw : w = m ((c : Thread nD τ).loc main_arg5)) (f : Fin 2816) :
    V m c main_v4 (ix2 0 f) = (w (ix1 f) : EReal) := by
  subst hw
  entry_read
  pointwise

/-- The normalisation's scale as a row. -/
theorem scale_entry (c : Dev nD) (w : FVec Ideal S1024 .f32) (hw : w = m ((c : Thread nD τ).loc main_arg7)) (d : Fin 1024) :
    V m c main_v6 (ix2 0 d) = (w (ix1 d) : EReal) := by
  subst hw
  entry_read
  pointwise

/-- The three taps with five rows of zeros below them. -/
def taps (w : FVec Ideal S3x2816 .f32) : FVec Ideal S8x2816 .f32 :=
  concatenate S8x2816 0 [⟨S3x2816, w⟩, ⟨S5x2816, broadcastInDim S5x2816 ![] bcast_S_S5x2816 (constant S_ .f32 0x00000000#32)⟩] concatenates_S3x2816_S5x2816_S8x2816_d0

/-- The array of taps that the blocks are cut from. -/
theorem taps_entry (c : Dev nD) (w : FVec Ideal S3x2816 .f32) (hw : w = m ((c : Thread nD τ).loc main_arg4)) : V m c main_v1 = taps w := by
  subst hw
  unfold V
  after_results_simp
  rfl

/-- The first three rows of that array are the taps. -/
theorem taps_at (w : FVec Ideal S3x2816 .f32) (r : Fin 3) (f : Fin 2816) : taps w (ix2 ⟨r.val, by omega⟩ f) = (w (ix2 r f) : EReal) := by
  pointwise [taps]

/-- Which block of each array a grid point reads or writes. -/
theorem idx : ∀ t : Fin cfg0.N, win0_0.index t = ![t.val / 16, t.val % 16, 0] ∧ win0_1.index t = ![t.val / 16, t.val % 16 * 32 - 1, 0]
    ∧ win0_2.index t = ![t.val / 16, min (t.val % 16 * 32 + 32) 511, 0] ∧ win0_3.index t = ![t.val / 16, t.val % 16, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val / 16, t.val % 16, 0] ∧ (grid0.coords t 1).val = t.val % 16 ∧ t.val / 16 < 8 :=
  (by decide +kernel : ∀ t : Fin grid0.N, _)

/-- A grid point's blocks are cut from the arguments. -/
theorem cut (c : Dev nD) (h : FVec Ideal S8x8192x1024 .bf16) (x : FVec Ideal S8x8192x1024 .f32) (wg wu : FVec Ideal S1024x2816 .f32) (cw : FVec Ideal S3x2816 .f32)
    (cb : FVec Ideal S2816 .f32) (wd : FVec Ideal S2816x1024 .f32) (g : FVec Ideal S1024 .f32)
    (e0 : h = m ((c : Thread nD τ).loc main_arg0)) (e1 : x = m ((c : Thread nD τ).loc main_arg1)) (e2 : wg = m ((c : Thread nD τ).loc main_arg2))
    (e3 : wu = m ((c : Thread nD τ).loc main_arg3)) (e4 : cw = m ((c : Thread nD τ).loc main_arg4)) (e5 : cb = m ((c : Thread nD τ).loc main_arg5))
    (e6 : wd = m ((c : Thread nD τ).loc main_arg6)) (e7 : g = m ((c : Thread nD τ).loc main_arg7)) (t : Fin cfg0.N) :
    Cert.Kernel2Ideal.Ffn.Cut h x wg wu cw cb wd g ⟨t.val / 16, (idx t).2.2.2.2.2.2.2.2.2.2.2.2⟩ (t.val % 16) (k0_pay4 (grid0.coords t)) (k0_pay5 (grid0.coords t)) (iblk m c 0 t) (iblk m c 1 t) (iblk m c 2 t) (iblk m c 3 t)
      (iblk m c 4 t) (iblk m c 5 t) (iblk m c 6 t) (iblk m c 7 t) (iblk m c 8 t) (iblk m c 9 t) := by
  obtain ⟨i0, i1, i2, i3, i4, i5, i6, i7, i8, i9, i10, i11, i12⟩ := idx t
  refine ⟨by omega, fun p => ?_, fun p => ?_, fun p d => ?_, fun hj d => ?_, fun hj d => ?_, fun p d => ?_, fun d f => ?_, fun d f => ?_, fun f => ?_, fun f => ?_, fun f => ?_,
    fun f => ?_, fun f d => ?_, fun d => ?_⟩
  · rw [before_mask, i11]
  · rw [after_mask, i11]
    exact if_congr (and_congr_right fun _ => by omega) rfl rfl
  · rw [e0, ← V_main_arg0 m c]
    blk_ext [iblk, i0]
  · rw [e0, ← V_main_arg0 m c]
    blk_ext [iblk, i1]
  · rw [e0, ← V_main_arg0 m c]
    blk_ext [iblk, i2]
  · rw [e1, ← V_main_arg1 m c]
    blk_ext [iblk, i3]
  · rw [← gate_entry m c wg e2]
    blk_ext [iblk, i4]
  · rw [← up_entry m c wu e3]
    blk_ext [iblk, i5]
  · refine Eq.trans ?_ (taps_at cw 0 f)
    rw [← taps_entry m c cw e4]
    blk_ext [iblk, i6]
  · refine Eq.trans ?_ (taps_at cw 1 f)
    rw [← taps_entry m c cw e4]
    blk_ext [iblk, i6]
  · refine Eq.trans ?_ (taps_at cw 2 f)
    rw [← taps_entry m c cw e4]
    blk_ext [iblk, i6]
  · rw [← bias_entry m c cb e5]
    blk_ext [iblk, i7]
  · rw [← down_entry m c wd e6]
    blk_ext [iblk, i8]
  · rw [← scale_entry m c g e7]
    blk_ext [iblk, i9]

/-- The result array of the kernel is the reference's function of the arguments. -/
theorem final (c : Dev nD) (h : FVec Ideal S8x8192x1024 .bf16) (x : FVec Ideal S8x8192x1024 .f32) (wg wu : FVec Ideal S1024x2816 .f32) (cw : FVec Ideal S3x2816 .f32)
    (cb : FVec Ideal S2816 .f32) (wd : FVec Ideal S2816x1024 .f32) (g : FVec Ideal S1024 .f32)
    (e0 : h = m ((c : Thread nD τ).loc main_arg0)) (e1 : x = m ((c : Thread nD τ).loc main_arg1)) (e2 : wg = m ((c : Thread nD τ).loc main_arg2))
    (e3 : wu = m ((c : Thread nD τ).loc main_arg3)) (e4 : cw = m ((c : Thread nD τ).loc main_arg4)) (e5 : cb = m ((c : Thread nD τ).loc main_arg5))
    (e6 : wd = m ((c : Thread nD τ).loc main_arg6)) (e7 : g = m ((c : Thread nD τ).loc main_arg7)) :
    (dats m 0 c).arrAt 10 (cfgs 0).N = ref prompt h x wg wu cw cb wd g := by
  refine (dats m 0 c).arrAt_eq_of_covers 10 _ (by decide +kernel) fun t hf y => ?_
  blk_simp; rw [after0_10]
  have C := cut m c h x wg wu cw cb wd g e0 e1 e2 e3 e4 e5 e6 e7 t
  obtain ⟨i0, i1, i2, i3, i4, i5, i6, i7, i8, i9, i10, i11, i12⟩ := idx t
  have e := (congrFun (outs_eq m c t) (ix3 0 (y 1) (y 2))).trans (Cert.Kernel2Ideal.Ffn.block_ref prompt C (y 1) (y 2))
  refine Eq.trans (congrArg (outsAt0 m c t) ?_) (e.trans (congrArg (ref prompt h x wg wu cw cb wd g) ?_))
  · blk_ext
  · blk_ext [i10]

end Cert.Kernel2Ideal.Ffn

end
-- ==== Proof.FfnSample.lean ====
module

public import proofs.«01_k».proof.Proof.Gen.Kernel5Ideal.Value
public import proofs.«01_k».proof.Defs
public import proofs.«01_k».proof.Proof.FfnBlock
public import Idealize.ShloMosaic.Lib.StableHlo.Run
public import Idealize.ShloMosaic.Lib.Pipeline.ValueKit
public import Idealize.ShloMosaic.Lib.Pointwise
public import Idealize.ShloMosaic.Lib.WritesUnit

/-! The feed-forward of the sample batch: the arrays its blocks are cut from, and its result. -/

@[expose] public section

set_option maxRecDepth 16384

noncomputable section

open Idealize.ShloMosaic Idealize.ShloMosaic.TcCoe Idealize.SL.Sem
open Idealize.ShloMosaic.Pipeline (Dat)

namespace Cert.Kernel5Ideal.Ffn

open Cert.Kernel5Ideal Cert.Kernel5Ideal.Gen

open Cert.Ffn

/-- The mask of the row before, at a row: false in the first row of the first block. -/
theorem before_mask (i : grid0.Coords) (p : Fin 512) : k0_pay4 i (ix2 p 0) = if p.val = 0 ∧ (i 1).val = 0 then 0#1 else 1#1 := by
  pointwise [k0_pay4]
  exact Cert.Kernel2Ideal.Ffn.mask_word p.val 0 (i 1).val 0 (by omega) (by decide) (lt_trans (i 1).isLt (by decide)) (by decide)

/-- The mask of the row after, at a row: false in the last row of the last block. -/
theorem after_mask (i : grid0.Coords) (p : Fin 512) : k0_pay5 i (ix2 p 0) = if p.val = 511 ∧ (i 1).val = 31 then 0#1 else 1#1 := by
  pointwise [k0_pay5]
  exact Cert.Kernel2Ideal.Ffn.mask_word p.val 511 (i 1).val 31 (by omega) (by decide) (lt_trans (i 1).isLt (by decide)) (by decide)

variable (m : (ℓ : Loc nD τ sig) → Buf (Elt Ideal) ℓ)

/-- The gate's weights reach the blocks unchanged: a cast is the identity. -/
theorem gate_entry (c : Dev nD) (w : FVec Ideal S1024x2816 .f32) (hw : w = m ((c : Thread nD τ).loc main_arg2)) (d : Fin 1024) (f : Fin 2816) :
    V m c main_v2 (ix2 d f) = (w (ix2 d f) : EReal) := by
  subst hw
  entry_read
  pointwise

/-- So do the other product's weights. -/
theorem up_entry (c : Dev nD) (w : FVec Ideal S1024x2816 .f32) (hw : w = m ((c : Thread nD τ).loc main_arg3)) (d : Fin 1024) (f : Fin 2816) :
    V m c main_v3 (ix2 d f) = (w (ix2 d f) : EReal) := by
  subst hw
  entry_read
  pointwise

/-- So do the last product's weights. -/
theorem down_entry (c : Dev nD) (w : FVec Ideal S2816x1024 .f32) (hw : w = m ((c : Thread nD τ).loc main_arg6)) (f : Fin 2816) (d : Fin 1024) :
    V m c main_v5 (ix2 f d) = (w (ix2 f d) : EReal) := by
  subst hw
  entry_read
  pointwise

/-- The convolution's bias as a row. -/
theorem bias_entry (c : Dev nD) (w : FVec Ideal S2816 .f32) (hw : w = m ((c : Thread nD τ).loc main_arg5)) (f : Fin 2816) :
    V m c main_v4 (ix2 0 f) = (w (ix1 f) : EReal) := by
  subst hw
  entry_read
  pointwise

/-- The normalisation's scale as a row. -/
theorem scale_entry (c : Dev nD) (w : FVec Ideal S1024 .f32) (hw : w = m ((c : Thread nD τ).loc main_arg7)) (d : Fin 1024) :
    V m c main_v6 (ix2 0 d) = (w (ix1 d) : EReal) := by
  subst hw
  entry_read
  pointwise

/-- The three taps with five rows of zeros below them. -/
def taps (w : FVec Ideal S3x2816 .f32) : FVec Ideal S8x2816 .f32 :=
  concatenate S8x2816 0 [⟨S3x2816, w⟩, ⟨S5x2816, broadcastInDim S5x2816 ![] bcast_S_S5x2816 (constant S_ .f32 0x00000000#32)⟩] concatenates_S3x2816_S5x2816_S8x2816_d0

/-- The array of taps that the blocks are cut from. -/
theorem taps_entry (c : Dev nD) (w : FVec Ideal S3x2816 .f32) (hw : w = m ((c : Thread nD τ).loc main_arg4)) : V m c main_v1 = taps w := by
  subst hw
  unfold V
  after_results_simp
  rfl

/-- The first three rows of that array are the taps. -/
theorem taps_at (w : FVec Ideal S3x2816 .f32) (r : Fin 3) (f : Fin 2816) : taps w (ix2 ⟨r.val, by omega⟩ f) = (w (ix2 r f) : EReal) := by
  pointwise [taps]

/-- Which block of each array a grid point reads or writes. -/
theorem idx : ∀ t : Fin cfg0.N, win0_0.index t = ![t.val / 32, t.val % 32, 0] ∧ win0_1.index t = ![t.val / 32, t.val % 32 * 32 - 1, 0]
    ∧ win0_2.index t = ![t.val / 32, min (t.val % 32 * 32 + 32) 1023, 0] ∧ win0_3.index t = ![t.val / 32, t.val % 32, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val / 32, t.val % 32, 0] ∧ (grid0.coords t 1).val = t.val % 32 ∧ t.val / 32 < 1 :=
  (by decide +kernel : ∀ t : Fin grid0.N, _)

/-- A grid point's blocks are cut from the arguments. -/
theorem cut (c : Dev nD) (h : FVec Ideal S1x16384x1024 .bf16) (x : FVec Ideal S1x16384x1024 .f32) (wg wu : FVec Ideal S1024x2816 .f32) (cw : FVec Ideal S3x2816 .f32)
    (cb : FVec Ideal S2816 .f32) (wd : FVec Ideal S2816x1024 .f32) (g : FVec Ideal S1024 .f32)
    (e0 : h = m ((c : Thread nD τ).loc main_arg0)) (e1 : x = m ((c : Thread nD τ).loc main_arg1)) (e2 : wg = m ((c : Thread nD τ).loc main_arg2))
    (e3 : wu = m ((c : Thread nD τ).loc main_arg3)) (e4 : cw = m ((c : Thread nD τ).loc main_arg4)) (e5 : cb = m ((c : Thread nD τ).loc main_arg5))
    (e6 : wd = m ((c : Thread nD τ).loc main_arg6)) (e7 : g = m ((c : Thread nD τ).loc main_arg7)) (t : Fin cfg0.N) :
    Cert.Kernel2Ideal.Ffn.Cut h x wg wu cw cb wd g ⟨t.val / 32, (idx t).2.2.2.2.2.2.2.2.2.2.2.2⟩ (t.val % 32) (k0_pay4 (grid0.coords t)) (k0_pay5 (grid0.coords t)) (iblk m c 0 t) (iblk m c 1 t) (iblk m c 2 t) (iblk m c 3 t)
      (iblk m c 4 t) (iblk m c 5 t) (iblk m c 6 t) (iblk m c 7 t) (iblk m c 8 t) (iblk m c 9 t) := by
  obtain ⟨i0, i1, i2, i3, i4, i5, i6, i7, i8, i9, i10, i11, i12⟩ := idx t
  refine ⟨by omega, fun p => ?_, fun p => ?_, fun p d => ?_, fun hj d => ?_, fun hj d => ?_, fun p d => ?_, fun d f => ?_, fun d f => ?_, fun f => ?_, fun f => ?_, fun f => ?_,
    fun f => ?_, fun f d => ?_, fun d => ?_⟩
  · rw [before_mask, i11]
  · rw [after_mask, i11]
    exact if_congr (and_congr_right fun _ => by omega) rfl rfl
  · rw [e0, ← V_main_arg0 m c]
    blk_ext [iblk, i0]
  · rw [e0, ← V_main_arg0 m c]
    blk_ext [iblk, i1]
  · rw [e0, ← V_main_arg0 m c]
    blk_ext [iblk, i2]
  · rw [e1, ← V_main_arg1 m c]
    blk_ext [iblk, i3]
  · rw [← gate_entry m c wg e2]
    blk_ext [iblk, i4]
  · rw [← up_entry m c wu e3]
    blk_ext [iblk, i5]
  · refine Eq.trans ?_ (taps_at cw 0 f)
    rw [← taps_entry m c cw e4]
    blk_ext [iblk, i6]
  · refine Eq.trans ?_ (taps_at cw 1 f)
    rw [← taps_entry m c cw e4]
    blk_ext [iblk, i6]
  · refine Eq.trans ?_ (taps_at cw 2 f)
    rw [← taps_entry m c cw e4]
    blk_ext [iblk, i6]
  · rw [← bias_entry m c cb e5]
    blk_ext [iblk, i7]
  · rw [← down_entry m c wd e6]
    blk_ext [iblk, i8]
  · rw [← scale_entry m c g e7]
    blk_ext [iblk, i9]

/-- The result array of the kernel is the reference's function of the arguments. -/
theorem final (c : Dev nD) (h : FVec Ideal S1x16384x1024 .bf16) (x : FVec Ideal S1x16384x1024 .f32) (wg wu : FVec Ideal S1024x2816 .f32) (cw : FVec Ideal S3x2816 .f32)
    (cb : FVec Ideal S2816 .f32) (wd : FVec Ideal S2816x1024 .f32) (g : FVec Ideal S1024 .f32)
    (e0 : h = m ((c : Thread nD τ).loc main_arg0)) (e1 : x = m ((c : Thread nD τ).loc main_arg1)) (e2 : wg = m ((c : Thread nD τ).loc main_arg2))
    (e3 : wu = m ((c : Thread nD τ).loc main_arg3)) (e4 : cw = m ((c : Thread nD τ).loc main_arg4)) (e5 : cb = m ((c : Thread nD τ).loc main_arg5))
    (e6 : wd = m ((c : Thread nD τ).loc main_arg6)) (e7 : g = m ((c : Thread nD τ).loc main_arg7)) :
    (dats m 0 c).arrAt 10 (cfgs 0).N = ref sample h x wg wu cw cb wd g := by
  refine (dats m 0 c).arrAt_eq_of_covers 10 _ (by decide +kernel) fun t hf y => ?_
  blk_simp; rw [after0_10]
  have C := cut m c h x wg wu cw cb wd g e0 e1 e2 e3 e4 e5 e6 e7 t
  obtain ⟨i0, i1, i2, i3, i4, i5, i6, i7, i8, i9, i10, i11, i12⟩ := idx t
  have e := (congrFun (Cert.Kernel2Ideal.Ffn.sample_outs_eq m c t) (ix3 0 (y 1) (y 2))).trans (Cert.Kernel2Ideal.Ffn.block_ref sample C (y 1) (y 2))
  refine Eq.trans (congrArg (outsAt0 m c t) ?_) (e.trans (congrArg (ref sample h x wg wu cw cb wd g) ?_))
  · blk_ext
  · blk_ext [i10]

end Cert.Kernel5Ideal.Ffn

end
-- ==== Proof.MixRef.lean ====
module

public import proofs.«01_k».proof.Proof.Gen.Reference3Ideal.Run
public import proofs.«01_k».proof.Proof.Gen.Reference6Ideal.Run
public import proofs.«01_k».proof.Defs
public import proofs.«01_k».proof.Proof.Rows
public import Idealize.ShloMosaic.Lib.StableHlo.Run
public import Idealize.ShloMosaic.Lib.Pointwise

/-! The reference of the output mixing as a function of its nine arguments, stage by stage, for any number of batches
and of rows, and each stage read at an index; the references of the prompt and of the sample batch are these functions. -/

@[expose] public section

set_option maxRecDepth 16384

noncomputable section

open Idealize.ShloMosaic Idealize.ShloMosaic.TcCoe Idealize.SL.Sem

/-- The gelu by the hyperbolic tangent, at a number. -/
def Cert.Mix.gelu (v : EReal) : EReal :=
  v * (Ideal.ofBits .f32 0x3F000000#32 * (1 + Ideal.tanh (Ideal.ofBits .f32 0x3F4C422A#32 * (v + Ideal.ofBits .f32 0x3D372713#32 * (v * v * v)))))

namespace Cert.Mix

open Cert.Rows hiding Fits

/-- The shapes of the stages fit together: `B` batches of `L` rows. -/
structure Fits (B L : ℕ) : Prop where
  widen : FTy.bits .bf16 < FTy.bits .f32
  group : Rows.Fits B L 512
  all : Rows.Fits B L 1024
  fill : Pt.BroadcastsInDim (Sq B L 512) (![] : Fin 0 → Fin 3)
  both : Shape.Concatenates [Sq B L 512, Sq B L 512] (Sq B L 1024) 2
  dotGate : DotDims.WF (Sq B L 512) (Mat 512 512) (Sq B L 512) [2] [0] [0, 1] [1] [] []
  dotOut : DotDims.WF (Sq B L 1024) (Mat 1024 1024) (Sq B L 1024) [2] [0] [0, 1] [1] [] []

variable {B L : ℕ} (S : Fits B L)

/-- A number repeated in an array of 512 columns. -/
def refConst (w : BitVec 32) : FVec Ideal (Sq B L 512) .f32 := broadcastInDim (Sq B L 512) ![] S.fill (constant Pt .f32 w)

/-- The gelu of the recurrence's output. -/
def refGelu (y : FVec Ideal (Sq B L 512) .f32) : FVec Ideal (Sq B L 512) .f32 :=
  mulf y (mulf (refConst S 0x3F000000#32) (addf (refConst S 0x3F800000#32) (Host.tanh (mulf (refConst S 0x3F4C422A#32)
    (addf y (mulf (refConst S 0x3D372713#32) (mulf (mulf y y) y)))))))

/-- The gate by the logistic function of a product. -/
def refGate (s : FVec Ideal (Sq B L 512) .f32) (w : FVec Ideal (Mat 512 512) .f32) (b : FVec Ideal (Vc 512) .f32) : FVec Ideal (Sq B L 512) .f32 :=
  mulf s (Host.divf (refConst S 0x3F800000#32) (addf (refConst S 0x3F800000#32) (Host.exp (Host.negf
    (addf (Host.dotGeneral (dims S.dotGate) none s w) (refRow S.group b))))))

/-- The residual stream plus the product of the two normalised groups side by side. -/
def refSum (x : FVec Ideal (Sq B L 1024) .f32) (s o : FVec Ideal (Sq B L 512) .f32) (w : FVec Ideal (Mat 1024 1024) .f32) : FVec Ideal (Sq B L 1024) .f32 :=
  addf x (Host.dotGeneral (dims S.dotOut) none (concatenate (Sq B L 1024) 2 [⟨Sq B L 512, s⟩, ⟨Sq B L 512, o⟩] S.both) w)

/-- The normalisation of rows of 1024, cast to bfloat16. -/
def refLast (x : FVec Ideal (Sq B L 1024) .f32) (g : FVec Ideal (Vc 1024) .f32) : FVec Ideal (Sq B L 1024) .bf16 :=
  truncf .bf16 (refNorm S.all 0x44800000#32 x g) S.widen

/-- The reference's first result as a function of its arguments. -/
def refStream (x : FVec Ideal (Sq B L 1024) .f32) (y o : FVec Ideal (Sq B L 512) .bf16) (wg : FVec Ideal (Mat 512 512) .f32) (b gs go : FVec Ideal (Vc 512) .f32)
    (w : FVec Ideal (Mat 1024 1024) .f32) : FVec Ideal (Sq B L 1024) .f32 :=
  refSum S x (refNorm S.group 0x44000000#32 (refGate S (refGelu S (extf .f32 y S.widen)) wg b) gs) (refNorm S.group 0x44000000#32 (extf .f32 o S.widen) go) w

/-- The reference's gelu at one index. -/
theorem refGelu_at (y : FVec Ideal (Sq B L 512) .f32) (b : Fin B) (l : Fin L) (d : Fin 512) : refGelu S y (ix3 b l d) = gelu (y (ix3 b l d)) := by
  pointwise [refGelu, refConst]
  try rfl

/-- The reference's gated value at one index. -/
theorem refGate_at (s : FVec Ideal (Sq B L 512) .f32) (w : FVec Ideal (Mat 512 512) .f32) (v : FVec Ideal (Vc 512) .f32) (b : Fin B) (l : Fin L) (d : Fin 512) :
    refGate S s w v (ix3 b l d) = (s (ix3 b l d) * Ideal.logistic ((∑ k : Fin 512, s (ix3 b l k) * w (ix2 k d)) + v (ix1 d)) : EReal) := by
  have e : addf (Host.dotGeneral (dims S.dotGate) none s w) (refRow S.group v) (ix3 b l d) = ((∑ k : Fin 512, s (ix3 b l k) * w (ix2 k d)) + v (ix1 d) : EReal) :=
    congrArg₂ (· + ·) (dot_at _ _ _ _ _ _) (row_at _ _ _ _ _ _)
  rw [← e]
  unfold refGate
  generalize addf (Host.dotGeneral (dims S.dotGate) none s w) (refRow S.group v) = a
  pointwise [refConst]
  try rfl

/-- The two groups side by side, at one index. -/
theorem both_at (s o : FVec Ideal (Sq B L 512) .f32) (b : Fin B) (l : Fin L) (k : Fin 1024) :
    concatenate (Sq B L 1024) 2 [⟨Sq B L 512, s⟩, ⟨Sq B L 512, o⟩] S.both (ix3 b l k)
      = if h : k.val < 512 then s (ix3 b l ⟨k.val, h⟩) else o (ix3 b l ⟨k.val - 512, by omega⟩) := by
  pointwise
  split
  · refine congrArg s ?_
    funext a
    match a with
    | ⟨0, _⟩ => rfl
    | ⟨1, _⟩ => rfl
    | ⟨2, _⟩ => rfl
  · refine congrArg o ?_
    funext a
    match a with
    | ⟨0, _⟩ => rfl
    | ⟨1, _⟩ => rfl
    | ⟨2, _⟩ => rfl

/-- The reference's residual sum at one index. -/
theorem refSum_at (x : FVec Ideal (Sq B L 1024) .f32) (s o : FVec Ideal (Sq B L 512) .f32) (w : FVec Ideal (Mat 1024 1024) .f32) (b : Fin B) (l : Fin L) (d : Fin 1024) :
    refSum S x s o w (ix3 b l d) = (x (ix3 b l d) + ((∑ k : Fin 512, s (ix3 b l k) * w (ix2 ⟨k.val, by omega⟩ d))
      + ∑ k : Fin 512, o (ix3 b l k) * w (ix2 ⟨512 + k.val, by omega⟩ d)) : EReal) := by
  refine congrArg (x (ix3 b l d) + ·) ((dot_at S.dotOut _ w b l d).trans ((Fin.sum_univ_add (a := 512) (b := 512) _).trans ?_))
  refine congrArg₂ (· + ·) (Finset.sum_congr rfl fun k _ => congrArg (· * _) ?_) (Finset.sum_congr rfl fun k _ => congrArg (· * _) ?_)
  · exact (both_at S s o b l _).trans (dif_pos (show k.val < 512 from k.isLt))
  · refine (both_at S s o b l _).trans ((dif_neg (show ¬ 512 + k.val < 512 by omega)).trans ?_)
    exact congrArg o (congrArg (ix3 b l) (Fin.ext (show 512 + k.val - 512 = k.val by omega)))

/-- The reference's normalised stream at one index. -/
theorem refLast_at (x : FVec Ideal (Sq B L 1024) .f32) (g : FVec Ideal (Vc 1024) .f32) (b : Fin B) (l : Fin L) (d : Fin 1024) :
    refLast S x g (ix3 b l d) = norm (Ideal.ofBits .f32 0x44800000#32) (fun d => x (ix3 b l d)) (fun d => g (ix1 d)) d :=
  refNorm_at _ _ _ _ _ _ _

section prompt

open Cert.Reference3Ideal Cert.Reference3Ideal.Gen

/-- The shapes of the prompt batch fit. -/
theorem prompt : Fits 8 8192 where
  widen := bitsLt_bf16_f32
  group := ⟨h_S_, reducesTo_S8x8192x512_S8x8192_d2, bcast_S8x8192_S8x8192x1_0_1, bcast_S_S8x8192x1, bcast_S8x8192x1_S8x8192x512_0_1_2, bcast_S512_S1x1x512_2,
    bcast_S1x1x512_S8x8192x512_0_1_2⟩
  all := ⟨h_S_, reducesTo_S8x8192x1024_S8x8192_d2, bcast_S8x8192_S8x8192x1_0_1, bcast_S_S8x8192x1, bcast_S8x8192x1_S8x8192x1024_0_1_2, bcast_S1024_S1x1x1024_2,
    bcast_S1x1x1024_S8x8192x1024_0_1_2⟩
  fill := bcast_S_S8x8192x512
  both := concatenates_S8x8192x512_S8x8192x512_S8x8192x1024_d2
  dotGate := dot_S8x8192x512_S512x512_S8x8192x512_2_0_01_1_n_n_wf
  dotOut := dot_S8x8192x1024_S1024x1024_S8x8192x1024_2_0_01_1_n_n_wf

/-- The first composed result of the prompt batch's reference is that function of the arguments. -/
theorem prompt_stream (m : (ℓ : Loc nD τ sig) → Buf (Elt Ideal) ℓ) (c : Dev nD) : Cert.Reference3Ideal.Value.res_main_v54 m c
    = refStream prompt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-- The second composed result is the normalisation of the first. -/
theorem prompt_last (m : (ℓ : Loc nD τ sig) → Buf (Elt Ideal) ℓ) (c : Dev nD) : Cert.Reference3Ideal.Value.res_main_v68 m c
    = refLast prompt (refStream prompt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      (m ((c.tc : Thread nD τ).loc main_arg8)) := rfl

end prompt

section sample

open Cert.Reference6Ideal Cert.Reference6Ideal.Gen

/-- The shapes of the sample batch fit. -/
theorem sample : Fits 1 16384 where
  widen := bitsLt_bf16_f32
  group := ⟨h_S_, reducesTo_S1x16384x512_S1x16384_d2, bcast_S1x16384_S1x16384x1_0_1, bcast_S_S1x16384x1, bcast_S1x16384x1_S1x16384x512_0_1_2, bcast_S512_S1x1x512_2,
    bcast_S1x1x512_S1x16384x512_0_1_2⟩
  all := ⟨h_S_, reducesTo_S1x16384x1024_S1x16384_d2, bcast_S1x16384_S1x16384x1_0_1, bcast_S_S1x16384x1, bcast_S1x16384x1_S1x16384x1024_0_1_2, bcast_S1024_S1x1x1024_2,
    bcast_S1x1x1024_S1x16384x1024_0_1_2⟩
  fill := bcast_S_S1x16384x512
  both := concatenates_S1x16384x512_S1x16384x512_S1x16384x1024_d2
  dotGate := dot_S1x16384x512_S512x512_S1x16384x512_2_0_01_1_n_n_wf
  dotOut := dot_S1x16384x1024_S1024x1024_S1x16384x1024_2_0_01_1_n_n_wf

/-- The first composed result of the sample batch's reference is that function of the arguments. -/
theorem sample_stream (m : (ℓ : Loc nD τ sig) → Buf (Elt Ideal) ℓ) (c : Dev nD) : Cert.Reference6Ideal.Value.res_main_v54 m c
    = refStream sample (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-- The second composed result is the normalisation of the first. -/
theorem sample_last (m : (ℓ : Loc nD τ sig) → Buf (Elt Ideal) ℓ) (c : Dev nD) : Cert.Reference6Ideal.Value.res_main_v68 m c
    = refLast sample (refStream sample (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      (m ((c.tc : Thread nD τ).loc main_arg8)) := rfl

end sample

end Cert.Mix

end
-- ==== Proof.MixBlock.lean ====
module

public import proofs.«01_k».proof.Proof.Gen.Kernel3Ideal.Value
public import proofs.«01_k».proof.Defs
public import proofs.«01_k».proof.Proof.MixRef
public import Idealize.ShloMosaic.Lib.StableHlo.Run
public import Idealize.ShloMosaic.Lib.Pipeline.ValueKit
public import Idealize.ShloMosaic.Lib.Pointwise
public import Idealize.ShloMosaic.Lib.WritesUnit

/-! One block of 512 rows of the output mixing, for any number of batches and rows: what a grid point leaves in it is the
reference there, when the blocks read are cut from the arguments. -/

@[expose] public section

set_option maxRecDepth 16384

noncomputable section

open Idealize.ShloMosaic Idealize.ShloMosaic.TcCoe Idealize.SL.Sem
open Idealize.ShloMosaic.Pipeline (Dat)

namespace Cert.Kernel3Ideal.Mix

open Cert.Kernel3Ideal Cert.Kernel3Ideal.Gen

open Cert.Mix
open Cert.Rows hiding Fits

/-- The gelu with the cube multiplied from the right. -/
theorem gelu_eq (v : EReal) : v * (Ideal.ofBits .f32 0x3F000000#32 * (1 + Ideal.tanh (Ideal.ofBits .f32 0x3F4C422A#32
    * (v + Ideal.ofBits .f32 0x3D372713#32 * (v * (v * v)))))) = gelu v := by
  unfold gelu
  rw [mul_assoc v v v]

/-- The first group of a block: the normalised gated gelu. -/
theorem group_at (v0 : Vec Ideal S1x512x512 .bf16) (v17 : Vec Ideal S512x512 .bf16) (v20 v26 : Vec Ideal S1x512 .f32) (p f : Fin 512) :
    k0_pay2 v0 v17 v20 v26 (ix2 p f) = norm (Ideal.ofBits .f32 0x44000000#32)
      (fun f => gelu (v0 (ix3 0 p f)) * Ideal.logistic ((∑ d : Fin 512, gelu (v0 (ix3 0 p d)) * v17 (ix2 d f)) + v20 (ix2 0 f)))
      (fun f => v26 (ix2 0 f)) f := by
  pointwise [k0_pay2]
  simp only [gelu_eq]
  rfl

/-- The new residual stream of a block. -/
theorem stream_at (s : FVec Ideal S512x512 .bf16) (o : Vec Ideal S1x512x512 .bf16) (g : Vec Ideal S1x512 .f32) (x : Vec Ideal S1x512x1024 .f32)
    (wa wb : Vec Ideal S512x1024 .bf16) (p : Fin 512) (q : Fin 1024) :
    k0_pay3 s o g x wa wb (ix2 p q) = (x (ix3 0 p q) + (∑ k : Fin 512, s (ix2 p k) * wa (ix2 k q))
      + ∑ k : Fin 512, norm (Ideal.ofBits .f32 0x44000000#32) (fun d => o (ix3 0 p d)) (fun d => g (ix2 0 d)) k * wb (ix2 k q) : EReal) := by
  pointwise [k0_pay3]
  rfl

/-- The stored residual stream. -/
theorem stored_at (s : FVec Ideal S512x512 .bf16) (o : Vec Ideal S1x512x512 .bf16) (g : Vec Ideal S1x512 .f32) (x : Vec Ideal S1x512x1024 .f32)
    (wa wb : Vec Ideal S512x1024 .bf16) (p : Fin 512) (q : Fin 1024) : k0_pay4 s o g x wa wb (ix3 0 p q) = (k0_pay3 s o g x wa wb (ix2 p q) : EReal) := by
  pointwise [k0_pay4]

/-- The stored normalised tokens. -/
theorem last_at (s : FVec Ideal S512x512 .bf16) (o : Vec Ideal S1x512x512 .bf16) (g : Vec Ideal S1x512 .f32) (x : Vec Ideal S1x512x1024 .f32)
    (wa wb : Vec Ideal S512x1024 .bf16) (g2 : Vec Ideal S1x1024 .f32) (p : Fin 512) (q : Fin 1024) :
    k0_pay1 (k0_pay3 s o g x wa wb) (k0_pay5 g2) (k0_pay6 s o g x wa wb) (ix3 0 p q)
      = norm (Ideal.ofBits .f32 0x44800000#32) (fun d => k0_pay3 s o g x wa wb (ix2 p d)) (fun d => g2 (ix2 0 d)) q := by
  unfold k0_pay6
  generalize k0_pay3 s o g x wa wb = a
  pointwise [k0_pay1, k0_pay5]
  rfl

/-- What a grid point leaves in its block of the first result. -/
theorem out_stream (x0 : Vec Ideal S1x512x1024 .f32) (x1 x2 : Vec Ideal S1x512x512 .bf16) (x3 : Vec Ideal S512x512 .bf16) (x4 x5 x6 : Vec Ideal S1x512 .f32)
    (x7 x8 : Vec Ideal S512x1024 .bf16) (x9 : Vec Ideal S1x1024 .f32) :
    out0_10 x0 x1 x2 x3 x4 x5 x6 x7 x8 x9 = k0_pay4 (k0_pay2 x1 x3 x4 x5) x2 x6 x0 x7 x8 := by
  unfold out0_10 k0_pay7
  frame_out

/-- What a grid point leaves in its block of the second result. -/
theorem out_last (x0 : Vec Ideal S1x512x1024 .f32) (x1 x2 : Vec Ideal S1x512x512 .bf16) (x3 : Vec Ideal S512x512 .bf16) (x4 x5 x6 : Vec Ideal S1x512 .f32)
    (x7 x8 : Vec Ideal S512x1024 .bf16) (x9 : Vec Ideal S1x1024 .f32) :
    out0_11 x0 x1 x2 x3 x4 x5 x6 x7 x8 x9 = k0_pay1 (k0_pay3 (k0_pay2 x1 x3 x4 x5) x2 x6 x0 x7 x8) (k0_pay5 x9) (k0_pay6 (k0_pay2 x1 x3 x4 x5) x2 x6 x0 x7 x8) := by
  unfold out0_11 k0_pay7
  frame_out

section step

variable {B L : ℕ} (S : Fits B L) (x : FVec Ideal (Sq B L 1024) .f32) (y o : FVec Ideal (Sq B L 512) .bf16) (wg : FVec Ideal (Mat 512 512) .f32)
  (v gs go : FVec Ideal (Vc 512) .f32) (w : FVec Ideal (Mat 1024 1024) .f32) (g : FVec Ideal (Vc 1024) .f32)

/-- The blocks that a grid point reads are cut from the arguments: batch `b`, rows from `512 j` on. -/
structure Cut (b : Fin B) (j : ℕ) (x0 : Vec Ideal S1x512x1024 .f32) (x1 x2 : Vec Ideal S1x512x512 .bf16) (x3 : Vec Ideal S512x512 .bf16)
    (x4 x5 x6 : Vec Ideal S1x512 .f32) (x7 x8 : Vec Ideal S512x1024 .bf16) (x9 : Vec Ideal S1x1024 .f32) : Prop where
  le : j * 512 + 512 ≤ L
  stream : ∀ (p : Fin 512) (d : Fin 1024), x0 (ix3 0 p d) = x (ix3 b ⟨j * 512 + p.val, by omega⟩ d)
  scan : ∀ (p d : Fin 512), x1 (ix3 0 p d) = y (ix3 b ⟨j * 512 + p.val, by omega⟩ d)
  attn : ∀ (p d : Fin 512), x2 (ix3 0 p d) = o (ix3 b ⟨j * 512 + p.val, by omega⟩ d)
  gate : ∀ d f, x3 (ix2 d f) = wg (ix2 d f)
  bias : ∀ f, x4 (ix2 0 f) = v (ix1 f)
  scale1 : ∀ f, x5 (ix2 0 f) = gs (ix1 f)
  scale2 : ∀ f, x6 (ix2 0 f) = go (ix1 f)
  top : ∀ (k : Fin 512) (d : Fin 1024), x7 (ix2 k d) = w (ix2 ⟨k.val, by omega⟩ d)
  low : ∀ (k : Fin 512) (d : Fin 1024), x8 (ix2 k d) = w (ix2 ⟨512 + k.val, by omega⟩ d)
  scale : ∀ d, x9 (ix2 0 d) = g (ix1 d)

variable {b : Fin B} {j : ℕ} {x0 : Vec Ideal S1x512x1024 .f32} {x1 x2 : Vec Ideal S1x512x512 .bf16} {x3 : Vec Ideal S512x512 .bf16}
    {x4 x5 x6 : Vec Ideal S1x512 .f32} {x7 x8 : Vec Ideal S512x1024 .bf16} {x9 : Vec Ideal S1x1024 .f32}

variable {x y o wg v gs go w g}

variable (C : Cut x y o wg v gs go w g b j x0 x1 x2 x3 x4 x5 x6 x7 x8 x9)

include C

/-- A block's first group is the reference's. -/
theorem group_ref (p f : Fin 512) : k0_pay2 x1 x3 x4 x5 (ix2 p f)
    = refNorm S.group 0x44000000#32 (refGate S (refGelu S (extf .f32 y S.widen)) wg v) gs (ix3 b ⟨j * 512 + p.val, by have := C.le; omega⟩ f) := by
  rw [group_at, refNorm_at]
  simp only [refGate_at, refGelu_at, C.scan, C.gate, C.bias, C.scale1]
  rfl

/-- A block's residual stream is the reference's. -/
theorem stream_ref (p : Fin 512) (q : Fin 1024) : k0_pay3 (k0_pay2 x1 x3 x4 x5) x2 x6 x0 x7 x8 (ix2 p q)
    = refStream S x y o wg v gs go w (ix3 b ⟨j * 512 + p.val, by have := C.le; omega⟩ q) := by
  unfold refStream
  rw [stream_at, refSum_at, add_assoc]
  refine congrArg₂ (· + ·) (C.stream p q) (congrArg₂ (· + ·) (Finset.sum_congr rfl fun k _ => congrArg₂ (· * ·) (group_ref S C p k) (C.top k q))
    (Finset.sum_congr rfl fun k _ => congrArg₂ (· * ·) ?_ (C.low k q)))
  rw [refNorm_at]
  simp only [C.attn, C.scale2]
  rfl

/-- What a grid point leaves in its block of the first result is the reference's. -/
theorem out_stream_ref (p : Fin 512) (q : Fin 1024) : out0_10 x0 x1 x2 x3 x4 x5 x6 x7 x8 x9 (ix3 0 p q)
    = refStream S x y o wg v gs go w (ix3 b ⟨j * 512 + p.val, by have := C.le; omega⟩ q) := by
  rw [out_stream, stored_at, stream_ref S C]

/-- What a grid point leaves in its block of the second result is the reference's. -/
theorem out_last_ref (p : Fin 512) (q : Fin 1024) : out0_11 x0 x1 x2 x3 x4 x5 x6 x7 x8 x9 (ix3 0 p q)
    = refLast S (refStream S x y o wg v gs go w) g (ix3 b ⟨j * 512 + p.val, by have := C.le; omega⟩ q) := by
  rw [out_last, last_at, refLast_at]
  simp only [stream_ref S C, C.scale]

end step

end Cert.Kernel3Ideal.Mix

end
-- ==== Proof.MixValue.lean ====
module

public import proofs.«01_k».proof.Proof.Gen.Kernel3Ideal.Value
public import proofs.«01_k».proof.Defs
public import proofs.«01_k».proof.Proof.MixBlock
public import Idealize.ShloMosaic.Lib.StableHlo.Run
public import Idealize.ShloMosaic.Lib.Pipeline.ValueKit
public import Idealize.ShloMosaic.Lib.Pointwise
public import Idealize.ShloMosaic.Lib.WritesUnit

/-! The output mixing of the prompt batch: the arrays its blocks are cut from, and its two results. -/

@[expose] public section

set_option maxRecDepth 16384

noncomputable section

open Idealize.ShloMosaic Idealize.ShloMosaic.TcCoe Idealize.SL.Sem
open Idealize.ShloMosaic.Pipeline (Dat)

namespace Cert.Kernel3Ideal.Mix

open Cert.Kernel3Ideal Cert.Kernel3Ideal.Gen

open Cert.Mix

variable (m : (ℓ : Loc nD τ sig) → Buf (Elt Ideal) ℓ)

/-- The gate's weights reach the blocks unchanged: a cast is the identity. -/
theorem gate_entry (c : Dev nD) (w : FVec Ideal S512x512 .f32) (hw : w = m ((c : Thread nD τ).loc main_arg3)) (d f : Fin 512) :
    V m c main_v0 (ix2 d f) = (w (ix2 d f) : EReal) := by
  subst hw
  entry_read
  pointwise

/-- The gate's bias as a row. -/
theorem bias_entry (c : Dev nD) (w : FVec Ideal S512 .f32) (hw : w = m ((c : Thread nD τ).loc main_arg4)) (f : Fin 512) :
    V m c main_v1 (ix2 0 f) = (w (ix1 f) : EReal) := by
  subst hw
  entry_read
  pointwise

/-- The first group's scale as a row. -/
theorem scale1_entry (c : Dev nD) (w : FVec Ideal S512 .f32) (hw : w = m ((c : Thread nD τ).loc main_arg5)) (f : Fin 512) :
    V m c main_v2 (ix2 0 f) = (w (ix1 f) : EReal) := by
  subst hw
  entry_read
  pointwise

/-- The second group's scale as a row. -/
theorem scale2_entry (c : Dev nD) (w : FVec Ideal S512 .f32) (hw : w = m ((c : Thread nD τ).loc main_arg6)) (f : Fin 512) :
    V m c main_v3 (ix2 0 f) = (w (ix1 f) : EReal) := by
  subst hw
  entry_read
  pointwise

/-- The first half of the output weights' rows. -/
theorem top_entry (c : Dev nD) (w : FVec Ideal S1024x1024 .f32) (hw : w = m ((c : Thread nD τ).loc main_arg7)) (k : Fin 512) (d : Fin 1024) :
    V m c main_v5 (ix2 k d) = (w (ix2 ⟨k.val, by omega⟩ d) : EReal) := by
  subst hw
  entry_read
  pointwise

/-- The second half of the output weights' rows. -/
theorem low_entry (c : Dev nD) (w : FVec Ideal S1024x1024 .f32) (hw : w = m ((c : Thread nD τ).loc main_arg7)) (k : Fin 512) (d : Fin 1024) :
    V m c main_v7 (ix2 k d) = (w (ix2 ⟨512 + k.val, by omega⟩ d) : EReal) := by
  subst hw
  entry_read
  pointwise

/-- The last normalisation's scale as a row. -/
theorem scale_entry (c : Dev nD) (w : FVec Ideal S1024 .f32) (hw : w = m ((c : Thread nD τ).loc main_arg8)) (d : Fin 1024) :
    V m c main_v8 (ix2 0 d) = (w (ix1 d) : EReal) := by
  subst hw
  entry_read
  pointwise

/-- Which block of each array a grid point reads or writes. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val / 16, t.val % 16, 0] ∧ win0_11.index t = ![t.val / 16, t.val % 16, 0] ∧ t.val / 16 < 8 :=
  (by decide +kernel : ∀ t : Fin grid0.N, _)

section args

variable (c : Dev nD) (x : FVec Ideal S8x8192x1024 .f32) (y o : FVec Ideal S8x8192x512 .bf16) (wg : FVec Ideal S512x512 .f32) (v gs go : FVec Ideal S512 .f32)
  (w : FVec Ideal S1024x1024 .f32) (g : FVec Ideal S1024 .f32)
  (e0 : x = m ((c : Thread nD τ).loc main_arg0)) (e1 : y = m ((c : Thread nD τ).loc main_arg1)) (e2 : o = m ((c : Thread nD τ).loc main_arg2))
  (e3 : wg = m ((c : Thread nD τ).loc main_arg3)) (e4 : v = m ((c : Thread nD τ).loc main_arg4)) (e5 : gs = m ((c : Thread nD τ).loc main_arg5))
  (e6 : go = m ((c : Thread nD τ).loc main_arg6)) (e7 : w = m ((c : Thread nD τ).loc main_arg7)) (e8 : g = m ((c : Thread nD τ).loc main_arg8))

include e0 e1 e2 e3 e4 e5 e6 e7 e8

/-- A grid point's blocks are cut from the arguments. -/
theorem cut (t : Fin cfg0.N) :
    Cert.Kernel3Ideal.Mix.Cut x y o wg v gs go w g ⟨t.val / 16, (idx t).2.2.2.2.2.2.2.2.2.2.2.2⟩ (t.val % 16) (iblk m c 0 t) (iblk m c 1 t) (iblk m c 2 t) (iblk m c 3 t)
      (iblk m c 4 t) (iblk m c 5 t) (iblk m c 6 t) (iblk m c 7 t) (iblk m c 8 t) (iblk m c 9 t) := by
  obtain ⟨i0, i1, i2, i3, i4, i5, i6, i7, i8, i9, i10, i11, i12⟩ := idx t
  refine ⟨by omega, fun p d => ?_, fun p d => ?_, fun p d => ?_, fun d f => ?_, fun f => ?_, fun f => ?_, fun f => ?_, fun k d => ?_,
    fun k d => ?_, fun d => ?_⟩
  · rw [e0, ← V_main_arg0 m c]
    blk_ext [iblk, i0]
  · rw [e1, ← V_main_arg1 m c]
    blk_ext [iblk, i1]
  · rw [e2, ← V_main_arg2 m c]
    blk_ext [iblk, i2]
  · rw [← gate_entry m c wg e3]
    blk_ext [iblk, i3]
  · rw [← bias_entry m c v e4]
    blk_ext [iblk, i4]
  · rw [← scale1_entry m c gs e5]
    blk_ext [iblk, i5]
  · rw [← scale2_entry m c go e6]
    blk_ext [iblk, i6]
  · rw [← top_entry m c w e7]
    blk_ext [iblk, i7]
  · rw [← low_entry m c w e7]
    blk_ext [iblk, i8]
  · rw [← scale_entry m c g e8]
    blk_ext [iblk, i9]

/-- The kernel's first result array is the reference's residual stream. -/
theorem final_stream : (dats m 0 c).arrAt 10 (cfgs 0).N = refStream prompt x y o wg v gs go w := by
  refine (dats m 0 c).arrAt_eq_of_covers 10 _ (by decide +kernel) fun t hf y' => ?_
  blk_simp; rw [after0_10]
  have C := cut m c x y o wg v gs go w g e0 e1 e2 e3 e4 e5 e6 e7 e8 t
  obtain ⟨i0, i1, i2, i3, i4, i5, i6, i7, i8, i9, i10, i11, i12⟩ := idx t
  have e := out_stream_ref prompt C (y' 1) (y' 2)
  refine Eq.trans (congrArg (out0_10 (iblk m c 0 t) (iblk m c 1 t) (iblk m c 2 t) (iblk m c 3 t)
    (iblk m c 4 t) (iblk m c 5 t) (iblk m c 6 t) (iblk m c 7 t) (iblk m c 8 t) (iblk m c 9 t)) ?_) (e.trans (congrArg (refStream prompt x y o wg v gs go w) ?_))
  · blk_ext
  · blk_ext [i10]

/-- The kernel's second result array is the reference's normalisation of that stream. -/
theorem final_last : (dats m 0 c).arrAt 11 (cfgs 0).N = refLast prompt (refStream prompt x y o wg v gs go w) g := by
  refine (dats m 0 c).arrAt_eq_of_covers 11 _ (by decide +kernel) fun t hf y' => ?_
  blk_simp; rw [after0_11]
  have C := cut m c x y o wg v gs go w g e0 e1 e2 e3 e4 e5 e6 e7 e8 t
  obtain ⟨i0, i1, i2, i3, i4, i5, i6, i7, i8, i9, i10, i11, i12⟩ := idx t
  have e := out_last_ref prompt C (y' 1) (y' 2)
  refine Eq.trans (congrArg (out0_11 (iblk m c 0 t) (iblk m c 1 t) (iblk m c 2 t) (iblk m c 3 t)
    (iblk m c 4 t) (iblk m c 5 t) (iblk m c 6 t) (iblk m c 7 t) (iblk m c 8 t) (iblk m c 9 t)) ?_) (e.trans (congrArg (refLast prompt (refStream prompt x y o wg v gs go w) g) ?_))
  · blk_ext
  · blk_ext [i11]

end args

end Cert.Kernel3Ideal.Mix

end
-- ==== Proof.MixSample.lean ====
module

public import proofs.«01_k».proof.Proof.Gen.Kernel6Ideal.Value
public import proofs.«01_k».proof.Defs
public import proofs.«01_k».proof.Proof.MixBlock
public import Idealize.ShloMosaic.Lib.StableHlo.Run
public import Idealize.ShloMosaic.Lib.Pipeline.ValueKit
public import Idealize.ShloMosaic.Lib.Pointwise
public import Idealize.ShloMosaic.Lib.WritesUnit

/-! The output mixing of the sample batch: the arrays its blocks are cut from, and its two results. -/

@[expose] public section

set_option maxRecDepth 16384

noncomputable section

open Idealize.ShloMosaic Idealize.ShloMosaic.TcCoe Idealize.SL.Sem
open Idealize.ShloMosaic.Pipeline (Dat)

namespace Cert.Kernel6Ideal.Mix

open Cert.Kernel6Ideal Cert.Kernel6Ideal.Gen

open Cert.Mix

variable (m : (ℓ : Loc nD τ sig) → Buf (Elt Ideal) ℓ)

/-- The gate's weights reach the blocks unchanged: a cast is the identity. -/
theorem gate_entry (c : Dev nD) (w : FVec Ideal S512x512 .f32) (hw : w = m ((c : Thread nD τ).loc main_arg3)) (d f : Fin 512) :
    V m c main_v0 (ix2 d f) = (w (ix2 d f) : EReal) := by
  subst hw
  entry_read
  pointwise

/-- The gate's bias as a row. -/
theorem bias_entry (c : Dev nD) (w : FVec Ideal S512 .f32) (hw : w = m ((c : Thread nD τ).loc main_arg4)) (f : Fin 512) :
    V m c main_v1 (ix2 0 f) = (w (ix1 f) : EReal) := by
  subst hw
  entry_read
  pointwise

/-- The first group's scale as a row. -/
theorem scale1_entry (c : Dev nD) (w : FVec Ideal S512 .f32) (hw : w = m ((c : Thread nD τ).loc main_arg5)) (f : Fin 512) :
    V m c main_v2 (ix2 0 f) = (w (ix1 f) : EReal) := by
  subst hw
  entry_read
  pointwise

/-- The second group's scale as a row. -/
theorem scale2_entry (c : Dev nD) (w : FVec Ideal S512 .f32) (hw : w = m ((c : Thread nD τ).loc main_arg6)) (f : Fin 512) :
    V m c main_v3 (ix2 0 f) = (w (ix1 f) : EReal) := by
  subst hw
  entry_read
  pointwise

/-- The first half of the output weights' rows. -/
theorem top_entry (c : Dev nD) (w : FVec Ideal S1024x1024 .f32) (hw : w = m ((c : Thread nD τ).loc main_arg7)) (k : Fin 512) (d : Fin 1024) :
    V m c main_v5 (ix2 k d) = (w (ix2 ⟨k.val, by omega⟩ d) : EReal) := by
  subst hw
  entry_read
  pointwise

/-- The second half of the output weights' rows. -/
theorem low_entry (c : Dev nD) (w : FVec Ideal S1024x1024 .f32) (hw : w = m ((c : Thread nD τ).loc main_arg7)) (k : Fin 512) (d : Fin 1024) :
    V m c main_v7 (ix2 k d) = (w (ix2 ⟨512 + k.val, by omega⟩ d) : EReal) := by
  subst hw
  entry_read
  pointwise

/-- The last normalisation's scale as a row. -/
theorem scale_entry (c : Dev nD) (w : FVec Ideal S1024 .f32) (hw : w = m ((c : Thread nD τ).loc main_arg8)) (d : Fin 1024) :
    V m c main_v8 (ix2 0 d) = (w (ix1 d) : EReal) := by
  subst hw
  entry_read
  pointwise

/-- Which block of each array a grid point reads or writes. -/
theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val / 32, t.val % 32, 0] ∧ win0_11.index t = ![t.val / 32, t.val % 32, 0] ∧ t.val / 32 < 1 :=
  (by decide +kernel : ∀ t : Fin grid0.N, _)

section args

variable (c : Dev nD) (x : FVec Ideal S1x16384x1024 .f32) (y o : FVec Ideal S1x16384x512 .bf16) (wg : FVec Ideal S512x512 .f32) (v gs go : FVec Ideal S512 .f32)
  (w : FVec Ideal S1024x1024 .f32) (g : FVec Ideal S1024 .f32)
  (e0 : x = m ((c : Thread nD τ).loc main_arg0)) (e1 : y = m ((c : Thread nD τ).loc main_arg1)) (e2 : o = m ((c : Thread nD τ).loc main_arg2))
  (e3 : wg = m ((c : Thread nD τ).loc main_arg3)) (e4 : v = m ((c : Thread nD τ).loc main_arg4)) (e5 : gs = m ((c : Thread nD τ).loc main_arg5))
  (e6 : go = m ((c : Thread nD τ).loc main_arg6)) (e7 : w = m ((c : Thread nD τ).loc main_arg7)) (e8 : g = m ((c : Thread nD τ).loc main_arg8))

include e0 e1 e2 e3 e4 e5 e6 e7 e8

/-- A grid point's blocks are cut from the arguments. -/
theorem cut (t : Fin cfg0.N) :
    Cert.Kernel3Ideal.Mix.Cut x y o wg v gs go w g ⟨t.val / 32, (idx t).2.2.2.2.2.2.2.2.2.2.2.2⟩ (t.val % 32) (iblk m c 0 t) (iblk m c 1 t) (iblk m c 2 t) (iblk m c 3 t)
      (iblk m c 4 t) (iblk m c 5 t) (iblk m c 6 t) (iblk m c 7 t) (iblk m c 8 t) (iblk m c 9 t) := by
  obtain ⟨i0, i1, i2, i3, i4, i5, i6, i7, i8, i9, i10, i11, i12⟩ := idx t
  refine ⟨by omega, fun p d => ?_, fun p d => ?_, fun p d => ?_, fun d f => ?_, fun f => ?_, fun f => ?_, fun f => ?_, fun k d => ?_,
    fun k d => ?_, fun d => ?_⟩
  · rw [e0, ← V_main_arg0 m c]
    blk_ext [iblk, i0]
  · rw [e1, ← V_main_arg1 m c]
    blk_ext [iblk, i1]
  · rw [e2, ← V_main_arg2 m c]
    blk_ext [iblk, i2]
  · rw [← gate_entry m c wg e3]
    blk_ext [iblk, i3]
  · rw [← bias_entry m c v e4]
    blk_ext [iblk, i4]
  · rw [← scale1_entry m c gs e5]
    blk_ext [iblk, i5]
  · rw [← scale2_entry m c go e6]
    blk_ext [iblk, i6]
  · rw [← top_entry m c w e7]
    blk_ext [iblk, i7]
  · rw [← low_entry m c w e7]
    blk_ext [iblk, i8]
  · rw [← scale_entry m c g e8]
    blk_ext [iblk, i9]

/-- The kernel's first result array is the reference's residual stream. -/
theorem final_stream : (dats m 0 c).arrAt 10 (cfgs 0).N = refStream sample x y o wg v gs go w := by
  refine (dats m 0 c).arrAt_eq_of_covers 10 _ (by decide +kernel) fun t hf y' => ?_
  blk_simp; rw [after0_10]
  have C := cut m c x y o wg v gs go w g e0 e1 e2 e3 e4 e5 e6 e7 e8 t
  obtain ⟨i0, i1, i2, i3, i4, i5, i6, i7, i8, i9, i10, i11, i12⟩ := idx t
  have e := Cert.Kernel3Ideal.Mix.out_stream_ref sample C (y' 1) (y' 2)
  refine Eq.trans (congrArg (out0_10 (iblk m c 0 t) (iblk m c 1 t) (iblk m c 2 t) (iblk m c 3 t)
    (iblk m c 4 t) (iblk m c 5 t) (iblk m c 6 t) (iblk m c 7 t) (iblk m c 8 t) (iblk m c 9 t)) ?_) (e.trans (congrArg (refStream sample x y o wg v gs go w) ?_))
  · blk_ext
  · blk_ext [i10]

/-- The kernel's second result array is the reference's normalisation of that stream. -/
theorem final_last : (dats m 0 c).arrAt 11 (cfgs 0).N = refLast sample (refStream sample x y o wg v gs go w) g := by
  refine (dats m 0 c).arrAt_eq_of_covers 11 _ (by decide +kernel) fun t hf y' => ?_
  blk_simp; rw [after0_11]
  have C := cut m c x y o wg v gs go w g e0 e1 e2 e3 e4 e5 e6 e7 e8 t
  obtain ⟨i0, i1, i2, i3, i4, i5, i6, i7, i8, i9, i10, i11, i12⟩ := idx t
  have e := Cert.Kernel3Ideal.Mix.out_last_ref sample C (y' 1) (y' 2)
  refine Eq.trans (congrArg (out0_11 (iblk m c 0 t) (iblk m c 1 t) (iblk m c 2 t) (iblk m c 3 t)
    (iblk m c 4 t) (iblk m c 5 t) (iblk m c 6 t) (iblk m c 7 t) (iblk m c 8 t) (iblk m c 9 t)) ?_) (e.trans (congrArg (refLast sample (refStream sample x y o wg v gs go w) g) ?_))
  · blk_ext
  · blk_ext [i11]

end args

end Cert.Kernel6Ideal.Mix

end
-- ==== Proof.ProjRef.lean ====
module

public import proofs.«01_k».proof.Proof.Gen.Reference4Ideal.Run
public import proofs.«01_k».proof.Proof.Gen.Reference8Ideal.Run
public import proofs.«01_k».proof.Defs
public import proofs.«01_k».proof.Proof.Rows
public import Idealize.ShloMosaic.Lib.StableHlo.Run
public import Idealize.ShloMosaic.Lib.Pipeline.ValueKit
public import Idealize.ShloMosaic.Lib.Pointwise

/-! The reference of the input projection as a function of its five arguments, stage by stage, for any number of batches
and of rows, and each stage read at an index; the references of the prompt and of the sample batch are these functions. -/

@[expose] public section

set_option maxRecDepth 16384

noncomputable section

open Idealize.ShloMosaic Idealize.ShloMosaic.TcCoe Idealize.SL.Sem

namespace Cert.Proj

open Cert.Mix (norm)
open Cert.Rows hiding Fits refNorm refNorm_at

/-- `H` heads of 64 numbers in every row. -/
abbrev Hd (B L H : ℕ) : Shape := ⟨4, ![B, L, H, 64]⟩

/-- Half of each of `H` heads. -/
abbrev Hf (B L H : ℕ) : Shape := ⟨4, ![B, L, H, 32]⟩

/-- One number for every head, as an axis of its own. -/
abbrev Hc (B L H : ℕ) : Shape := ⟨4, ![B, L, H, 1]⟩

/-- The shapes of the stages on `H` heads of a row, `W` numbers, fit together. -/
structure FitsHeads (B L H W : ℕ) (o : ℕ) : Prop where
  cut : (Sq B L 1280).Slices ![0, 0, o] (Sq B L W)
  heads : (Sq B L W).ShapeCasts (Hd B L H)
  along : (Hd B L H).ReducesTo [3] (Sq B L H)
  one : 0 < Pt.numel
  column : (Sq B L H).BroadcastsInDim (Hc B L H) (![0, 1, 2] : Fin 3 → Fin 4)
  fill : Pt.BroadcastsInDim (Hc B L H) (![] : Fin 0 → Fin 4)
  keep : (Hc B L H).BroadcastsInDim (Hd B L H) (![0, 1, 2, 3] : Fin 4 → Fin 4)
  lift : (Vc 64).BroadcastsInDim (Hd 1 1 1) (![3] : Fin 1 → Fin 4)
  spread : (Hd 1 1 1).BroadcastsInDim (Hd B L H) (![0, 1, 2, 3] : Fin 4 → Fin 4)
  low : (Hd B L H).Slices ![0, 0, 0, 0] (Hf B L H)
  high : (Hd B L H).Slices ![0, 0, 0, 32] (Hf B L H)
  tab : (Mat L 32).BroadcastsInDim (Sq L 1 32) (![0, 2] : Fin 2 → Fin 3)
  batch : (Sq L 1 32).BroadcastsInDim (Hf 1 L 1) (![1, 2, 3] : Fin 3 → Fin 4)
  every : (Hf 1 L 1).BroadcastsInDim (Hf B L H) (![0, 1, 2, 3] : Fin 4 → Fin 4)
  both : Shape.Concatenates [Hf B L H, Hf B L H] (Hd B L H) 3

/-- The shapes of the rotary angles of `R` rows of 64 tokens fit together. -/
structure FitsAngle (R L : ℕ) : Prop where
  row : (Vc R).BroadcastsInDim (Mat R 1) (![0] : Fin 1 → Fin 2)
  rows : (Mat R 1).BroadcastsInDim (Mat R 64) (![0, 1] : Fin 2 → Fin 2)
  flat : (Mat R 64).ShapeCasts (Vc L)
  col : (Vc 64).BroadcastsInDim (Mat 1 64) (![1] : Fin 1 → Fin 2)
  cols : (Mat 1 64).BroadcastsInDim (Mat R 64) (![0, 1] : Fin 2 → Fin 2)
  fill : Pt.BroadcastsInDim (Vc 16) (![] : Fin 0 → Fin 1)
  up : (Vc L).BroadcastsInDim (Mat L 1) (![0] : Fin 1 → Fin 2)
  across : (Mat L 1).BroadcastsInDim (Mat L 16) (![0, 1] : Fin 2 → Fin 2)
  freq : (Vc 16).BroadcastsInDim (Mat 1 16) (![1] : Fin 1 → Fin 2)
  down : (Mat 1 16).BroadcastsInDim (Mat L 16) (![0, 1] : Fin 2 → Fin 2)
  both : Shape.Concatenates [Mat L 16, Mat L 16] (Mat L 32) 1

/-- The shapes of the stages fit together: `B` batches of `L` rows. -/
structure Fits (B L : ℕ) : Prop where
  all : Rows.Fits B L 1024
  dot : DotDims.WF (Sq B L 1024) (Mat 1024 1280) (Sq B L 1280) [2] [0] [0, 1] [1] [] []
  query : FitsHeads B L 8 512 512
  key : FitsHeads B L 2 128 1024
  scale : Pt.BroadcastsInDim (Hd B L 8) (![] : Fin 0 → Fin 4)
  flat : (Hd B L 8).ShapeCasts (Sq B L 512)
  head0 : (Hd B L 2).Slices ![0, 0, 0, 0] (Hd B L 1)
  head1 : (Hd B L 2).Slices ![0, 0, 1, 0] (Hd B L 1)
  drop : (Hd B L 1).ShapeCasts (Sq B L 64)
  zero : Pt.BroadcastsInDim (Sq B L 64) (![] : Fin 0 → Fin 3)
  pad : Shape.Concatenates [Sq B L 64, Sq B L 64, Sq B L 64, Sq B L 64, Sq B L 64, Sq B L 64, Sq B L 64, Sq B L 64] (Sq B L 512) 2
  narrow : FTy.bits .bf16 < FTy.bits .f32
  cutU : (Sq B L 1280).Slices ![0, 0, 0] (Sq B L 512)
  cutV : (Sq B L 1280).Slices ![0, 0, 1152] (Sq B L 128)
  turn : (Sq B L 128).Transposes [0, 2, 1] (Sq B 128 L)

variable {B L H W o R : ℕ}

section angle

variable (A : FitsAngle R L)

/-- The 16 rotary frequencies. -/
def refFreq (fill : Pt.BroadcastsInDim (Vc 16) (![] : Fin 0 → Fin 1)) : FVec Ideal (Vc 16) .f32 :=
  Host.powf (broadcastInDim (Vc 16) ![] fill (constant Pt .f32 0x461C4000#32))
    (Host.divf (Host.negf (addf (broadcastInDim (Vc 16) ![] fill (constant Pt .f32 0x00000000#32))
      (mulf (broadcastInDim (Vc 16) ![] fill (constant Pt .f32 0x40000000#32)) (sitofp .f32 (iotaInDim (Vc 16) 32 0)))))
      (broadcastInDim (Vc 16) ![] fill (constant Pt .f32 0x42000000#32)))

/-- A number for every token times every frequency. -/
def refTimes (x : IVec (Mat R 64) 32) : FVec Ideal (Mat L 16) .f32 :=
  mulf (broadcastInDim (Mat L 16) ![0, 1] A.across (broadcastInDim (Mat L 1) ![0] A.up (sitofp .f32 (shapeCast (Vc L) x A.flat))))
    (broadcastInDim (Mat L 16) ![0, 1] A.down (broadcastInDim (Mat 1 16) ![1] A.freq (refFreq A.fill)))

/-- The rotary angles: 16 frequencies of the token's grid row, then 16 of its grid column. -/
def refAngle : FVec Ideal (Mat L 32) .f32 :=
  concatenate (Mat L 32) 1 [⟨Mat L 16, refTimes A (broadcastInDim (Mat R 64) ![0, 1] A.rows (broadcastInDim (Mat R 1) ![0] A.row (iotaInDim (Vc R) 32 0)))⟩,
    ⟨Mat L 16, refTimes A (broadcastInDim (Mat R 64) ![0, 1] A.cols (broadcastInDim (Mat 1 64) ![1] A.col (iotaInDim (Vc 64) 32 0)))⟩] A.both

end angle

section heads

variable (T : FitsHeads B L H W o)

/-- The heads of a part of the projected tokens. -/
def refHeads (z : FVec Ideal (Sq B L 1280) .f32) : FVec Ideal (Hd B L H) .f32 :=
  shapeCast _ (extractStridedSlice (Sq B L W) ![0, 0, o] z T.cut) T.heads

/-- The normalisation of every head. -/
def refNorm (q : FVec Ideal (Hd B L H) .f32) (g : FVec Ideal (Vc 64) .f32) : FVec Ideal (Hd B L H) .f32 :=
  mulf (mulf q (broadcastInDim (Hd B L H) ![0, 1, 2, 3] T.keep (Host.rsqrt (addf (Host.divf
    (broadcastInDim (Hc B L H) ![0, 1, 2] T.column (Host.reduceAdd (mulf q q) (constant Pt .f32 0x00000000#32) T.along T.one))
    (broadcastInDim (Hc B L H) ![] T.fill (constant Pt .f32 0x42800000#32)))
    (broadcastInDim (Hc B L H) ![] T.fill (constant Pt .f32 0x358637BD#32))))))
    (broadcastInDim (Hd B L H) ![0, 1, 2, 3] T.spread (broadcastInDim (Hd 1 1 1) ![3] T.lift g))

/-- A table of 32 columns, repeated for every batch and head. -/
def refTab (c : FVec Ideal (Mat L 32) .f32) : FVec Ideal (Hf B L H) .f32 :=
  broadcastInDim (Hf B L H) ![0, 1, 2, 3] T.every (broadcastInDim (Hf 1 L 1) ![1, 2, 3] T.batch (broadcastInDim (Sq L 1 32) ![0, 2] T.tab c))

/-- The rotation of every head by the angles' cosines and sines. -/
def refRot (n : FVec Ideal (Hd B L H) .f32) (c s : FVec Ideal (Mat L 32) .f32) : FVec Ideal (Hd B L H) .f32 :=
  concatenate (Hd B L H) 3 [⟨Hf B L H, subf (mulf (extractStridedSlice (Hf B L H) ![0, 0, 0, 0] n T.low) (refTab T c))
      (mulf (extractStridedSlice (Hf B L H) ![0, 0, 0, 32] n T.high) (refTab T s))⟩,
    ⟨Hf B L H, addf (mulf (extractStridedSlice (Hf B L H) ![0, 0, 0, 32] n T.high) (refTab T c))
      (mulf (extractStridedSlice (Hf B L H) ![0, 0, 0, 0] n T.low) (refTab T s))⟩] T.both

end heads

section result

variable (S : Fits B L)

/-- The tokens, normalised. -/
def refTok (x : FVec Ideal (Sq B L 1024) .f32) (g : FVec Ideal (Vc 1024) .f32) : FVec Ideal (Sq B L 1024) .f32 := Rows.refNorm S.all 0x44800000#32 x g

/-- The projection of the normalised tokens. -/
def refDot (h : FVec Ideal (Sq B L 1024) .f32) (w : FVec Ideal (Mat 1024 1280) .f32) : FVec Ideal (Sq B L 1280) .f32 := Host.dotGeneral (dims S.dot) none h w

/-- The queries: normalised, rotated and scaled by an eighth. -/
def refOutQ (z : FVec Ideal (Sq B L 1280) .f32) (g : FVec Ideal (Vc 64) .f32) (c s : FVec Ideal (Mat L 32) .f32) : FVec Ideal (Sq B L 512) .bf16 :=
  truncf .bf16 (shapeCast _ (mulf (refRot S.query (refNorm S.query (refHeads S.query z) g) c s) (broadcastInDim (Hd B L 8) ![] S.scale (constant Pt .f32 0x3E000000#32)))
    S.flat) S.narrow

/-- A head of the keys. -/
def refHead0 (r : FVec Ideal (Hd B L 2) .f32) : FVec Ideal (Sq B L 64) .f32 := shapeCast _ (extractStridedSlice (Hd B L 1) ![0, 0, 0, 0] r S.head0) S.drop

/-- The other head of the keys. -/
def refHead1 (r : FVec Ideal (Hd B L 2) .f32) : FVec Ideal (Sq B L 64) .f32 := shapeCast _ (extractStridedSlice (Hd B L 1) ![0, 0, 1, 0] r S.head1) S.drop

/-- Zeros the size of a head. -/
def refZero : FVec Ideal (Sq B L 64) .f32 := broadcastInDim (Sq B L 64) ![] S.zero (constant Pt .f32 0x00000000#32)

/-- The two key heads, each once before and once after 64 lanes of zeros. -/
def refPad (r : FVec Ideal (Hd B L 2) .f32) : FVec Ideal (Sq B L 512) .bf16 :=
  truncf .bf16 (concatenate (Sq B L 512) 2 [⟨Sq B L 64, refHead0 S r⟩, ⟨Sq B L 64, refZero S⟩, ⟨Sq B L 64, refZero S⟩, ⟨Sq B L 64, refHead0 S r⟩,
    ⟨Sq B L 64, refHead1 S r⟩, ⟨Sq B L 64, refZero S⟩, ⟨Sq B L 64, refZero S⟩, ⟨Sq B L 64, refHead1 S r⟩] S.pad) S.narrow

/-- The keys: normalised, rotated and padded. -/
def refOutK (z : FVec Ideal (Sq B L 1280) .f32) (g : FVec Ideal (Vc 64) .f32) (c s : FVec Ideal (Mat L 32) .f32) : FVec Ideal (Sq B L 512) .bf16 :=
  refPad S (refRot S.key (refNorm S.key (refHeads S.key z) g) c s)

/-- The recurrence's input. -/
def refOutU (z : FVec Ideal (Sq B L 1280) .f32) : FVec Ideal (Sq B L 512) .bf16 :=
  truncf .bf16 (extractStridedSlice (Sq B L 512) ![0, 0, 0] z S.cutU) S.narrow

/-- The values, transposed. -/
def refOutV (z : FVec Ideal (Sq B L 1280) .f32) : FVec Ideal (Sq B 128 L) .bf16 :=
  truncf .bf16 (transpose (Sq B 128 L) [0, 2, 1] (extractStridedSlice (Sq B L 128) ![0, 0, 1152] z S.cutV) S.turn) S.narrow

end result

/-- A head rotated: its first half's and second half's lanes are turned in pairs. -/
def rot (n : Fin 64 → EReal) (c s : Fin 32 → EReal) (e : Fin 64) : EReal :=
  if h : e.val < 32 then n e * c ⟨e.val, h⟩ - n ⟨32 + e.val, by omega⟩ * s ⟨e.val, h⟩
  else n e * c ⟨e.val - 32, by omega⟩ + n ⟨e.val - 32, by omega⟩ * s ⟨e.val - 32, by omega⟩

/-- The lanes from lane `o` on, at one index. -/
theorem cut_at {α : Type} (h : (Sq B L 1280).Slices ![0, 0, o] (Sq B L W)) (x : (Sq B L 1280).Idx → α) (b : Fin B) (l : Fin L) (f : Fin W) (k : Fin 1280) (hk : k.val = o + f.val) :
    extractStridedSlice (Sq B L W) ![0, 0, o] x h (ix3 b l f) = x (ix3 b l k) := by
  refine extractStridedSlice_apply _ x h _ _ fun a => ?_
  match a with
  | ⟨0, _⟩ => exact (Nat.zero_add b.val).symm
  | ⟨1, _⟩ => exact (Nat.zero_add l.val).symm
  | ⟨2, _⟩ => exact hk

/-- The lanes from lane `o` on of every head, at one index. -/
theorem half_at {α : Type} (h : (Hd B L H).Slices ![0, 0, 0, o] (Hf B L H)) (x : (Hd B L H).Idx → α) (b : Fin B) (l : Fin L) (k : Fin H) (e : Fin 32) (f : Fin 64) (hf : f.val = o + e.val) :
    extractStridedSlice (Hf B L H) ![0, 0, 0, o] x h (ix4 b l k e) = x (ix4 b l k f) := by
  refine extractStridedSlice_apply _ x h _ _ fun a => ?_
  match a with
  | ⟨0, _⟩ => exact (Nat.zero_add b.val).symm
  | ⟨1, _⟩ => exact (Nat.zero_add l.val).symm
  | ⟨2, _⟩ => exact (Nat.zero_add k.val).symm
  | ⟨3, _⟩ => exact hf

/-- Head `o` of the two, at one index. -/
theorem head_at {α : Type} (h : (Hd B L 2).Slices ![0, 0, o, 0] (Hd B L 1)) (hd : (Hd B L 1).ShapeCasts (Sq B L 64)) (x : (Hd B L 2).Idx → α) (b : Fin B) (l : Fin L) (e : Fin 64) (k : Fin 2)
    (hk : k.val = o) : shapeCast (Sq B L 64) (extractStridedSlice (Hd B L 1) ![0, 0, o, 0] x h) hd (ix3 b l e) = x (ix4 b l k e) := by
  refine (shapeCast_apply _ hd _ (ix4 b l 0 e) ?_).trans (extractStridedSlice_apply _ x h _ _ fun a => ?_)
  · rw [Shape.rowMajor_val_three, Shape.rowMajor_val_four]
    show ((b.val * L + l.val) * 1 + 0) * 64 + e.val = (b.val * L + l.val) * 64 + e.val
    omega
  · match a with
    | ⟨0, _⟩ => exact (Nat.zero_add b.val).symm
    | ⟨1, _⟩ => exact (Nat.zero_add l.val).symm
    | ⟨2, _⟩ => exact hk
    | ⟨3, _⟩ => exact (Nat.zero_add e.val).symm

section at_heads

variable (T : FitsHeads B L H W o) (b : Fin B) (l : Fin L) (h : Fin H)

/-- A head's lane. -/
theorem refHeads_at (hW : W = H * 64) (z : FVec Ideal (Sq B L 1280) .f32) (e : Fin 64) (k : Fin 1280) (hk : k.val = o + (h.val * 64 + e.val)) :
    refHeads T z (ix4 b l h e) = (z (ix3 b l k) : EReal) := by
  refine (shapeCast_apply _ T.heads _ (ix3 b l ⟨h.val * 64 + e.val, by omega⟩) ?_).trans (cut_at T.cut z b l _ k hk)
  rw [Shape.rowMajor_val_three, Shape.rowMajor_val_four]
  show (b.val * L + l.val) * W + (h.val * 64 + e.val) = ((b.val * L + l.val) * H + h.val) * 64 + e.val
  rw [hW]
  ring

/-- A normalised head. -/
theorem refNorm_at (q : FVec Ideal (Hd B L H) .f32) (g : FVec Ideal (Vc 64) .f32) (e : Fin 64) :
    refNorm T q g (ix4 b l h e) = norm (Ideal.ofBits .f32 0x42800000#32) (fun e => q (ix4 b l h e)) (fun e => g (ix1 e)) e := by
  have e0 : Host.reduceAdd (mulf q q) (constant Pt .f32 0x00000000#32) T.along T.one (ix3 b l h) = (∑ d : Fin 64, q (ix4 b l h d) * q (ix4 b l h d) : EReal) := by
    pointwise
  refine congrArg₂ (fun s t : EReal => q (ix4 b l h e) * s * t) ((broadcastInDim_apply _ T.keep _ _ (ix4 b l h 0) fun a => ?_).trans (congrArg Ideal.rsqrt
    (congrArg (fun s : EReal => Ideal.div s _ + _) ((broadcastInDim_apply _ T.column _ _ (ix3 b l h) fun a => ?_).trans e0))))
    ((broadcastInDim_apply _ T.spread _ _ (ix4 0 0 0 e) fun a => ?_).trans (broadcastInDim_apply _ T.lift g _ (ix1 e) fun a => ?_))
  · match a with
    | ⟨0, _⟩ => show b.val = if B = 1 then 0 else b.val; split <;> omega
    | ⟨1, _⟩ => show l.val = if L = 1 then 0 else l.val; split <;> omega
    | ⟨2, _⟩ => show h.val = if H = 1 then 0 else h.val; split <;> omega
    | ⟨3, _⟩ => rfl
  · match a with
    | ⟨0, _⟩ => show b.val = if B = 1 then 0 else b.val; split <;> omega
    | ⟨1, _⟩ => show l.val = if L = 1 then 0 else l.val; split <;> omega
    | ⟨2, _⟩ => show h.val = if H = 1 then 0 else h.val; split <;> omega
  · match a with
    | ⟨0, _⟩ => rfl
    | ⟨1, _⟩ => rfl
    | ⟨2, _⟩ => rfl
    | ⟨3, _⟩ => rfl
  · match a with
    | ⟨0, _⟩ => rfl

/-- A table's entry for a head. -/
theorem refTab_at (c : FVec Ideal (Mat L 32) .f32) (e : Fin 32) : refTab T c (ix4 b l h e) = (c (ix2 l e) : EReal) := by
  refine (broadcastInDim_apply _ T.every _ _ (ix4 0 l 0 e) fun a => ?_).trans ((broadcastInDim_apply _ T.batch _ _ (ix3 l 0 e) fun a => ?_).trans
    (broadcastInDim_apply _ T.tab c _ (ix2 l e) fun a => ?_))
  · match a with
    | ⟨0, _⟩ => rfl
    | ⟨1, _⟩ => show l.val = if L = 1 then 0 else l.val; split <;> omega
    | ⟨2, _⟩ => rfl
    | ⟨3, _⟩ => rfl
  · match a with
    | ⟨0, _⟩ => show l.val = if L = 1 then 0 else l.val; split <;> omega
    | ⟨1, _⟩ => rfl
    | ⟨2, _⟩ => rfl
  · match a with
    | ⟨0, _⟩ => show l.val = if L = 1 then 0 else l.val; split <;> omega
    | ⟨1, _⟩ => rfl

/-- A rotated head. -/
theorem refRot_at (n : FVec Ideal (Hd B L H) .f32) (c s : FVec Ideal (Mat L 32) .f32) (e : Fin 64) :
    refRot T n c s (ix4 b l h e) = rot (fun e => n (ix4 b l h e)) (fun i => c (ix2 l i)) (fun i => s (ix2 l i)) e := by
  unfold refRot rot
  by_cases he : e.val < 32
  · rw [dif_pos he]
    refine (concatenate_pair_apply_left _ _ _ T.both _ rfl (ix4 b l h ⟨e.val, he⟩) fun a => ?_).trans ?_
    · match a with
      | ⟨0, _⟩ => rfl
      | ⟨1, _⟩ => rfl
      | ⟨2, _⟩ => rfl
      | ⟨3, _⟩ => rfl
    · exact congrArg₂ (fun x y : EReal => x - y)
        (congrArg₂ (· * ·) (half_at T.low n b l h ⟨e.val, he⟩ e (by dsimp only; omega)) (refTab_at T b l h c ⟨e.val, he⟩))
        (congrArg₂ (· * ·) (half_at T.high n b l h ⟨e.val, he⟩ ⟨32 + e.val, by omega⟩ rfl) (refTab_at T b l h s ⟨e.val, he⟩))
  · rw [dif_neg he]
    refine (concatenate_pair_apply_right _ _ _ T.both _ rfl rfl (ix4 b l h ⟨e.val - 32, by omega⟩) (fun a ha => ?_) ?_).trans ?_
    · match a with
      | ⟨0, _⟩ => rfl
      | ⟨1, _⟩ => rfl
      | ⟨2, _⟩ => rfl
      | ⟨3, _⟩ => exact absurd rfl ha
    · show e.val - 32 + 32 = e.val
      omega
    · exact congrArg₂ (fun x y : EReal => x + y)
        (congrArg₂ (· * ·) (half_at T.high n b l h ⟨e.val - 32, by omega⟩ e (by dsimp only; omega)) (refTab_at T b l h c ⟨e.val - 32, by omega⟩))
        (congrArg₂ (· * ·) (half_at T.low n b l h ⟨e.val - 32, by omega⟩ ⟨e.val - 32, by omega⟩ (by dsimp only; omega)) (refTab_at T b l h s ⟨e.val - 32, by omega⟩))

end at_heads

/-- Eight pieces of 64 lanes side by side, at one index. -/
theorem pad_at {α : Type} (h : Shape.Concatenates [Sq B L 64, Sq B L 64, Sq B L 64, Sq B L 64, Sq B L 64, Sq B L 64, Sq B L 64, Sq B L 64] (Sq B L 512) 2)
    (p0 p1 z : (Sq B L 64).Idx → α) (b : Fin B) (l : Fin L) (f : Fin 512) :
    concatenate (Sq B L 512) 2 [⟨Sq B L 64, p0⟩, ⟨Sq B L 64, z⟩, ⟨Sq B L 64, z⟩, ⟨Sq B L 64, p0⟩, ⟨Sq B L 64, p1⟩, ⟨Sq B L 64, z⟩, ⟨Sq B L 64, z⟩, ⟨Sq B L 64, p1⟩] h (ix3 b l f)
      = if f.val / 64 = 0 ∨ f.val / 64 = 3 then p0 (ix3 b l ⟨f.val % 64, by omega⟩) else if f.val / 64 = 4 ∨ f.val / 64 = 7 then p1 (ix3 b l ⟨f.val % 64, by omega⟩)
        else z (ix3 b l ⟨f.val % 64, by omega⟩) := by
  pointwise
  split_ifs <;> try omega
  all_goals
    first
      | refine congrArg p0 (funext fun a => Fin.ext ?_)
      | refine congrArg p1 (funext fun a => Fin.ext ?_)
      | refine congrArg z (funext fun a => Fin.ext ?_)
    match a with
    | ⟨0, _⟩ => rfl
    | ⟨1, _⟩ => rfl
    | ⟨2, _⟩ =>
      simp [Shape.Idx.norm]
      omega

section at_result

variable (S : Fits B L) (b : Fin B) (l : Fin L)

/-- A normalised token. -/
theorem refTok_at (x : FVec Ideal (Sq B L 1024) .f32) (g : FVec Ideal (Vc 1024) .f32) (d : Fin 1024) :
    refTok S x g (ix3 b l d) = norm (Ideal.ofBits .f32 0x44800000#32) (fun d => x (ix3 b l d)) (fun d => g (ix1 d)) d := Rows.refNorm_at _ _ _ _ _ _ _

/-- A projected token. -/
theorem refDot_at (h : FVec Ideal (Sq B L 1024) .f32) (w : FVec Ideal (Mat 1024 1280) .f32) (f : Fin 1280) :
    refDot S h w (ix3 b l f) = (∑ d : Fin 1024, h (ix3 b l d) * w (ix2 d f) : EReal) := dot_at _ _ _ _ _ _

/-- A lane of the queries. -/
theorem refOutQ_at (z : FVec Ideal (Sq B L 1280) .f32) (g : FVec Ideal (Vc 64) .f32) (c s : FVec Ideal (Mat L 32) .f32) (f : Fin 512) :
    refOutQ S z g c s (ix3 b l f) = (refRot S.query (refNorm S.query (refHeads S.query z) g) c s (ix4 b l ⟨f.val / 64, by omega⟩ ⟨f.val % 64, by omega⟩) * Ideal.ofBits .f32 0x3E000000#32 : EReal) := by
  unfold refOutQ
  generalize refRot S.query (refNorm S.query (refHeads S.query z) g) c s = r
  refine Eq.trans (b := shapeCast (Sq B L 512) (mulf r (broadcastInDim (Hd B L 8) ![] S.scale (constant Pt .f32 0x3E000000#32))) S.flat (ix3 b l f)) rfl ?_
  refine (shapeCast_apply _ S.flat _ (ix4 b l ⟨f.val / 64, by omega⟩ ⟨f.val % 64, by omega⟩) ?_).trans rfl
  rw [Shape.rowMajor_val_three, Shape.rowMajor_val_four]
  show ((b.val * L + l.val) * 8 + f.val / 64) * 64 + f.val % 64 = (b.val * L + l.val) * 512 + f.val
  omega

/-- A lane of the padded keys. -/
theorem refPad_at (r : FVec Ideal (Hd B L 2) .f32) (f : Fin 512) :
    refPad S r (ix3 b l f) = (if f.val / 64 = 0 ∨ f.val / 64 = 3 then r (ix4 b l 0 ⟨f.val % 64, by omega⟩)
      else if f.val / 64 = 4 ∨ f.val / 64 = 7 then r (ix4 b l 1 ⟨f.val % 64, by omega⟩) else 0 : EReal) := by
  have e0 : refHead0 S r (ix3 b l ⟨f.val % 64, by omega⟩) = (r (ix4 b l 0 ⟨f.val % 64, by omega⟩) : EReal) := head_at _ _ _ _ _ _ _ rfl
  have e1 : refHead1 S r (ix3 b l ⟨f.val % 64, by omega⟩) = (r (ix4 b l 1 ⟨f.val % 64, by omega⟩) : EReal) := head_at _ _ _ _ _ _ _ rfl
  have ez : refZero S (ix3 b l ⟨f.val % 64, by omega⟩) = (0 : EReal) := by
    pointwise [refZero]
  rw [← e0, ← e1, ← ez]
  exact pad_at S.pad (refHead0 S r) (refHead1 S r) (refZero S) b l f

/-- A lane of the recurrence's input. -/
theorem refOutU_at (z : FVec Ideal (Sq B L 1280) .f32) (f : Fin 512) : refOutU S z (ix3 b l f) = (z (ix3 b l ⟨f.val, by omega⟩) : EReal) :=
  cut_at S.cutU z b l f _ (Nat.zero_add f.val).symm

/-- A lane of the transposed values. -/
theorem refOutV_at (z : FVec Ideal (Sq B L 1280) .f32) (f : Fin 128) : refOutV S z (ix3 b f l) = (z (ix3 b l ⟨1152 + f.val, by omega⟩) : EReal) := by
  refine Eq.trans (b := transpose (Sq B 128 L) [0, 2, 1] (extractStridedSlice (Sq B L 128) ![0, 0, 1152] z S.cutV) S.turn (ix3 b f l)) rfl ?_
  refine (transpose_apply _ _ S.turn _ (ix3 b l f) fun a => ?_).trans (cut_at S.cutV z b l f _ rfl)
  match a with
  | ⟨0, _⟩ => rfl
  | ⟨1, _⟩ => rfl
  | ⟨2, _⟩ => rfl

end at_result

section prompt

open Cert.Reference4Ideal Cert.Reference4Ideal.Gen

/-- The shapes of the prompt batch's angles fit. -/
theorem promptAngle : FitsAngle 128 8192 :=
  ⟨bcast_S128_S128x1_0, bcast_S128x1_S128x64_0_1, shapeCasts_S128x64_S8192, bcast_S64_S1x64_1, bcast_S1x64_S128x64_0_1, bcast_S_S16, bcast_S8192_S8192x1_0,
    bcast_S8192x1_S8192x16_0_1, bcast_S16_S1x16_1, bcast_S1x16_S8192x16_0_1, concatenates_S8192x16_S8192x16_S8192x32_d1⟩

/-- The shapes of the prompt batch fit. -/
theorem prompt : Fits 8 8192 where
  all := ⟨h_S_, reducesTo_S8x8192x1024_S8x8192_d2, bcast_S8x8192_S8x8192x1_0_1, bcast_S_S8x8192x1, bcast_S8x8192x1_S8x8192x1024_0_1_2, bcast_S1024_S1x1x1024_2,
    bcast_S1x1x1024_S8x8192x1024_0_1_2⟩
  dot := dot_S8x8192x1024_S1024x1280_S8x8192x1280_2_0_01_1_n_n_wf
  query := ⟨slices_S8x8192x1280_S8x8192x512_0_0_512, shapeCasts_S8x8192x512_S8x8192x8x64, reducesTo_S8x8192x8x64_S8x8192x8_d3, h_S_, bcast_S8x8192x8_S8x8192x8x1_0_1_2,
    bcast_S_S8x8192x8x1, bcast_S8x8192x8x1_S8x8192x8x64_0_1_2_3, bcast_S64_S1x1x1x64_3, bcast_S1x1x1x64_S8x8192x8x64_0_1_2_3, slices_S8x8192x8x64_S8x8192x8x32_0_0_0_0,
    slices_S8x8192x8x64_S8x8192x8x32_0_0_0_32, bcast_S8192x32_S8192x1x32_0_2, bcast_S8192x1x32_S1x8192x1x32_1_2_3, bcast_S1x8192x1x32_S8x8192x8x32_0_1_2_3,
    concatenates_S8x8192x8x32_S8x8192x8x32_S8x8192x8x64_d3⟩
  key := ⟨slices_S8x8192x1280_S8x8192x128_0_0_1024, shapeCasts_S8x8192x128_S8x8192x2x64, reducesTo_S8x8192x2x64_S8x8192x2_d3, h_S_, bcast_S8x8192x2_S8x8192x2x1_0_1_2,
    bcast_S_S8x8192x2x1, bcast_S8x8192x2x1_S8x8192x2x64_0_1_2_3, bcast_S64_S1x1x1x64_3, bcast_S1x1x1x64_S8x8192x2x64_0_1_2_3, slices_S8x8192x2x64_S8x8192x2x32_0_0_0_0,
    slices_S8x8192x2x64_S8x8192x2x32_0_0_0_32, bcast_S8192x32_S8192x1x32_0_2, bcast_S8192x1x32_S1x8192x1x32_1_2_3, bcast_S1x8192x1x32_S8x8192x2x32_0_1_2_3,
    concatenates_S8x8192x2x32_S8x8192x2x32_S8x8192x2x64_d3⟩
  scale := bcast_S_S8x8192x8x64
  flat := shapeCasts_S8x8192x8x64_S8x8192x512
  head0 := slices_S8x8192x2x64_S8x8192x1x64_0_0_0_0
  head1 := slices_S8x8192x2x64_S8x8192x1x64_0_0_1_0
  drop := shapeCasts_S8x8192x1x64_S8x8192x64
  zero := bcast_S_S8x8192x64
  pad := concatenates_S8x8192x64_S8x8192x64_S8x8192x64_S8x8192x64_S8x8192x64_S8x8192x64_S8x8192x64_S8x8192x64_S8x8192x512_d2
  narrow := bitsLt_bf16_f32
  cutU := slices_S8x8192x1280_S8x8192x512_0_0_0
  cutV := slices_S8x8192x1280_S8x8192x128_0_0_1152
  turn := transposes_S8x8192x128_S8x128x8192_0_2_1

/-- The composed queries of the prompt batch's reference are that function of the arguments. -/
theorem prompt_q (m : (ℓ : Loc nD τ sig) → Buf (Elt Ideal) ℓ) (c : Dev nD) : Cert.Reference4Ideal.Value.res_main_v131 m c
    = refOutQ prompt (refDot prompt (refTok prompt (m ((c.tc : Thread nD τ).loc main_arg0)) (m ((c.tc : Thread nD τ).loc main_arg1))) (m ((c.tc : Thread nD τ).loc main_arg2)))
      (m ((c.tc : Thread nD τ).loc main_arg3)) (Host.cos (refAngle promptAngle)) (Host.sin (refAngle promptAngle)) := rfl

/-- The composed keys of the prompt batch's reference are that function of the arguments. -/
theorem prompt_k (m : (ℓ : Loc nD τ sig) → Buf (Elt Ideal) ℓ) (c : Dev nD) : Cert.Reference4Ideal.Value.res_main_v132 m c
    = refOutK prompt (refDot prompt (refTok prompt (m ((c.tc : Thread nD τ).loc main_arg0)) (m ((c.tc : Thread nD τ).loc main_arg1))) (m ((c.tc : Thread nD τ).loc main_arg2)))
      (m ((c.tc : Thread nD τ).loc main_arg4)) (Host.cos (refAngle promptAngle)) (Host.sin (refAngle promptAngle)) := rfl

end prompt

section sample

open Cert.Reference8Ideal Cert.Reference8Ideal.Gen

/-- The shapes of the sample batch's angles fit. -/
theorem sampleAngle : FitsAngle 256 16384 :=
  ⟨bcast_S256_S256x1_0, bcast_S256x1_S256x64_0_1, shapeCasts_S256x64_S16384, bcast_S64_S1x64_1, bcast_S1x64_S256x64_0_1, bcast_S_S16, bcast_S16384_S16384x1_0,
    bcast_S16384x1_S16384x16_0_1, bcast_S16_S1x16_1, bcast_S1x16_S16384x16_0_1, concatenates_S16384x16_S16384x16_S16384x32_d1⟩

/-- The shapes of the sample batch fit. -/
theorem sample : Fits 1 16384 where
  all := ⟨h_S_, reducesTo_S1x16384x1024_S1x16384_d2, bcast_S1x16384_S1x16384x1_0_1, bcast_S_S1x16384x1, bcast_S1x16384x1_S1x16384x1024_0_1_2, bcast_S1024_S1x1x1024_2,
    bcast_S1x1x1024_S1x16384x1024_0_1_2⟩
  dot := dot_S1x16384x1024_S1024x1280_S1x16384x1280_2_0_01_1_n_n_wf
  query := ⟨slices_S1x16384x1280_S1x16384x512_0_0_512, shapeCasts_S1x16384x512_S1x16384x8x64, reducesTo_S1x16384x8x64_S1x16384x8_d3, h_S_, bcast_S1x16384x8_S1x16384x8x1_0_1_2,
    bcast_S_S1x16384x8x1, bcast_S1x16384x8x1_S1x16384x8x64_0_1_2_3, bcast_S64_S1x1x1x64_3, bcast_S1x1x1x64_S1x16384x8x64_0_1_2_3, slices_S1x16384x8x64_S1x16384x8x32_0_0_0_0,
    slices_S1x16384x8x64_S1x16384x8x32_0_0_0_32, bcast_S16384x32_S16384x1x32_0_2, bcast_S16384x1x32_S1x16384x1x32_1_2_3, bcast_S1x16384x1x32_S1x16384x8x32_0_1_2_3,
    concatenates_S1x16384x8x32_S1x16384x8x32_S1x16384x8x64_d3⟩
  key := ⟨slices_S1x16384x1280_S1x16384x128_0_0_1024, shapeCasts_S1x16384x128_S1x16384x2x64, reducesTo_S1x16384x2x64_S1x16384x2_d3, h_S_, bcast_S1x16384x2_S1x16384x2x1_0_1_2,
    bcast_S_S1x16384x2x1, bcast_S1x16384x2x1_S1x16384x2x64_0_1_2_3, bcast_S64_S1x1x1x64_3, bcast_S1x1x1x64_S1x16384x2x64_0_1_2_3, slices_S1x16384x2x64_S1x16384x2x32_0_0_0_0,
    slices_S1x16384x2x64_S1x16384x2x32_0_0_0_32, bcast_S16384x32_S16384x1x32_0_2, bcast_S16384x1x32_S1x16384x1x32_1_2_3, bcast_S1x16384x1x32_S1x16384x2x32_0_1_2_3,
    concatenates_S1x16384x2x32_S1x16384x2x32_S1x16384x2x64_d3⟩
  scale := bcast_S_S1x16384x8x64
  flat := shapeCasts_S1x16384x8x64_S1x16384x512
  head0 := slices_S1x16384x2x64_S1x16384x1x64_0_0_0_0
  head1 := slices_S1x16384x2x64_S1x16384x1x64_0_0_1_0
  drop := shapeCasts_S1x16384x1x64_S1x16384x64
  zero := bcast_S_S1x16384x64
  pad := concatenates_S1x16384x64_S1x16384x64_S1x16384x64_S1x16384x64_S1x16384x64_S1x16384x64_S1x16384x64_S1x16384x64_S1x16384x512_d2
  narrow := bitsLt_bf16_f32
  cutU := slices_S1x16384x1280_S1x16384x512_0_0_0
  cutV := slices_S1x16384x1280_S1x16384x128_0_0_1152
  turn := transposes_S1x16384x128_S1x128x16384_0_2_1

/-- The composed queries of the sample batch's reference are that function of the arguments. -/
theorem sample_q (m : (ℓ : Loc nD τ sig) → Buf (Elt Ideal) ℓ) (c : Dev nD) : Cert.Reference8Ideal.Value.res_main_v131 m c
    = refOutQ sample (refDot sample (refTok sample (m ((c.tc : Thread nD τ).loc main_arg0)) (m ((c.tc : Thread nD τ).loc main_arg1))) (m ((c.tc : Thread nD τ).loc main_arg2)))
      (m ((c.tc : Thread nD τ).loc main_arg3)) (Host.cos (refAngle sampleAngle)) (Host.sin (refAngle sampleAngle)) := rfl

/-- The composed keys of the sample batch's reference are that function of the arguments. -/
theorem sample_k (m : (ℓ : Loc nD τ sig) → Buf (Elt Ideal) ℓ) (c : Dev nD) : Cert.Reference8Ideal.Value.res_main_v132 m c
    = refOutK sample (refDot sample (refTok sample (m ((c.tc : Thread nD τ).loc main_arg0)) (m ((c.tc : Thread nD τ).loc main_arg1))) (m ((c.tc : Thread nD τ).loc main_arg2)))
      (m ((c.tc : Thread nD τ).loc main_arg4)) (Host.cos (refAngle sampleAngle)) (Host.sin (refAngle sampleAngle)) := rfl

end sample

end Cert.Proj

end
-- ==== Proof.ProjValue.lean ====
module

public import proofs.«01_k».proof.Proof.Gen.Kernel4Ideal.Value
public import proofs.«01_k».proof.Defs
public import proofs.«01_k».proof.Proof.ProjRef
public import proofs.«01_k».proof.Proof.Gen.Reference4Ideal.Run
public import Idealize.ShloMosaic.Lib.StableHlo.Run
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen

open Cert.Proj Cert.Mix

/-- A block of projected tokens. -/
theorem proj_at (x : Vec Ideal S1x512x1024 .f32) (g : Vec Ideal S1x1024 .f32) (w : Vec Ideal S1024x1280 .bf16) (p : Fin 512) (f : Fin 1280) :
    k0_pay2 x g w (ix2 p f) = (∑ d : Fin 1024, norm (Ideal.ofBits .f32 0x44800000#32) (fun d => x (ix3 0 p d)) (fun d => g (ix2 0 d)) d * w (ix2 d f) : EReal) := by
  pointwise [k0_pay2]
  rfl

/-- The recurrence's input as stored. -/
theorem u_at (x : Vec Ideal S1x512x1024 .f32) (g : Vec Ideal S1x1024 .f32) (w : Vec Ideal S1024x1280 .bf16) (p f : Fin 512) :
    k0_pay3 x g w (ix3 0 p f) = (k0_pay2 x g w (ix2 p ⟨f.val, by omega⟩) : EReal) := by
  unfold k0_pay3
  generalize k0_pay2 x g w = z
  pointwise

/-- The values as stored. -/
theorem v_at (z : FVec Ideal S512x1280 .f32) (f : Fin 128) (p : Fin 512) :
    k0_pay1 (k0_pay24 z) (ix3 0 f p) = (z (ix2 p ⟨1152 + f.val, by omega⟩) : EReal) := by
  pointwise [k0_pay1, k0_pay24]

/-- The queries' and keys' lanes of the projection. -/
theorem qk_at (x : Vec Ideal S1x512x1024 .f32) (g : Vec Ideal S1x1024 .f32) (w : Vec Ideal S1024x1280 .bf16) (p : Fin 512) (f : Fin 640) :
    k0_pay4 x g w (ix2 p f) = (k0_pay2 x g w (ix2 p ⟨512 + f.val, by omega⟩) : EReal) := by
  unfold k0_pay4
  generalize k0_pay2 x g w = z
  pointwise

/-- The mean square of a lane's head: the squares are summed by two products with a matrix. -/
theorem ms_at (x : Vec Ideal S1x512x1024 .f32) (g : Vec Ideal S1x1024 .f32) (w : Vec Ideal S1024x1280 .bf16) (o : Vec Ideal S640x640 .bf16) (p : Fin 512) (f : Fin 640) :
    k0_pay5 x g w o (ix2 p f) = (((∑ d : Fin 640, k0_pay4 x g w (ix2 p d) * k0_pay4 x g w (ix2 p d) * o (ix2 d f))
      + ∑ d : Fin 640, (k0_pay4 x g w (ix2 p d) * k0_pay4 x g w (ix2 p d) - k0_pay4 x g w (ix2 p d) * k0_pay4 x g w (ix2 p d)) * o (ix2 d f))
        * Ideal.ofBits .f32 0x3C800000#32 : EReal) := by
  unfold k0_pay5
  generalize k0_pay4 x g w = z
  pointwise

/-- The normalised lane. -/
theorem lane_at (y s : FVec Ideal S512x640 .f32) (r : Vec Ideal S1x640 .f32) (p : Fin 512) (f : Fin 640) :
    k0_pay6 y s r (ix2 p f) = (y (ix2 p f) * Ideal.rsqrt (s (ix2 p f) + Ideal.ofBits .f32 0x358637BD#32) * r (ix2 0 f) : EReal) := by
  pointwise [k0_pay6]

/-- The mask of the lanes in the first half of their head. -/
theorem mask_at (p : Fin 512) (q : Fin 128) : k0_pay7 (ix2 p q) = if q.val % 64 < 32 then 1#1 else 0#1 := by
  pointwise [k0_pay7]
  revert q
  decide +kernel

/-- A rotated lane: the lane times the cosine and its partner in the head times the signed sine. -/
def turn (y : Fin 640 → EReal) (c s : Fin 128 → EReal) (f : Fin 640) : EReal :=
  y f * c ⟨f.val % 128, by omega⟩ + (if h : f.val % 64 < 32 then y ⟨f.val + 32, by omega⟩ else y ⟨f.val - 32, by omega⟩) * s ⟨f.val % 128, by omega⟩

/-- A lane of a tile with the two lanes that the rolls by 96 and 32 bring to it. -/
theorem turn_of (y : Fin 640 → EReal) (c s : Fin 128 → EReal) (q : Fin 128) (mk : BitVec 1) (hm : mk = if q.val % 64 < 32 then 1#1 else 0#1) (f a b : Fin 640)
    (hf : f.val % 128 = q.val) (ha : q.val % 64 < 32 → a.val = f.val + 32) (hb : ¬ q.val % 64 < 32 → b.val = f.val - 32) :
    y f * c q + Scalar.select mk (y a) (y b) * s q = turn y c s f := by
  have hq : (⟨f.val % 128, by omega⟩ : Fin 128) = q := Fin.ext hf
  unfold turn
  rw [hq]
  by_cases h : f.val % 64 < 32
  · rw [dif_pos h, hm, if_pos (by omega)]
    rw [show a = ⟨f.val + 32, by omega⟩ from Fin.ext (ha (by omega))]
    rfl
  · rw [dif_neg h, hm, if_neg (by omega)]
    rw [show b = ⟨f.val - 32, by omega⟩ from Fin.ext (hb (by omega))]
    rfl

section tile

variable (y s : FVec Ideal S512x640 .f32) (r : Vec Ideal S1x640 .f32) (mk : IVec S512x128 1) (c e : Vec Ideal S512x128 .f32) (p : Fin 512) (q : Fin 128)

/-- The first tile of the queries, rotated and scaled. -/
theorem tile0_at : k0_pay11 (k0_pay10 y s r c e) (ix3 0 p q) = (turn (fun f => k0_pay6 y s r (ix2 p f)) (fun q => c (ix2 p q)) (fun q => e (ix2 p q)) ⟨q.val, by omega⟩
      * Ideal.ofBits .f32 0x3E000000#32 : EReal) := by
  have hm := mask_at p q
  unfold k0_pay10 k0_pay8 k0_pay9
  generalize k0_pay6 y s r = v
  generalize k0_pay7 = mk at hm ⊢
  pointwise [k0_pay11]
  exact congrArg (· * Ideal.ofBits .f32 0x3E000000#32) (turn_of (fun f => v (ix2 p f)) (fun q => c (ix2 p q)) (fun q => e (ix2 p q)) q _ hm _ _ _
    (by dsimp only; omega) (by dsimp only; omega) (by dsimp only; omega))

variable (hm : mk (ix2 p q) = if q.val % 64 < 32 then 1#1 else 0#1)

include hm

/-- The second tile of the queries. -/
theorem tile1_at : k0_pay12 y mk c e (ix3 0 p q) = (turn (fun f => y (ix2 p f)) (fun q => c (ix2 p q)) (fun q => e (ix2 p q)) ⟨128 + q.val, by omega⟩
      * Ideal.ofBits .f32 0x3E000000#32 : EReal) := by
  pointwise [k0_pay12]
  exact congrArg (· * Ideal.ofBits .f32 0x3E000000#32) (turn_of (fun f => y (ix2 p f)) (fun q => c (ix2 p q)) (fun q => e (ix2 p q)) q _ hm _ _ _
    (by dsimp only; omega) (by dsimp only; omega) (by dsimp only; omega))

/-- The third tile of the queries. -/
theorem tile2_at : k0_pay13 y mk c e (ix3 0 p q) = (turn (fun f => y (ix2 p f)) (fun q => c (ix2 p q)) (fun q => e (ix2 p q)) ⟨256 + q.val, by omega⟩
      * Ideal.ofBits .f32 0x3E000000#32 : EReal) := by
  pointwise [k0_pay13]
  exact congrArg (· * Ideal.ofBits .f32 0x3E000000#32) (turn_of (fun f => y (ix2 p f)) (fun q => c (ix2 p q)) (fun q => e (ix2 p q)) q _ hm _ _ _
    (by dsimp only; omega) (by dsimp only; omega) (by dsimp only; omega))

/-- The fourth tile of the queries. -/
theorem tile3_at : k0_pay15 (k0_pay14 y mk c e) (ix3 0 p q) = (turn (fun f => y (ix2 p f)) (fun q => c (ix2 p q)) (fun q => e (ix2 p q)) ⟨384 + q.val, by omega⟩
      * Ideal.ofBits .f32 0x3E000000#32 : EReal) := by
  pointwise [k0_pay15, k0_pay14]
  exact congrArg (· * Ideal.ofBits .f32 0x3E000000#32) (turn_of (fun f => y (ix2 p f)) (fun q => c (ix2 p q)) (fun q => e (ix2 p q)) q _ hm _ _ _
    (by dsimp only; omega) (by dsimp only; omega) (by dsimp only; omega))

/-- The tile of the keys. -/
theorem tile4_at : k0_pay16 y mk c e (ix2 p q) = turn (fun f => y (ix2 p f)) (fun q => c (ix2 p q)) (fun q => e (ix2 p q)) ⟨512 + q.val, by omega⟩ := by
  pointwise [k0_pay16]
  exact turn_of (fun f => y (ix2 p f)) (fun q => c (ix2 p q)) (fun q => e (ix2 p q)) q _ hm _ _ _
    (by dsimp only; omega) (by dsimp only; omega) (by dsimp only; omega)

end tile

section keys

variable (y : FVec Ideal S512x640 .f32) (it : IVec S512x128 32) (mk : IVec S512x128 1) (c e : FVec Ideal S512x128 .f32) (p : Fin 512)
  (hi : ∀ q : Fin 128, it (ix2 p q) = BitVec.ofNat 32 q.val)

/-- A choice by the lane's number being below 64. -/
theorem pick (q : Fin 128) (a b : EReal) : Scalar.select (IntOp.cmpi CmpIPredicate.slt (BitVec.ofNat 32 q.val) 64#32) a b = if q.val < 64 then a else b := by
  have h : ∀ q : Fin 128, IntOp.cmpi CmpIPredicate.slt (BitVec.ofNat 32 q.val) 64#32 = if q.val < 64 then 1#1 else 0#1 := by decide +kernel
  rw [h q]
  split <;> rfl

include hi

/-- The first stored tile: the first head, then zeros. -/
theorem key0_at (q : Fin 128) : k0_pay20 y it mk c e (ix3 0 p q) = (if q.val < 64 then k0_pay16 y mk c e (ix2 p q) else 0 : EReal) := by
  unfold k0_pay20 k0_pay18
  generalize k0_pay16 y mk c e = r
  pointwise [k0_pay17]
  rw [hi, pick]

/-- The second stored tile: zeros, then the first head. -/
theorem key1_at (q : Fin 128) : k0_pay21 y it mk c e (ix3 0 p q) = (if h : q.val < 64 then 0 else k0_pay16 y mk c e (ix2 p ⟨q.val - 64, by omega⟩) : EReal) := by
  unfold k0_pay21 k0_pay18
  generalize k0_pay16 y mk c e = r
  pointwise [k0_pay17]
  rw [hi, pick]
  by_cases h : q.val < 64
  · rw [dif_pos h, if_neg (by dsimp only; omega)]
  · rw [dif_neg h, if_pos (by dsimp only; omega)]
    exact congrArg (fun q => r (ix2 p q)) (Fin.ext (by dsimp only; omega))

/-- The third stored tile: the second head, then zeros. -/
theorem key2_at (q : Fin 128) : k0_pay22 y it mk c e (ix3 0 p q) = (if h : q.val < 64 then k0_pay16 y mk c e (ix2 p ⟨64 + q.val, by omega⟩) else 0 : EReal) := by
  unfold k0_pay22 k0_pay19
  generalize k0_pay16 y mk c e = r
  pointwise [k0_pay17]
  rw [hi, pick]
  by_cases h : q.val < 64
  · rw [dif_pos h, if_neg (by dsimp only; omega)]
    exact congrArg (fun q => r (ix2 p q)) (Fin.ext (by dsimp only; omega))
  · rw [dif_neg h, if_pos (by dsimp only; omega)]

/-- The fourth stored tile: zeros, then the second head. -/
theorem key3_at (q : Fin 128) : k0_pay23 y it mk c e (ix3 0 p q) = (if q.val < 64 then 0 else k0_pay16 y mk c e (ix2 p q) : EReal) := by
  unfold k0_pay23 k0_pay19
  generalize k0_pay16 y mk c e = r
  pointwise [k0_pay17]
  rw [hi, pick]

end keys

/-- A lane of the tile stored at lane 384. -/
theorem lane0 (T : Fin 640 → EReal) (f : Fin 512) (q : Fin 128) (hf : f.val = 384 + q.val) : (if q.val < 64 then 0 else T ⟨512 + q.val, by omega⟩)
    = if f.val / 64 = 0 ∨ f.val / 64 = 3 then T ⟨512 + f.val % 64, by omega⟩ else if f.val / 64 = 4 ∨ f.val / 64 = 7 then T ⟨512 + (64 + f.val % 64), by omega⟩ else 0 := by
  split_ifs <;> first
    | omega
    | rfl
    | exact congrArg T (Fin.ext (by dsimp only; omega))

/-- A lane of the tile stored at lane 256. -/
theorem lane1 (T : Fin 640 → EReal) (f : Fin 512) (q : Fin 128) (hf : f.val = 256 + q.val) : (if h : q.val < 64 then T ⟨512 + (64 + q.val), by omega⟩ else 0)
    = if f.val / 64 = 0 ∨ f.val / 64 = 3 then T ⟨512 + f.val % 64, by omega⟩ else if f.val / 64 = 4 ∨ f.val / 64 = 7 then T ⟨512 + (64 + f.val % 64), by omega⟩ else 0 := by
  split_ifs <;> first
    | omega
    | rfl
    | exact congrArg T (Fin.ext (by dsimp only; omega))

/-- A lane of the tile stored at lane 128. -/
theorem lane2 (T : Fin 640 → EReal) (f : Fin 512) (q : Fin 128) (hf : f.val = 128 + q.val) : (if h : q.val < 64 then 0 else T ⟨512 + (q.val - 64), by omega⟩)
    = if f.val / 64 = 0 ∨ f.val / 64 = 3 then T ⟨512 + f.val % 64, by omega⟩ else if f.val / 64 = 4 ∨ f.val / 64 = 7 then T ⟨512 + (64 + f.val % 64), by omega⟩ else 0 := by
  split_ifs <;> first
    | omega
    | rfl
    | exact congrArg T (Fin.ext (by dsimp only; omega))

/-- A lane of the tile stored at lane 0. -/
theorem lane3 (T : Fin 640 → EReal) (f : Fin 512) (q : Fin 128) (hf : f.val = q.val) : (if q.val < 64 then T ⟨512 + q.val, by omega⟩ else 0)
    = if f.val / 64 = 0 ∨ f.val / 64 = 3 then T ⟨512 + f.val % 64, by omega⟩ else if f.val / 64 = 4 ∨ f.val / 64 = 7 then T ⟨512 + (64 + f.val % 64), by omega⟩ else 0 := by
  split_ifs <;> first
    | omega
    | rfl
    | exact congrArg T (Fin.ext (by dsimp only; omega))

section out

variable (x0 : Vec Ideal S1x512x1024 .f32) (x1 : Vec Ideal S1x1024 .f32) (x2 : Vec Ideal S1024x1280 .bf16) (x3 : Vec Ideal S640x640 .bf16) (x4 : Vec Ideal S1x640 .f32)
  (x5 x6 : Vec Ideal S512x128 .f32)

/-- What a grid point leaves in its block of the recurrence's input. -/
theorem out_u : out0_7 x0 x1 x2 x3 x4 x5 x6 = k0_pay3 x0 x1 x2 := by
  unfold out0_7
  frame_out

/-- What a grid point leaves in its block of the values. -/
theorem out_v : out0_10 x0 x1 x2 x3 x4 x5 x6 = k0_pay1 (k0_pay24 (k0_pay2 x0 x1 x2)) := by
  unfold out0_10
  frame_out

/-- The normalised lanes of a block. -/
abbrev lanes : FVec Ideal S512x640 .f32 := k0_pay6 (k0_pay4 x0 x1 x2) (k0_pay5 x0 x1 x2 x3) x4

/-- The projection's query and key lanes, from the blocks. -/
theorem p25 : k0_pay25 x0 x1 x2 x3 x4 x5 x6 = k0_pay4 x0 x1 x2 := by
  unfold k0_pay25
  frame_out

/-- The mean squares, from the blocks. -/
theorem p26 : k0_pay26 x0 x1 x2 x3 x4 x5 x6 = k0_pay5 x0 x1 x2 x3 := by
  unfold k0_pay26
  frame_out

/-- The normalised lanes, from the blocks. -/
theorem p28 : k0_pay28 x0 x1 x2 x3 x4 x5 x6 = lanes x0 x1 x2 x3 x4 := by
  unfold k0_pay28
  rw [p25, p26]
  frame_out

/-- The cosines' block. -/
theorem p30 : k0_pay30 x0 x1 x2 x3 x4 x5 x6 = x5 := by
  unfold k0_pay30
  frame_out
  funext y
  rw [eq_ix2 y]
  pointwise [k0_pay8]

/-- The sines' block. -/
theorem p31 : k0_pay31 x0 x1 x2 x3 x4 x5 x6 = x6 := by
  unfold k0_pay31
  frame_out
  funext y
  rw [eq_ix2 y]
  pointwise [k0_pay9]

/-- The number of a lane. -/
theorem p27 (p : Fin 512) (q : Fin 128) : k0_pay27 x0 x1 x2 x3 x4 x5 x6 (ix2 p q) = BitVec.ofNat 32 q.val := by
  pointwise [k0_pay27]

/-- An index of a stored tile in row `p`. -/
theorem row (x : S1x512x128.Idx) (p : Fin 512) (h : p.val = (x 1).val) : ∃ q : Fin 128, x = ix3 0 p q := by
  have e0 : x 0 = (0 : Fin 1) := Fin.ext (by have h0 : (x 0).val < 1 := (x 0).isLt; show (x 0).val = 0; omega)
  have e1 : x 1 = p := Fin.ext h.symm
  refine ⟨x 2, ?_⟩
  conv_lhs => rw [eq_ix3 x, e0, e1]

/-- The mask, from the blocks. -/
theorem p29 (p : Fin 512) (q : Fin 128) : k0_pay29 x0 x1 x2 x3 x4 x5 x6 (ix2 p q) = if q.val % 64 < 32 then 1#1 else 0#1 := mask_at p q

/-- A rotated lane of a block. -/
def turned (p : Fin 512) (f : Fin 640) : EReal :=
  turn (fun f => lanes x0 x1 x2 x3 x4 (ix2 p f)) (fun q => x5 (ix2 p q)) (fun q => x6 (ix2 p q)) f

/-- What a grid point leaves in its block of the queries. -/
theorem out_q (p f : Fin 512) : out0_8 x0 x1 x2 x3 x4 x5 x6 (ix3 0 p f) = (turned x0 x1 x2 x3 x4 x5 x6 p ⟨f.val, by omega⟩ * Ideal.ofBits .f32 0x3E000000#32 : EReal) := by
  canon_tiles x h using Gen.cover0_8 ..
  case piece0 =>
    obtain ⟨q, rfl⟩ := row x p h1
    rw [p28, p30, p31, tile3_at _ _ _ _ p _ (p29 ..)]
    exact congrArg (turned x0 x1 x2 x3 x4 x5 x6 p · * Ideal.ofBits .f32 0x3E000000#32) (Fin.ext h2.symm)
  case piece1 =>
    obtain ⟨q, rfl⟩ := row x p h1
    rw [p28, p30, p31, tile2_at _ _ _ _ p _ (p29 ..)]
    exact congrArg (turned x0 x1 x2 x3 x4 x5 x6 p · * Ideal.ofBits .f32 0x3E000000#32) (Fin.ext h2.symm)
  case piece2 =>
    obtain ⟨q, rfl⟩ := row x p h1
    rw [p28, p30, p31, tile1_at _ _ _ _ p _ (p29 ..)]
    exact congrArg (turned x0 x1 x2 x3 x4 x5 x6 p · * Ideal.ofBits .f32 0x3E000000#32) (Fin.ext h2.symm)
  case piece3 =>
    obtain ⟨q, rfl⟩ := row x p h1
    rw [p25, p26]
    frame_out
    rw [tile0_at]
    exact congrArg (turned x0 x1 x2 x3 x4 x5 x6 p · * Ideal.ofBits .f32 0x3E000000#32) (Fin.ext h2.symm)

/-- A rotated lane of the keys. -/
theorem key_at (p : Fin 512) (q : Fin 128) : k0_pay16 (lanes x0 x1 x2 x3 x4) (k0_pay29 x0 x1 x2 x3 x4 x5 x6) x5 x6 (ix2 p q)
    = turned x0 x1 x2 x3 x4 x5 x6 p ⟨512 + q.val, by omega⟩ := tile4_at _ _ _ _ p _ (p29 ..)

/-- What a grid point leaves in its block of the keys. -/
theorem out_k (p f : Fin 512) : out0_9 x0 x1 x2 x3 x4 x5 x6 (ix3 0 p f)
    = (if f.val / 64 = 0 ∨ f.val / 64 = 3 then turned x0 x1 x2 x3 x4 x5 x6 p ⟨512 + f.val % 64, by omega⟩
      else if f.val / 64 = 4 ∨ f.val / 64 = 7 then turned x0 x1 x2 x3 x4 x5 x6 p ⟨512 + (64 + f.val % 64), by omega⟩ else 0 : EReal) := by
  have ht := key_at x0 x1 x2 x3 x4 x5 x6 p
  canon_tiles x h using Gen.cover0_9 ..
  case piece0 =>
    obtain ⟨q, rfl⟩ := row x p h1
    have hf : f.val = 384 + q.val := h2
    rw [p28, p30, p31, key3_at _ _ _ _ _ p (fun q => p27 _ _ _ _ _ _ _ p q)]
    simp only [ht]
    generalize turned x0 x1 x2 x3 x4 x5 x6 p = T
    exact lane0 T f q hf
  case piece1 =>
    obtain ⟨q, rfl⟩ := row x p h1
    have hf : f.val = 256 + q.val := h2
    rw [p28, p30, p31, key2_at _ _ _ _ _ p (fun q => p27 _ _ _ _ _ _ _ p q)]
    simp only [ht]
    generalize turned x0 x1 x2 x3 x4 x5 x6 p = T
    exact lane1 T f q hf
  case piece2 =>
    obtain ⟨q, rfl⟩ := row x p h1
    have hf : f.val = 128 + q.val := h2
    rw [p28, p30, p31, key1_at _ _ _ _ _ p (fun q => p27 _ _ _ _ _ _ _ p q)]
    simp only [ht]
    generalize turned x0 x1 x2 x3 x4 x5 x6 p = T
    exact lane2 T f q hf
  case piece3 =>
    obtain ⟨q, rfl⟩ := row x p h1
    have hf : f.val = q.val := h2
    rw [p28, p30, p31, key0_at _ _ _ _ _ p (fun q => p27 _ _ _ _ _ _ _ p q)]
    simp only [ht]
    generalize turned x0 x1 x2 x3 x4 x5 x6 p = T
    exact lane3 T f q hf

end out

end Cert.Kernel4Ideal.Proj

end
-- ==== Proof.ProjStep.lean ====
module

public import proofs.«01_k».proof.Proof.Gen.Kernel4Ideal.Value
public import proofs.«01_k».proof.Defs
public import proofs.«01_k».proof.Proof.ProjRef
public import proofs.«01_k».proof.Proof.ProjValue
public import proofs.«01_k».proof.Proof.Gen.Reference4Ideal.Run
public import Idealize.ShloMosaic.Lib.StableHlo.Run
public import Idealize.ShloMosaic.Lib.Pipeline.ValueKit
public import Idealize.ShloMosaic.Lib.Pointwise
public import Idealize.ShloMosaic.Lib.WritesUnit

@[expose] public section

set_option maxRecDepth 16384

/-! What a grid point of the input projection leaves in its blocks, against the reference of any number of batches and rows. -/

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen

open Cert.Mix (norm)
open Cert.Proj
open Cert.Rows (Sq Mat Vc Pt)

/-- A number that is real. -/
def IsReal (a : EReal) : Prop := ∃ r : ℝ, a = (r : EReal)

/-- A product of reals is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A sum of reals is real. -/
theorem IsReal.sum {n : ℕ} (v : Fin n → EReal) (hv : ∀ d, IsReal (v d)) : IsReal (∑ d, v d) := by
  refine Finset.sum_induction v IsReal ?_ ⟨0, rfl⟩ fun d _ => hv d
  rintro _ _ ⟨r, rfl⟩ ⟨s, rfl⟩
  exact ⟨r + s, (EReal.coe_add r s).symm⟩

/-- A sum of squares of reals is a real that is not negative. -/
theorem sum_sq {n : ℕ} (v : Fin n → EReal) (hv : ∀ d, IsReal (v d)) : ∃ r : ℝ, 0 ≤ r ∧ (∑ d, v d * v d) = (r : EReal) := by
  refine Finset.sum_induction (fun d => v d * v d) (fun a => ∃ r : ℝ, 0 ≤ r ∧ a = (r : EReal)) ?_ ⟨0, le_refl _, rfl⟩ fun d _ => ?_
  · rintro _ _ ⟨r, hr, rfl⟩ ⟨s, hs, rfl⟩
    exact ⟨r + s, add_nonneg hr hs, (EReal.coe_add r s).symm⟩
  · obtain ⟨r, hr⟩ := hv d
    exact ⟨r * r, mul_self_nonneg r, by rw [hr, EReal.coe_mul]⟩

/-- The constant 1024. -/
theorem bits1024 : Ideal.ofBits FTy.f32 0x44800000#32 = ((1024 : ℝ) : EReal) := by
  simp [Ideal.ofBits, Ideal.ieee, -EReal.coe_mul]; norm_num

/-- The constant 64. -/
theorem bits64 : Ideal.ofBits FTy.f32 0x42800000#32 = ((64 : ℝ) : EReal) := by
  simp [Ideal.ofBits, Ideal.ieee, -EReal.coe_mul]; norm_num

/-- The constant 1/64. -/
theorem bits64th : Ideal.ofBits FTy.f32 0x3C800000#32 = ((1 / 64 : ℝ) : EReal) := by
  simp [Ideal.ofBits, Ideal.ieee, -EReal.coe_mul]; norm_num

/-- The constant added to a mean square is a positive real. -/
theorem bitsEps : ∃ r : ℝ, 0 < r ∧ Ideal.ofBits FTy.f32 0x358637BD#32 = (r : EReal) := by
  refine ⟨8796093 / 8796093022208, by norm_num, ?_⟩
  simp [Ideal.ofBits, Ideal.ieee, -EReal.coe_mul]; norm_num

/-- A division by 64 is a multiplication by 1/64. -/
theorem div64 (a : EReal) : a * Ideal.ofBits FTy.f32 0x3C800000#32 = Ideal.div a (Ideal.ofBits FTy.f32 0x42800000#32) := by
  rw [bits64, bits64th]
  unfold Ideal.div
  rw [if_neg (by norm_num), ← EReal.coe_inv]
  norm_num

/-- A normalised row of reals is real. -/
theorem norm_real {n : ℕ} (v g : Fin n → EReal) (hv : ∀ d, IsReal (v d)) (hg : ∀ d, IsReal (g d)) (d : Fin n) :
    IsReal (norm (Ideal.ofBits .f32 0x44800000#32) v g d) := by
  unfold Cert.Mix.norm
  refine IsReal.mul (IsReal.mul (hv d) ?_) (hg d)
  obtain ⟨r, hr, e⟩ := sum_sq v hv
  obtain ⟨s, hs, es⟩ := bitsEps
  rw [e, es, bits1024]
  unfold Ideal.div
  rw [if_neg (by norm_num), ← EReal.coe_inv, ← EReal.coe_mul, ← EReal.coe_add]
  have hp : 0 < r * (1024 : ℝ)⁻¹ + s := by positivity
  refine ⟨(Real.sqrt (r * (1024 : ℝ)⁻¹ + s))⁻¹, ?_⟩
  show (if r * (1024 : ℝ)⁻¹ + s < 0 then ⊥ else if r * (1024 : ℝ)⁻¹ + s = 0 then ⊤ else (((Real.sqrt (r * (1024 : ℝ)⁻¹ + s))⁻¹ : ℝ) : EReal)) = _
  rw [if_neg (not_lt.mpr hp.le), if_neg hp.ne']

/-- A sum against the matrix of a head's lanes is the sum over that head. -/
theorem sum_head (v : Fin 640 → EReal) (h : Fin 10) (e : Fin 64) : (∑ d : Fin 640, v d * (if d.val / 64 = (h.val * 64 + e.val) / 64 then 1 else 0))
    = ∑ e : Fin 64, v ⟨h.val * 64 + e.val, by omega⟩ := by
  simp only [mul_ite, mul_one, mul_zero]
  rw [← Finset.sum_filter]
  refine Finset.sum_nbij' (fun d => (⟨d.val % 64, by omega⟩ : Fin 64)) (fun e => (⟨h.val * 64 + e.val, by omega⟩ : Fin 640)) ?_ ?_ ?_ ?_ ?_
  · intro d _
    exact Finset.mem_univ _
  · intro e' _
    rw [Finset.mem_filter]
    exact ⟨Finset.mem_univ _, by dsimp only; omega⟩
  · intro d hd
    rw [Finset.mem_filter] at hd
    exact Fin.ext (by have := hd.2; dsimp only; omega)
  · intro e' _
    exact Fin.ext (by dsimp only; omega)
  · intro d hd
    rw [Finset.mem_filter] at hd
    exact congrArg v (Fin.ext (by have := hd.2; dsimp only; omega))

/-- A rotated lane, with the sine's sign taken out of the table. -/
theorem turn_rot (y : Fin 640 → EReal) (c s : Fin 128 → EReal) (ct st : Fin 32 → EReal) (hc : ∀ q, c q = ct ⟨q.val % 32, by omega⟩)
    (hs : ∀ q, s q = if q.val % 64 < 32 then - st ⟨q.val % 32, by omega⟩ else st ⟨q.val % 32, by omega⟩) (h : Fin 10) (e : Fin 64) :
    turn y c s ⟨h.val * 64 + e.val, by omega⟩ = rot (fun e => y ⟨h.val * 64 + e.val, by omega⟩) ct st e := by
  have hy : ∀ a b : Fin 640, a.val = b.val → y a = y b := fun a b hab => congrArg y (Fin.ext hab)
  have hct : ∀ a b : Fin 32, a.val = b.val → ct a = ct b := fun a b hab => congrArg ct (Fin.ext hab)
  have hst : ∀ a b : Fin 32, a.val = b.val → st a = st b := fun a b hab => congrArg st (Fin.ext hab)
  unfold turn rot
  rw [hc, hs]
  by_cases he : e.val < 32
  · rw [dif_pos (by dsimp only; omega), dif_pos he, if_pos (by dsimp only; omega), mul_neg, sub_eq_add_neg]
    refine congrArg₂ (· + ·) (congrArg₂ (· * ·) rfl (hct _ _ (by dsimp only; omega))) (congrArg (fun v : EReal => - v) (congrArg₂ (· * ·) (hy _ _ (by dsimp only; omega))
      (hst _ _ (by dsimp only; omega))))
  · rw [dif_neg (by dsimp only; omega), dif_neg he, if_neg (by dsimp only; omega)]
    refine congrArg₂ (· + ·) (congrArg₂ (· * ·) rfl (hct _ _ (by dsimp only; omega))) (congrArg₂ (· * ·) (hy _ _ (by dsimp only; omega))
      (hst _ _ (by dsimp only; omega)))

section step

variable {B L : ℕ} (S : Cert.Proj.Fits B L) (ct st : FVec Ideal (Mat L 32) .f32) (x : FVec Ideal (Sq B L 1024) .f32) (g : FVec Ideal S1024 .f32) (w : FVec Ideal S1024x1280 .f32) (gq gk : FVec Ideal S64 .f32)

/-- The blocks that a grid point reads are cut from the arguments: batch `b`, rows from `512 j` on; the tables of cosines and sines hold those of the rows' angles; the arguments that the projection reads are real. -/
structure Cut (b : Fin B) (j : ℕ) (x0 : Vec Ideal S1x512x1024 .f32) (x1 : Vec Ideal S1x1024 .f32) (x2 : Vec Ideal S1024x1280 .bf16)
    (x3 : Vec Ideal S640x640 .bf16) (x4 : Vec Ideal S1x640 .f32) (x5 x6 : Vec Ideal S512x128 .f32) : Prop where
  lt : j * 512 + 512 ≤ L
  token : ∀ (p : Fin 512) (d : Fin 1024), x0 (ix3 0 p d) = x (ix3 b ⟨j * 512 + p.val, by omega⟩ d)
  scale : ∀ d, x1 (ix2 0 d) = g (ix1 d)
  weight : ∀ d f, x2 (ix2 d f) = w (ix2 d f)
  ones : ∀ d f : Fin 640, x3 (ix2 d f) = (if d.val / 64 = f.val / 64 then 1 else 0 : EReal)
  gain : ∀ f : Fin 640, x4 (ix2 0 f) = (if f.val < 512 then gq (ix1 ⟨f.val % 64, by omega⟩) else gk (ix1 ⟨f.val % 64, by omega⟩) : EReal)
  cosine : ∀ (p : Fin 512) (q : Fin 128), x5 (ix2 p q) = (ct (ix2 ⟨j * 512 + p.val, by omega⟩ ⟨q.val % 32, by omega⟩) : EReal)
  sine : ∀ (p : Fin 512) (q : Fin 128), x6 (ix2 p q) = (if q.val % 64 < 32 then - st (ix2 ⟨j * 512 + p.val, by omega⟩ ⟨q.val % 32, by omega⟩)
    else st (ix2 ⟨j * 512 + p.val, by omega⟩ ⟨q.val % 32, by omega⟩) : EReal)
  real_x : ∀ b l d, IsReal (x (ix3 b l d))
  real_g : ∀ d, IsReal (g (ix1 d))
  real_w : ∀ d f, IsReal (w (ix2 d f))

variable {ct st x g w gq gk} {b : Fin B} {j : ℕ} {x0 : Vec Ideal S1x512x1024 .f32} {x1 : Vec Ideal S1x1024 .f32} {x2 : Vec Ideal S1024x1280 .bf16}
    {x3 : Vec Ideal S640x640 .bf16} {x4 : Vec Ideal S1x640 .f32} {x5 x6 : Vec Ideal S512x128 .f32}

variable (C : Cut ct st x g w gq gk b j x0 x1 x2 x3 x4 x5 x6)

include C

/-- A block of projected tokens is the reference's. -/
theorem proj_ref (p : Fin 512) (f : Fin 1280) : k0_pay2 x0 x1 x2 (ix2 p f)
    = refDot S (refTok S x g) w (ix3 b ⟨j * 512 + p.val, by have := C.lt; omega⟩ f) := by
  rw [proj_at, refDot_at]
  simp only [refTok_at, C.token, C.scale, C.weight]

/-- A projected token is real. -/
theorem proj_real (l : Fin L) (f : Fin 1280) : IsReal (refDot S (refTok S x g) w (ix3 b l f)) := by
  rw [refDot_at]
  simp only [refTok_at]
  exact IsReal.sum _ fun d => IsReal.mul (norm_real _ _ (fun d => C.real_x b l d) C.real_g d) (C.real_w d f)

/-- A normalised lane of a block is the lane of its normalised head. -/
theorem lanes_ref (p : Fin 512) (h : Fin 10) (e : Fin 64) : lanes x0 x1 x2 x3 x4 (ix2 p ⟨h.val * 64 + e.val, by omega⟩)
    = norm (Ideal.ofBits .f32 0x42800000#32)
      (fun e => refDot S (refTok S x g) w (ix3 b ⟨j * 512 + p.val, by have := C.lt; omega⟩ ⟨512 + (h.val * 64 + e.val), by omega⟩))
      (fun e => if h.val < 8 then gq (ix1 e) else gk (ix1 e)) e := by
  have hz : ∀ d : Fin 640, k0_pay4 x0 x1 x2 (ix2 p d) = refDot S (refTok S x g) w (ix3 b ⟨j * 512 + p.val, by have := C.lt; omega⟩ ⟨512 + d.val, by omega⟩) :=
    fun d => (qk_at x0 x1 x2 p d).trans (proj_ref S C p _)
  have hr : ∀ d : Fin 640, IsReal (refDot S (refTok S x g) w (ix3 b ⟨j * 512 + p.val, by have := C.lt; omega⟩ ⟨512 + d.val, by omega⟩)) := fun d => proj_real S C _ _
  unfold lanes
  rw [lane_at, ms_at]
  simp only [hz, C.ones, C.gain]
  generalize refDot S (refTok S x g) w = z at hr ⊢
  have h0 : ∀ d : Fin 640, (z (ix3 b ⟨j * 512 + p.val, by have := C.lt; omega⟩ ⟨512 + d.val, by omega⟩) * z (ix3 b ⟨j * 512 + p.val, by have := C.lt; omega⟩ ⟨512 + d.val, by omega⟩)
      - z (ix3 b ⟨j * 512 + p.val, by have := C.lt; omega⟩ ⟨512 + d.val, by omega⟩) * z (ix3 b ⟨j * 512 + p.val, by have := C.lt; omega⟩ ⟨512 + d.val, by omega⟩) : EReal) = 0 := by
    intro d
    obtain ⟨r, e⟩ := IsReal.mul (hr d) (hr d)
    rw [e, ← EReal.coe_sub, sub_self, EReal.coe_zero]
  simp only [h0, zero_mul, Finset.sum_const_zero, add_zero]
  rw [sum_head (fun d => z (ix3 b ⟨j * 512 + p.val, by have := C.lt; omega⟩ ⟨512 + d.val, by omega⟩) * z (ix3 b ⟨j * 512 + p.val, by have := C.lt; omega⟩ ⟨512 + d.val, by omega⟩)) h e,
    div64]
  unfold Cert.Mix.norm
  refine congrArg₂ (· * ·) rfl ?_
  have hm : (⟨(h.val * 64 + e.val) % 64, by omega⟩ : Fin 64) = e := Fin.ext (by dsimp only; omega)
  by_cases h8 : h.val < 8
  · rw [if_pos (by omega), hm]
    exact (if_pos h8).symm
  · rw [if_neg (by omega), hm]
    exact (if_neg h8).symm

/-- A rotated lane of a block is the lane of its normalised and rotated head. -/
theorem turned_ref (p : Fin 512) (h : Fin 10) (e : Fin 64) : turned x0 x1 x2 x3 x4 x5 x6 p ⟨h.val * 64 + e.val, by omega⟩
    = rot (norm (Ideal.ofBits .f32 0x42800000#32)
      (fun e => refDot S (refTok S x g) w (ix3 b ⟨j * 512 + p.val, by have := C.lt; omega⟩ ⟨512 + (h.val * 64 + e.val), by omega⟩))
      (fun e => if h.val < 8 then gq (ix1 e) else gk (ix1 e)))
      (fun i => ct (ix2 ⟨j * 512 + p.val, by have := C.lt; omega⟩ i)) (fun i => st (ix2 ⟨j * 512 + p.val, by have := C.lt; omega⟩ i)) e := by
  unfold turned
  rw [turn_rot _ _ _ (fun i => ct (ix2 ⟨j * 512 + p.val, by have := C.lt; omega⟩ i)) (fun i => st (ix2 ⟨j * 512 + p.val, by have := C.lt; omega⟩ i))
    (fun q => C.cosine p q) (fun q => C.sine p q) h e]
  exact congrArg (fun n => rot n _ _ e) (funext fun e => lanes_ref S C p h e)

/-- What a grid point leaves in its block of the recurrence's input is the reference's. -/
theorem out_u_ref (p f : Fin 512) : out0_7 x0 x1 x2 x3 x4 x5 x6 (ix3 0 p f)
    = refOutU S (refDot S (refTok S x g) w) (ix3 b ⟨j * 512 + p.val, by have := C.lt; omega⟩ f) := by
  rw [out_u, u_at, proj_ref S C, refOutU_at]

/-- What a grid point leaves in its block of the values is the reference's. -/
theorem out_v_ref (f : Fin 128) (p : Fin 512) : out0_10 x0 x1 x2 x3 x4 x5 x6 (ix3 0 f p)
    = refOutV S (refDot S (refTok S x g) w) (ix3 b f ⟨j * 512 + p.val, by have := C.lt; omega⟩) := by
  rw [out_v, v_at, proj_ref S C, refOutV_at]

/-- What a grid point leaves in its block of the queries is the reference's. -/
theorem out_q_ref (p f : Fin 512) : out0_8 x0 x1 x2 x3 x4 x5 x6 (ix3 0 p f)
    = refOutQ S (refDot S (refTok S x g) w) gq ct st (ix3 b ⟨j * 512 + p.val, by have := C.lt; omega⟩ f) := by
  have e := turned_ref S C p ⟨f.val / 64, by omega⟩ ⟨f.val % 64, by omega⟩
  rw [out_q, refOutQ_at, refRot_at]
  refine congrArg (· * Ideal.ofBits .f32 0x3E000000#32) ((congrArg (turned x0 x1 x2 x3 x4 x5 x6 p) (Fin.ext (by dsimp only; omega))).trans (e.trans ?_))
  refine congrArg (fun n => rot n _ _ _) (funext fun i => ?_)
  rw [refNorm_at]
  have h8 : f.val / 64 < 8 := by omega
  simp only [h8, if_true]
  exact congrArg (fun v => norm _ v _ i) (funext fun i => (refHeads_at S.query _ _ ⟨f.val / 64, h8⟩ rfl _ i _ rfl).symm)

/-- What a grid point leaves in its block of the keys is the reference's. -/
theorem out_k_ref (p f : Fin 512) : out0_9 x0 x1 x2 x3 x4 x5 x6 (ix3 0 p f)
    = refOutK S (refDot S (refTok S x g) w) gk ct st (ix3 b ⟨j * 512 + p.val, by have := C.lt; omega⟩ f) := by
  have hk : ∀ (h : Fin 2) (F : Fin 640) (e : Fin 64), F.val = (8 + h.val) * 64 + e.val → turned x0 x1 x2 x3 x4 x5 x6 p F
      = refRot S.key (refNorm S.key (refHeads S.key (refDot S (refTok S x g) w)) gk) ct st (ix4 b ⟨j * 512 + p.val, by have := C.lt; omega⟩ h e) := by
    intro h F e hF
    rw [refRot_at]
    refine ((congrArg (turned x0 x1 x2 x3 x4 x5 x6 p) (Fin.ext hF)).trans ((turned_ref S C p ⟨8 + h.val, by omega⟩ e).trans ?_))
    refine congrArg (fun n => rot n _ _ e) (funext fun i => ?_)
    rw [refNorm_at]
    have h8 : ¬ 8 + h.val < 8 := by omega
    simp only [h8, if_false]
    exact congrArg (fun v => norm _ v _ i) (funext fun i => (refHeads_at S.key _ _ h rfl _ i _ (by dsimp only; omega)).symm)
  unfold refOutK
  rw [out_k, refPad_at]
  by_cases h0 : f.val / 64 = 0 ∨ f.val / 64 = 3
  · rw [if_pos h0, if_pos h0]
    exact hk 0 _ _ (by show 512 + f.val % 64 = (8 + 0) * 64 + f.val % 64; omega)
  · rw [if_neg h0, if_neg h0]
    by_cases h1 : f.val / 64 = 4 ∨ f.val / 64 = 7
    · rw [if_pos h1, if_pos h1]
      exact hk 1 _ _ (by show 512 + (64 + f.val % 64) = (8 + 1) * 64 + f.val % 64; omega)
    · rw [if_neg h1, if_neg h1]

end step

end Cert.Kernel4Ideal.Proj

end
-- ==== Proof.ProjEntry.lean ====
module

public import proofs.«01_k».proof.Proof.Gen.Kernel4Ideal.Value
public import proofs.«01_k».proof.Defs
public import proofs.«01_k».proof.Proof.ProjRef
public import proofs.«01_k».proof.Proof.Gen.Reference4Ideal.Run
public import Idealize.ShloMosaic.Lib.StableHlo.Run
public import Idealize.ShloMosaic.Lib.Pipeline.ValueKit
public import Idealize.ShloMosaic.Lib.Pointwise
public import Idealize.ShloMosaic.Lib.WritesUnit

@[expose] public section

set_option maxRecDepth 16384

/-! The arrays that the host makes for the input projection out of its arguments, read at an index. -/

noncomputable section

open Idealize.ShloMosaic Idealize.ShloMosaic.TcCoe Idealize.SL.Sem
open Idealize.ShloMosaic.Pipeline (Dat)

namespace Cert.Proj

open Cert.Rows (Sq Mat Vc Pt)

section arrays

open Cert.Kernel4Ideal Cert.Kernel4Ideal.Gen

/-- The projection's scale as a row. -/
def scaleRow (g : FVec Ideal S1024 .f32) : FVec Ideal S1x1024 .f32 := broadcastInDim S1x1024 ![1] bcast_S1024_S1x1024_1 g

/-- The projection's weights, cast. -/
def weights (w : FVec Ideal S1024x1280 .f32) : FVec Ideal S1024x1280 .bf16 := truncf .bf16 w bitsLt_bf16_f32

/-- The scales of the query heads, then those of the key heads, as a row. -/
def gains (gq gk : FVec Ideal S64 .f32) : FVec Ideal S1x640 .f32 :=
  broadcastInDim S1x640 ![1] bcast_S640_S1x640_1 (concatenate S640 0 [⟨S512, shapeCast _ (broadcastInDim S8x64 ![0, 1] bcast_S1x64_S8x64_0_1 (shapeCast _ gq shapeCasts_S64_S1x64)) shapeCasts_S8x64_S512⟩,
    ⟨S128, shapeCast _ (broadcastInDim S2x64 ![0, 1] bcast_S1x64_S2x64_0_1 (shapeCast _ gk shapeCasts_S64_S1x64)) shapeCasts_S2x64_S128⟩] concatenates_S512_S128_S640_d0)

/-- The head that each of the 640 lanes belongs to, as the kernel's program computes it. -/
def headNo : IVec S640 32 :=
  select (andi (cmpi .ne (signi (iotaInDim S640 32 0)) (broadcastInDim S640 ![] bcast_S_S640 (signi (constantI S_ 32 64#32))))
      (cmpi .ne (Host.remsi (iotaInDim S640 32 0) (broadcastInDim S640 ![] bcast_S_S640 (constantI S_ 32 64#32))) (broadcastInDim S640 ![] bcast_S_S640 (constantI S_ 32 0#32))))
    (subi (Host.divsi (iotaInDim S640 32 0) (broadcastInDim S640 ![] bcast_S_S640 (constantI S_ 32 64#32))) (broadcastInDim S640 ![] bcast_S_S640 (constantI S_ 32 1#32)))
    (Host.divsi (iotaInDim S640 32 0) (broadcastInDim S640 ![] bcast_S_S640 (constantI S_ 32 64#32)))

/-- That number is the lane's number divided by 64. -/
theorem headNo_at (d : Fin 640) : headNo (ix1 d) = BitVec.ofNat 32 (d.val / 64) := by
  pointwise [headNo]
  revert d
  decide +kernel

/-- The matrix that sums each head's lanes. -/
def onesMat : FVec Ideal S640x640 .bf16 :=
  uitofp .bf16 (cmpi .eq (broadcastInDim S640x640 ![0, 1] bcast_S640x1_S640x640_0_1 (broadcastInDim S640x1 ![0] bcast_S640_S640x1_0 headNo))
    (broadcastInDim S640x640 ![0, 1] bcast_S1x640_S640x640_0_1 (broadcastInDim S1x640 ![1] bcast_S640_S1x640_1 headNo)))

/-- An entry of the scale's row. -/
theorem scaleRow_at (g : FVec Ideal S1024 .f32) (d : Fin 1024) : scaleRow g (ix2 0 d) = (g (ix1 d) : EReal) := by
  pointwise [scaleRow]

/-- An entry of the cast weights: a cast is the identity. -/
theorem weights_at (w : FVec Ideal S1024x1280 .f32) (d : Fin 1024) (f : Fin 1280) : weights w (ix2 d f) = (w (ix2 d f) : EReal) := by
  pointwise [weights]

/-- An entry of the heads' gains. -/
theorem gains_at (gq gk : FVec Ideal S64 .f32) (f : Fin 640) :
    gains gq gk (ix2 0 f) = (if f.val < 512 then gq (ix1 ⟨f.val % 64, by omega⟩) else gk (ix1 ⟨f.val % 64, by omega⟩) : EReal) := by
  unfold gains
  pointwise
  split
  · rfl
  · have hk' : ∀ (a : ℕ) (ha : a < 64), a = f.val % 64 → (gk (ix1 ⟨a, ha⟩) : EReal) = gk (ix1 ⟨f.val % 64, by omega⟩) := by
      rintro a ha rfl
      rfl
    exact hk' _ _ (by omega)

/-- An entry of the matrix that sums each head's lanes. -/
theorem onesMat_at (d f : Fin 640) : onesMat (ix2 d f) = (if d.val / 64 = f.val / 64 then 1 else 0 : EReal) := by
  have hd := headNo_at d
  have hf := headNo_at f
  unfold onesMat
  generalize headNo = h at hd hf ⊢
  pointwise
  rw [hd, hf]
  have hw : ∀ a b : Fin 10, IntOp.cmpi CmpIPredicate.eq (BitVec.ofNat 32 a.val) (BitVec.ofNat 32 b.val) = if a.val = b.val then 1#1 else 0#1 := by decide +kernel
  rw [hw ⟨d.val / 64, by omega⟩ ⟨f.val / 64, by omega⟩]
  split
  · simp [FloatOps.uitofp]
  · simp [FloatOps.uitofp]

end arrays

section table

variable {L C W : ℕ}

/-- A table's row written `C` times side by side, at one index. -/
theorem tile_at (hCW : C * W = 128) (h1 : (Mat L W).ShapeCasts ⟨4, ![1, L, 1, W]⟩)
    (hb : (⟨4, ![1, L, 1, W]⟩ : Shape).BroadcastsInDim ⟨4, ![1, L, C, W]⟩ (![0, 1, 2, 3] : Fin 4 → Fin 4)) (h2 : (⟨4, ![1, L, C, W]⟩ : Shape).ShapeCasts (Mat L 128))
    (t : FVec Ideal (Mat L W) .f32) (l : Fin L) (q : Fin 128) (k : Fin W) (hk : k.val = q.val % W) :
    shapeCast (Mat L 128) (broadcastInDim ⟨4, ![1, L, C, W]⟩ ![0, 1, 2, 3] hb (shapeCast ⟨4, ![1, L, 1, W]⟩ t h1)) h2 (ix2 l q) = (t (ix2 l k) : EReal) := by
  have hq : q.val / W < C := Nat.div_lt_of_lt_mul (by rw [Nat.mul_comm, hCW]; exact q.isLt)
  refine (shapeCast_apply _ h2 _ (ix4 0 l ⟨q.val / W, hq⟩ k) ?_).trans ((broadcastInDim_apply _ hb _ _ (ix4 0 l 0 k) fun a => ?_).trans
    (shapeCast_apply _ h1 _ (ix2 l k) ?_))
  · rw [Shape.rowMajor_val_two, Shape.rowMajor_val_four]
    show ((0 * L + l.val) * C + q.val / W) * W + k.val = l.val * 128 + q.val
    have e : l.val * 128 = l.val * (C * W) := by rw [hCW]
    rw [hk, e, Nat.zero_mul, Nat.zero_add, Nat.add_mul, Nat.mul_assoc, Nat.add_assoc, Nat.div_add_mod']
  · match a with
    | ⟨0, _⟩ => rfl
    | ⟨1, _⟩ => show l.val = if L = 1 then 0 else l.val; split <;> omega
    | ⟨2, _⟩ => rfl
    | ⟨3, _⟩ => show k.val = if W = 1 then 0 else k.val; split <;> omega
  · rw [Shape.rowMajor_val_two, Shape.rowMajor_val_four]
    show l.val * W + k.val = ((0 * L + l.val) * 1 + 0) * W + k.val
    rw [Nat.zero_mul, Nat.zero_add, Nat.mul_one, Nat.add_zero]

/-- The shapes of the tables of `L` rows fit together. -/
structure FitsTable (L : ℕ) : Prop where
  lift32 : (Mat L 32).ShapeCasts ⟨4, ![1, L, 1, 32]⟩
  four : (⟨4, ![1, L, 1, 32]⟩ : Shape).BroadcastsInDim ⟨4, ![1, L, 4, 32]⟩ (![0, 1, 2, 3] : Fin 4 → Fin 4)
  flat4 : (⟨4, ![1, L, 4, 32]⟩ : Shape).ShapeCasts (Mat L 128)
  both : Shape.Concatenates [Mat L 32, Mat L 32] (Mat L 64) 1
  lift64 : (Mat L 64).ShapeCasts ⟨4, ![1, L, 1, 64]⟩
  two : (⟨4, ![1, L, 1, 64]⟩ : Shape).BroadcastsInDim ⟨4, ![1, L, 2, 64]⟩ (![0, 1, 2, 3] : Fin 4 → Fin 4)
  flat2 : (⟨4, ![1, L, 2, 64]⟩ : Shape).ShapeCasts (Mat L 128)

/-- A table of cosines, repeated every 32 lanes. -/
def cosines (T : FitsTable L) (t : FVec Ideal (Mat L 32) .f32) : FVec Ideal (Mat L 128) .f32 :=
  shapeCast _ (broadcastInDim ⟨4, ![1, L, 4, 32]⟩ ![0, 1, 2, 3] T.four (shapeCast _ t T.lift32)) T.flat4

/-- A table of sines, repeated every 32 lanes, negative in the first half of each head. -/
def sines (T : FitsTable L) (t : FVec Ideal (Mat L 32) .f32) : FVec Ideal (Mat L 128) .f32 :=
  shapeCast _ (broadcastInDim ⟨4, ![1, L, 2, 64]⟩ ![0, 1, 2, 3] T.two
    (shapeCast _ (concatenate (Mat L 64) 1 [⟨Mat L 32, Host.negf t⟩, ⟨Mat L 32, t⟩] T.both) T.lift64)) T.flat2

/-- An entry of the repeated cosines. -/
theorem cosines_at (T : FitsTable L) (t : FVec Ideal (Mat L 32) .f32) (l : Fin L) (q : Fin 128) : cosines T t (ix2 l q) = (t (ix2 l ⟨q.val % 32, by omega⟩) : EReal) :=
  tile_at (show 4 * 32 = 128 from rfl) T.lift32 T.four T.flat4 t l q _ rfl

/-- An entry of the repeated sines. -/
theorem sines_at (T : FitsTable L) (t : FVec Ideal (Mat L 32) .f32) (l : Fin L) (q : Fin 128) :
    sines T t (ix2 l q) = (if q.val % 64 < 32 then - t (ix2 l ⟨q.val % 32, by omega⟩) else t (ix2 l ⟨q.val % 32, by omega⟩) : EReal) := by
  refine (tile_at (show 2 * 64 = 128 from rfl) T.lift64 T.two T.flat2 _ l q ⟨q.val % 64, by omega⟩ rfl).trans ?_
  by_cases h : q.val % 64 < 32
  · rw [if_pos h]
    refine (concatenate_pair_apply_left _ _ _ T.both _ rfl (ix2 l ⟨q.val % 32, by omega⟩) fun a => ?_).trans rfl
    match a with
    | ⟨0, _⟩ => rfl
    | ⟨1, _⟩ =>
      show q.val % 32 = q.val % 64
      omega
  · rw [if_neg h]
    refine concatenate_pair_apply_right _ _ _ T.both _ rfl rfl (ix2 l ⟨q.val % 32, by omega⟩) (fun a ha => ?_) ?_
    · match a with
      | ⟨0, _⟩ => rfl
      | ⟨1, _⟩ => exact absurd rfl ha
    · show q.val % 32 + 32 = q.val % 64
      omega

end table

end Cert.Proj

namespace Cert.Kernel4Ideal.Proj

open Cert.Kernel4Ideal Cert.Kernel4Ideal.Gen

open Cert.Proj

section entry

/-- The shapes of the prompt batch's tables fit. -/
theorem table : FitsTable 8192 :=
  ⟨shapeCasts_S8192x32_S1x8192x1x32, bcast_S1x8192x1x32_S1x8192x4x32_0_1_2_3, shapeCasts_S1x8192x4x32_S8192x128, concatenates_S8192x32_S8192x32_S8192x64_d1,
    shapeCasts_S8192x64_S1x8192x1x64, bcast_S1x8192x1x64_S1x8192x2x64_0_1_2_3, shapeCasts_S1x8192x2x64_S8192x128⟩

variable (m : (ℓ : Loc nD τ sig) → Buf (Elt Ideal) ℓ) (c : Dev nD)

/-- The array of the projection's scale. -/
theorem scale_entry (g : FVec Ideal S1024 .f32) (hg : g = m ((c : Thread nD τ).loc main_arg1)) : V m c main_v57 = scaleRow g := by
  subst hg
  unfold V scaleRow
  after_results_simp
  rfl

/-- The array of the projection's weights. -/
theorem weight_entry (w : FVec Ideal S1024x1280 .f32) (hw : w = m ((c : Thread nD τ).loc main_arg2)) : V m c main_v58 = weights w := by
  subst hw
  rfl

/-- The array of the heads' gains. -/
theorem gain_entry (gq gk : FVec Ideal S64 .f32) (hq : gq = m ((c : Thread nD τ).loc main_arg3)) (hk : gk = m ((c : Thread nD τ).loc main_arg4)) :
    V m c main_v56 = gains gq gk := by
  subst hq hk
  unfold V gains
  after_results_simp
  rfl

/-- The array of the cosines. -/
theorem cos_entry : V m c main_v35 = cosines table (Host.cos (refAngle promptAngle)) := by
  unfold V cosines
  after_results_simp
  rfl

/-- The array of the signed sines. -/
theorem sin_entry : V m c main_v40 = sines table (Host.sin (refAngle promptAngle)) := by
  unfold V sines
  after_results_simp
  rfl

/-- The array of the matrix that sums each head's lanes. -/
theorem ones_entry : V m c main_v48 = onesMat := by
  unfold V onesMat
  after_results_simp
  rfl

end entry

end Cert.Kernel4Ideal.Proj

end
-- ==== Proof.ProjFinal.lean ====
module

public import proofs.«01_k».proof.Proof.Gen.Kernel4Ideal.Value
public import proofs.«01_k».proof.Defs
public import proofs.«01_k».proof.Proof.ProjStep
public import proofs.«01_k».proof.Proof.ProjEntry
public import proofs.«01_k».proof.Proof.Gen.Pre_finite4
public import proofs.«01_k».proof.Proof.AttnRef
public import proofs.«01_k».proof.Proof.Gen.Reference4Ideal.Run
public import Idealize.ShloMosaic.Lib.StableHlo.Run
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen

open Cert.Proj

/-- The precondition on the normalisation's scale and the projection's weights says that they are real numbers. -/
theorem finite_gw (x : FVec Ideal S8x8192x1024 .f32) (g : FVec Ideal S1024 .f32) (w : FVec Ideal S1024x1280 .f32) (gq gk : FVec Ideal S64 .f32)
    (hg : (Cert.Pre_finite4.fn (F := Ideal) x g w gq gk).2.1 = (fun _ => 1#1)) (hw : (Cert.Pre_finite4.fn (F := Ideal) x g w gq gk).2.2 = (fun _ => 1#1)) :
    (∀ d, IsReal (g (ix1 d))) ∧ (∀ d f, IsReal (w (ix2 d f))) := by
  refine ⟨fun d => ?_, fun d f => ?_⟩
  · have h1 := congrFun hg (ix1 d)
    unfold Cert.Pre_finite4.fn at h1
    pointwise at h1
    exact Cert.Attn.abs_lt_top _ h1
  · have h1 := congrFun hw (ix2 d f)
    unfold Cert.Pre_finite4.fn at h1
    pointwise at h1
    exact Cert.Attn.abs_lt_top _ h1

/-- The precondition says that the tokens, the normalisation's scale and the projection's weights are real numbers. -/
theorem finite_real4 (x : FVec Ideal S8x8192x1024 .f32) (g : FVec Ideal S1024 .f32) (w : FVec Ideal S1024x1280 .f32) (gq gk : FVec Ideal S64 .f32)
    (h : (Cert.Pre_finite4.fn (F := Ideal) x g w gq gk).1 = (fun _ => 1#1) ∧ (Cert.Pre_finite4.fn (F := Ideal) x g w gq gk).2.1 = (fun _ => 1#1)
      ∧ (Cert.Pre_finite4.fn (F := Ideal) x g w gq gk).2.2 = (fun _ => 1#1)) :
    (∀ b l d, IsReal (x (ix3 b l d))) ∧ (∀ d, IsReal (g (ix1 d))) ∧ (∀ d f, IsReal (w (ix2 d f))) := by
  refine ⟨fun b l d => ?_, finite_gw x g w gq gk h.2.1 h.2.2⟩
  have h1 := congrFun h.1 (ix3 b l d)
  unfold Cert.Pre_finite4.fn at h1
  pointwise at h1
  exact Cert.Attn.abs_lt_top _ h1

section final

variable (m : (ℓ : Loc nD τ sig) → Buf (Elt Ideal) ℓ)

/-- Which block of each array a grid point reads or writes. -/
theorem idx : ∀ t : Fin cfg0.N, win0_0.index t = ![t.val / 16, t.val % 16, 0] ∧ win0_1.index t = ![0, 0] ∧ win0_2.index t = ![0, 0]
    ∧ win0_3.index t = ![0, 0] ∧ win0_4.index t = ![0, 0] ∧ win0_5.index t = ![t.val % 16, 0] ∧ win0_6.index t = ![t.val % 16, 0]
    ∧ win0_7.index t = ![t.val / 16, t.val % 16, 0] ∧ win0_8.index t = ![t.val / 16, t.val % 16, 0] ∧ win0_9.index t = ![t.val / 16, t.val % 16, 0]
    ∧ win0_10.index t = ![t.val / 16, 0, t.val % 16] ∧ t.val / 16 < 8 :=
  (by decide +kernel : ∀ t : Fin grid0.N, _)

/-- A grid point's block of the tokens. -/
theorem blk0 (c : Dev nD) (t : Fin cfg0.N) (p : Fin 512) (d : Fin 1024) : iblk m c 0 t (ix3 0 p d) = V m c main_arg0 (ix3 ⟨t.val / 16, (idx t).2.2.2.2.2.2.2.2.2.2.2⟩ ⟨t.val % 16 * 512 + p.val, by omega⟩ d) := by
  obtain ⟨i0, i1, i2, i3, i4, i5, i6, _⟩ := idx t
  blk_ext [iblk, i0]

/-- A grid point's block of the scale. -/
theorem blk1 (c : Dev nD) (t : Fin cfg0.N) (d : Fin 1024) : iblk m c 1 t (ix2 0 d) = V m c main_v57 (ix2 0 d) := by
  obtain ⟨i0, i1, i2, i3, i4, i5, i6, _⟩ := idx t
  blk_ext [iblk, i1]

/-- A grid point's block of the weights. -/
theorem blk2 (c : Dev nD) (t : Fin cfg0.N) (d : Fin 1024) (f : Fin 1280) : iblk m c 2 t (ix2 d f) = V m c main_v58 (ix2 d f) := by
  obtain ⟨i0, i1, i2, i3, i4, i5, i6, _⟩ := idx t
  blk_ext [iblk, i2]

/-- A grid point's block of the matrix of the heads' lanes. -/
theorem blk3 (c : Dev nD) (t : Fin cfg0.N) (d f : Fin 640) : iblk m c 3 t (ix2 d f) = V m c main_v48 (ix2 d f) := by
  obtain ⟨i0, i1, i2, i3, i4, i5, i6, _⟩ := idx t
  blk_ext [iblk, i3]

/-- A grid point's block of the heads' gains. -/
theorem blk4 (c : Dev nD) (t : Fin cfg0.N) (f : Fin 640) : iblk m c 4 t (ix2 0 f) = V m c main_v56 (ix2 0 f) := by
  obtain ⟨i0, i1, i2, i3, i4, i5, i6, _⟩ := idx t
  blk_ext [iblk, i4]

/-- A grid point's block of the cosines. -/
theorem blk5 (c : Dev nD) (t : Fin cfg0.N) (p : Fin 512) (q : Fin 128) : iblk m c 5 t (ix2 p q) = V m c main_v35 (ix2 ⟨t.val % 16 * 512 + p.val, by omega⟩ q) := by
  obtain ⟨i0, i1, i2, i3, i4, i5, i6, _⟩ := idx t
  blk_ext [iblk, i5]

/-- A grid point's block of the signed sines. -/
theorem blk6 (c : Dev nD) (t : Fin cfg0.N) (p : Fin 512) (q : Fin 128) : iblk m c 6 t (ix2 p q) = V m c main_v40 (ix2 ⟨t.val % 16 * 512 + p.val, by omega⟩ q) := by
  obtain ⟨i0, i1, i2, i3, i4, i5, i6, _⟩ := idx t
  blk_ext [iblk, i6]

section args

variable (c : Dev nD) (x : FVec Ideal S8x8192x1024 .f32) (g : FVec Ideal S1024 .f32) (w : FVec Ideal S1024x1280 .f32) (gq gk : FVec Ideal S64 .f32)
  (hx : ∀ b l d, IsReal (x (ix3 b l d))) (hg : ∀ d, IsReal (g (ix1 d))) (hw : ∀ d f, IsReal (w (ix2 d f)))
  (e0 : x = m ((c : Thread nD τ).loc main_arg0)) (e1 : g = m ((c : Thread nD τ).loc main_arg1)) (e2 : w = m ((c : Thread nD τ).loc main_arg2))
  (e3 : gq = m ((c : Thread nD τ).loc main_arg3)) (e4 : gk = m ((c : Thread nD τ).loc main_arg4))

include hx hg hw e0 e1 e2 e3 e4

/-- A grid point's blocks are cut from the arguments and the tables. -/
theorem cut (t : Fin cfg0.N) : Cut (Host.cos (refAngle promptAngle)) (Host.sin (refAngle promptAngle)) x g w gq gk ⟨t.val / 16, (idx t).2.2.2.2.2.2.2.2.2.2.2⟩ (t.val % 16) (iblk m c 0 t) (iblk m c 1 t) (iblk m c 2 t)
    (iblk m c 3 t) (iblk m c 4 t) (iblk m c 5 t) (iblk m c 6 t) :=
  ⟨(by have := Nat.mod_lt t.val (show 0 < 16 by decide); omega), fun p d => (blk0 m c t p d).trans (by rw [e0, ← V_main_arg0 m c]), fun d => (blk1 m c t d).trans ((congrFun (scale_entry m c g e1) _).trans (scaleRow_at g d)),
    fun d f => (blk2 m c t d f).trans ((congrFun (weight_entry m c w e2) _).trans (weights_at w d f)), fun d f => (blk3 m c t d f).trans ((congrFun (ones_entry m c) _).trans (onesMat_at d f)),
    fun f => (blk4 m c t f).trans ((congrFun (gain_entry m c gq gk e3 e4) _).trans (gains_at gq gk f)), fun p q => (blk5 m c t p q).trans ((congrFun (cos_entry m c) _).trans (cosines_at table _ _ q)),
    fun p q => (blk6 m c t p q).trans ((congrFun (sin_entry m c) _).trans (sines_at table _ _ q)), hx, hg, hw⟩

/-- The kernel's array of the recurrence's input is the reference's. -/
theorem final_u : (dats m 0 c).arrAt 7 (cfgs 0).N = refOutU prompt (refDot prompt (refTok prompt x g) w) := by
  refine (dats m 0 c).arrAt_eq_of_covers 7 _ (by decide +kernel) fun t hf y' => ?_
  blk_simp; rw [after0_7]
  have C := cut m c x g w gq gk hx hg hw e0 e1 e2 e3 e4 t
  obtain ⟨i0, i1, i2, i3, i4, i5, i6, i7, i8, i9, i10, i11⟩ := idx t
  have e := out_u_ref prompt C (y' 1) (y' 2)
  refine Eq.trans (congrArg (out0_7 (iblk m c 0 t) (iblk m c 1 t) (iblk m c 2 t) (iblk m c 3 t) (iblk m c 4 t) (iblk m c 5 t) (iblk m c 6 t)) ?_)
    (e.trans (congrArg (refOutU prompt (refDot prompt (refTok prompt x g) w)) ?_))
  · blk_ext
  · blk_ext [i7]

/-- The kernel's array of the queries is the reference's. -/
theorem final_q : (dats m 0 c).arrAt 8 (cfgs 0).N = refOutQ prompt (refDot prompt (refTok prompt x g) w) gq (Host.cos (refAngle promptAngle)) (Host.sin (refAngle promptAngle)) := by
  refine (dats m 0 c).arrAt_eq_of_covers 8 _ (by decide +kernel) fun t hf y' => ?_
  blk_simp; rw [after0_8]
  have C := cut m c x g w gq gk hx hg hw e0 e1 e2 e3 e4 t
  obtain ⟨i0, i1, i2, i3, i4, i5, i6, i7, i8, i9, i10, i11⟩ := idx t
  have e := out_q_ref prompt C (y' 1) (y' 2)
  refine Eq.trans (congrArg (out0_8 (iblk m c 0 t) (iblk m c 1 t) (iblk m c 2 t) (iblk m c 3 t) (iblk m c 4 t) (iblk m c 5 t) (iblk m c 6 t)) ?_)
    (e.trans (congrArg (refOutQ prompt (refDot prompt (refTok prompt x g) w) gq (Host.cos (refAngle promptAngle)) (Host.sin (refAngle promptAngle))) ?_))
  · blk_ext
  · blk_ext [i8]

/-- The kernel's array of the keys is the reference's. -/
theorem final_k : (dats m 0 c).arrAt 9 (cfgs 0).N = refOutK prompt (refDot prompt (refTok prompt x g) w) gk (Host.cos (refAngle promptAngle)) (Host.sin (refAngle promptAngle)) := by
  refine (dats m 0 c).arrAt_eq_of_covers 9 _ (by decide +kernel) fun t hf y' => ?_
  blk_simp; rw [after0_9]
  have C := cut m c x g w gq gk hx hg hw e0 e1 e2 e3 e4 t
  obtain ⟨i0, i1, i2, i3, i4, i5, i6, i7, i8, i9, i10, i11⟩ := idx t
  have e := out_k_ref prompt C (y' 1) (y' 2)
  refine Eq.trans (congrArg (out0_9 (iblk m c 0 t) (iblk m c 1 t) (iblk m c 2 t) (iblk m c 3 t) (iblk m c 4 t) (iblk m c 5 t) (iblk m c 6 t)) ?_)
    (e.trans (congrArg (refOutK prompt (refDot prompt (refTok prompt x g) w) gk (Host.cos (refAngle promptAngle)) (Host.sin (refAngle promptAngle))) ?_))
  · blk_ext
  · blk_ext [i9]

/-- The kernel's array of the values is the reference's. -/
theorem final_v : (dats m 0 c).arrAt 10 (cfgs 0).N = refOutV prompt (refDot prompt (refTok prompt x g) w) := by
  refine (dats m 0 c).arrAt_eq_of_covers 10 _ (by decide +kernel) fun t hf y' => ?_
  blk_simp; rw [after0_10]
  have C := cut m c x g w gq gk hx hg hw e0 e1 e2 e3 e4 t
  obtain ⟨i0, i1, i2, i3, i4, i5, i6, i7, i8, i9, i10, i11⟩ := idx t
  have e := out_v_ref prompt C (y' 1) (y' 2)
  refine Eq.trans (congrArg (out0_10 (iblk m c 0 t) (iblk m c 1 t) (iblk m c 2 t) (iblk m c 3 t) (iblk m c 4 t) (iblk m c 5 t) (iblk m c 6 t)) ?_)
    (e.trans (congrArg (refOutV prompt (refDot prompt (refTok prompt x g) w)) ?_))
  · blk_ext
  · blk_ext [i10]

end args

end final

end Cert.Kernel4Ideal.Proj

end
-- ==== Proof.ProjSample.lean ====
module

public import proofs.«01_k».proof.Proof.Gen.Kernel8Ideal.Value
public import proofs.«01_k».proof.Defs
public import proofs.«01_k».proof.Proof.ProjFinal
public import proofs.«01_k».proof.Proof.ProjEntry
public import proofs.«01_k».proof.Proof.Gen.Pre_finite8
public import proofs.«01_k».proof.Proof.AttnRef
public import proofs.«01_k».proof.Proof.Gen.Reference8Ideal.Run
public import Idealize.ShloMosaic.Lib.StableHlo.Run
public import Idealize.ShloMosaic.Lib.Pipeline.ValueKit
public import Idealize.ShloMosaic.Lib.Pointwise
public import Idealize.ShloMosaic.Lib.WritesUnit

@[expose] public section

set_option maxRecDepth 16384

/-! The input projection at the shapes of the sample batch: its grid points compute what the prompt batch's compute. -/

noncomputable section

open Idealize.ShloMosaic Idealize.ShloMosaic.TcCoe Idealize.SL.Sem
open Idealize.ShloMosaic.Pipeline (Dat)

namespace Cert.Kernel8Ideal.Proj

open Cert.Kernel8Ideal Cert.Kernel8Ideal.Gen

open Cert.Proj

open Cert.Kernel4Ideal.Proj (IsReal Cut out_u_ref out_q_ref out_k_ref out_v_ref)

section entry

/-- The shapes of the sample batch's tables fit. -/
theorem table : FitsTable 16384 :=
  ⟨shapeCasts_S16384x32_S1x16384x1x32, bcast_S1x16384x1x32_S1x16384x4x32_0_1_2_3, shapeCasts_S1x16384x4x32_S16384x128, concatenates_S16384x32_S16384x32_S16384x64_d1,
    shapeCasts_S16384x64_S1x16384x1x64, bcast_S1x16384x1x64_S1x16384x2x64_0_1_2_3, shapeCasts_S1x16384x2x64_S16384x128⟩

variable (m : (ℓ : Loc nD τ sig) → Buf (Elt Ideal) ℓ) (c : Dev nD)

/-- The array of the projection's scale. -/
theorem scale_entry (g : FVec Ideal S1024 .f32) (hg : g = m ((c : Thread nD τ).loc main_arg1)) : V m c main_v57 = scaleRow g := by
  subst hg
  unfold V scaleRow
  after_results_simp
  rfl

/-- The array of the projection's weights. -/
theorem weight_entry (w : FVec Ideal S1024x1280 .f32) (hw : w = m ((c : Thread nD τ).loc main_arg2)) : V m c main_v58 = weights w := by
  subst hw
  rfl

/-- The array of the heads' gains. -/
theorem gain_entry (gq gk : FVec Ideal S64 .f32) (hq : gq = m ((c : Thread nD τ).loc main_arg3)) (hk : gk = m ((c : Thread nD τ).loc main_arg4)) :
    V m c main_v56 = gains gq gk := by
  subst hq hk
  unfold V gains
  after_results_simp
  rfl

/-- The array of the cosines. -/
theorem cos_entry : V m c main_v35 = cosines table (Host.cos (refAngle sampleAngle)) := by
  unfold V cosines
  after_results_simp
  rfl

/-- The array of the signed sines. -/
theorem sin_entry : V m c main_v40 = sines table (Host.sin (refAngle sampleAngle)) := by
  unfold V sines
  after_results_simp
  rfl

/-- The array of the matrix that sums each head's lanes. -/
theorem ones_entry : V m c main_v48 = onesMat := by
  unfold V onesMat
  after_results_simp
  rfl

end entry

/-- The precondition says that the tokens, the normalisation's scale and the projection's weights are real numbers. -/
theorem finite_real8 (x : FVec Ideal S1x16384x1024 .f32) (g : FVec Ideal S1024 .f32) (w : FVec Ideal S1024x1280 .f32) (gq gk : FVec Ideal S64 .f32)
    (h : (Cert.Pre_finite8.fn (F := Ideal) x g w gq gk).1 = (fun _ => 1#1) ∧ (Cert.Pre_finite8.fn (F := Ideal) x g w gq gk).2.1 = (fun _ => 1#1)
      ∧ (Cert.Pre_finite8.fn (F := Ideal) x g w gq gk).2.2 = (fun _ => 1#1)) :
    (∀ b l d, IsReal (x (ix3 b l d))) ∧ (∀ d, IsReal (g (ix1 d))) ∧ (∀ d f, IsReal (w (ix2 d f))) := by
  refine ⟨fun b l d => ?_, Cert.Kernel4Ideal.Proj.finite_gw (fun _ => (0 : EReal)) g w gq gk h.2.1 h.2.2⟩
  have h1 := congrFun h.1 (ix3 b l d)
  unfold Cert.Pre_finite8.fn at h1
  pointwise at h1
  exact Cert.Attn.abs_lt_top _ h1

section final

variable (m : (ℓ : Loc nD τ sig) → Buf (Elt Ideal) ℓ)

/-- Which block of each array a grid point reads or writes. -/
theorem idx : ∀ t : Fin cfg0.N, win0_0.index t = ![t.val / 32, t.val % 32, 0] ∧ win0_1.index t = ![0, 0] ∧ win0_2.index t = ![0, 0]
    ∧ win0_3.index t = ![0, 0] ∧ win0_4.index t = ![0, 0] ∧ win0_5.index t = ![t.val % 32, 0] ∧ win0_6.index t = ![t.val % 32, 0]
    ∧ win0_7.index t = ![t.val / 32, t.val % 32, 0] ∧ win0_8.index t = ![t.val / 32, t.val % 32, 0] ∧ win0_9.index t = ![t.val / 32, t.val % 32, 0]
    ∧ win0_10.index t = ![t.val / 32, 0, t.val % 32] ∧ t.val / 32 < 1 :=
  (by decide +kernel : ∀ t : Fin grid0.N, _)

/-- A grid point's block of the tokens. -/
theorem blk0 (c : Dev nD) (t : Fin cfg0.N) (p : Fin 512) (d : Fin 1024) : iblk m c 0 t (ix3 0 p d) = V m c main_arg0 (ix3 ⟨t.val / 32, (idx t).2.2.2.2.2.2.2.2.2.2.2⟩ ⟨t.val % 32 * 512 + p.val, by omega⟩ d) := by
  obtain ⟨i0, i1, i2, i3, i4, i5, i6, _⟩ := idx t
  blk_ext [iblk, i0]

/-- A grid point's block of the scale. -/
theorem blk1 (c : Dev nD) (t : Fin cfg0.N) (d : Fin 1024) : iblk m c 1 t (ix2 0 d) = V m c main_v57 (ix2 0 d) := by
  obtain ⟨i0, i1, i2, i3, i4, i5, i6, _⟩ := idx t
  blk_ext [iblk, i1]

/-- A grid point's block of the weights. -/
theorem blk2 (c : Dev nD) (t : Fin cfg0.N) (d : Fin 1024) (f : Fin 1280) : iblk m c 2 t (ix2 d f) = V m c main_v58 (ix2 d f) := by
  obtain ⟨i0, i1, i2, i3, i4, i5, i6, _⟩ := idx t
  blk_ext [iblk, i2]

/-- A grid point's block of the matrix of the heads' lanes. -/
theorem blk3 (c : Dev nD) (t : Fin cfg0.N) (d f : Fin 640) : iblk m c 3 t (ix2 d f) = V m c main_v48 (ix2 d f) := by
  obtain ⟨i0, i1, i2, i3, i4, i5, i6, _⟩ := idx t
  blk_ext [iblk, i3]

/-- A grid point's block of the heads' gains. -/
theorem blk4 (c : Dev nD) (t : Fin cfg0.N) (f : Fin 640) : iblk m c 4 t (ix2 0 f) = V m c main_v56 (ix2 0 f) := by
  obtain ⟨i0, i1, i2, i3, i4, i5, i6, _⟩ := idx t
  blk_ext [iblk, i4]

/-- A grid point's block of the cosines. -/
theorem blk5 (c : Dev nD) (t : Fin cfg0.N) (p : Fin 512) (q : Fin 128) : iblk m c 5 t (ix2 p q) = V m c main_v35 (ix2 ⟨t.val % 32 * 512 + p.val, by omega⟩ q) := by
  obtain ⟨i0, i1, i2, i3, i4, i5, i6, _⟩ := idx t
  blk_ext [iblk, i5]

/-- A grid point's block of the signed sines. -/
theorem blk6 (c : Dev nD) (t : Fin cfg0.N) (p : Fin 512) (q : Fin 128) : iblk m c 6 t (ix2 p q) = V m c main_v40 (ix2 ⟨t.val % 32 * 512 + p.val, by omega⟩ q) := by
  obtain ⟨i0, i1, i2, i3, i4, i5, i6, _⟩ := idx t
  blk_ext [iblk, i6]

section args

variable (c : Dev nD) (x : FVec Ideal S1x16384x1024 .f32) (g : FVec Ideal S1024 .f32) (w : FVec Ideal S1024x1280 .f32) (gq gk : FVec Ideal S64 .f32)
  (hx : ∀ b l d, IsReal (x (ix3 b l d))) (hg : ∀ d, IsReal (g (ix1 d))) (hw : ∀ d f, IsReal (w (ix2 d f)))
  (e0 : x = m ((c : Thread nD τ).loc main_arg0)) (e1 : g = m ((c : Thread nD τ).loc main_arg1)) (e2 : w = m ((c : Thread nD τ).loc main_arg2))
  (e3 : gq = m ((c : Thread nD τ).loc main_arg3)) (e4 : gk = m ((c : Thread nD τ).loc main_arg4))

include hx hg hw e0 e1 e2 e3 e4

/-- A grid point's blocks are cut from the arguments and the tables. -/
theorem cut (t : Fin cfg0.N) : Cut (Host.cos (refAngle sampleAngle)) (Host.sin (refAngle sampleAngle)) x g w gq gk ⟨t.val / 32, (idx t).2.2.2.2.2.2.2.2.2.2.2⟩ (t.val % 32) (iblk m c 0 t) (iblk m c 1 t) (iblk m c 2 t)
    (iblk m c 3 t) (iblk m c 4 t) (iblk m c 5 t) (iblk m c 6 t) :=
  ⟨(by have := Nat.mod_lt t.val (show 0 < 32 by decide); omega), fun p d => (blk0 m c t p d).trans (by rw [e0, ← V_main_arg0 m c]), fun d => (blk1 m c t d).trans ((congrFun (scale_entry m c g e1) _).trans (scaleRow_at g d)),
    fun d f => (blk2 m c t d f).trans ((congrFun (weight_entry m c w e2) _).trans (weights_at w d f)), fun d f => (blk3 m c t d f).trans ((congrFun (ones_entry m c) _).trans (onesMat_at d f)),
    fun f => (blk4 m c t f).trans ((congrFun (gain_entry m c gq gk e3 e4) _).trans (gains_at gq gk f)), fun p q => (blk5 m c t p q).trans ((congrFun (cos_entry m c) _).trans (cosines_at table _ _ q)),
    fun p q => (blk6 m c t p q).trans ((congrFun (sin_entry m c) _).trans (sines_at table _ _ q)), hx, hg, hw⟩

/-- The kernel's array of the recurrence's input is the reference's. -/
theorem final_u : (dats m 0 c).arrAt 7 (cfgs 0).N = refOutU sample (refDot sample (refTok sample x g) w) := by
  refine (dats m 0 c).arrAt_eq_of_covers 7 _ (by decide +kernel) fun t hf y' => ?_
  blk_simp; rw [after0_7]
  have C := cut m c x g w gq gk hx hg hw e0 e1 e2 e3 e4 t
  obtain ⟨i0, i1, i2, i3, i4, i5, i6, i7, i8, i9, i10, i11⟩ := idx t
  have e := out_u_ref sample C (y' 1) (y' 2)
  refine Eq.trans (congrArg (out0_7 (iblk m c 0 t) (iblk m c 1 t) (iblk m c 2 t) (iblk m c 3 t) (iblk m c 4 t) (iblk m c 5 t) (iblk m c 6 t)) ?_)
    (e.trans (congrArg (refOutU sample (refDot sample (refTok sample x g) w)) ?_))
  · blk_ext
  · blk_ext [i7]

/-- The kernel's array of the queries is the reference's. -/
theorem final_q : (dats m 0 c).arrAt 8 (cfgs 0).N = refOutQ sample (refDot sample (refTok sample x g) w) gq (Host.cos (refAngle sampleAngle)) (Host.sin (refAngle sampleAngle)) := by
  refine (dats m 0 c).arrAt_eq_of_covers 8 _ (by decide +kernel) fun t hf y' => ?_
  blk_simp; rw [after0_8]
  have C := cut m c x g w gq gk hx hg hw e0 e1 e2 e3 e4 t
  obtain ⟨i0, i1, i2, i3, i4, i5, i6, i7, i8, i9, i10, i11⟩ := idx t
  have e := out_q_ref sample C (y' 1) (y' 2)
  refine Eq.trans (congrArg (out0_8 (iblk m c 0 t) (iblk m c 1 t) (iblk m c 2 t) (iblk m c 3 t) (iblk m c 4 t) (iblk m c 5 t) (iblk m c 6 t)) ?_)
    (e.trans (congrArg (refOutQ sample (refDot sample (refTok sample x g) w) gq (Host.cos (refAngle sampleAngle)) (Host.sin (refAngle sampleAngle))) ?_))
  · blk_ext
  · blk_ext [i8]

/-- The kernel's array of the keys is the reference's. -/
theorem final_k : (dats m 0 c).arrAt 9 (cfgs 0).N = refOutK sample (refDot sample (refTok sample x g) w) gk (Host.cos (refAngle sampleAngle)) (Host.sin (refAngle sampleAngle)) := by
  refine (dats m 0 c).arrAt_eq_of_covers 9 _ (by decide +kernel) fun t hf y' => ?_
  blk_simp; rw [after0_9]
  have C := cut m c x g w gq gk hx hg hw e0 e1 e2 e3 e4 t
  obtain ⟨i0, i1, i2, i3, i4, i5, i6, i7, i8, i9, i10, i11⟩ := idx t
  have e := out_k_ref sample C (y' 1) (y' 2)
  refine Eq.trans (congrArg (out0_9 (iblk m c 0 t) (iblk m c 1 t) (iblk m c 2 t) (iblk m c 3 t) (iblk m c 4 t) (iblk m c 5 t) (iblk m c 6 t)) ?_)
    (e.trans (congrArg (refOutK sample (refDot sample (refTok sample x g) w) gk (Host.cos (refAngle sampleAngle)) (Host.sin (refAngle sampleAngle))) ?_))
  · blk_ext
  · blk_ext [i9]

/-- The kernel's array of the values is the reference's. -/
theorem final_v : (dats m 0 c).arrAt 10 (cfgs 0).N = refOutV sample (refDot sample (refTok sample x g) w) := by
  refine (dats m 0 c).arrAt_eq_of_covers 10 _ (by decide +kernel) fun t hf y' => ?_
  blk_simp; rw [after0_10]
  have C := cut m c x g w gq gk hx hg hw e0 e1 e2 e3 e4 t
  obtain ⟨i0, i1, i2, i3, i4, i5, i6, i7, i8, i9, i10, i11⟩ := idx t
  have e := out_v_ref sample C (y' 1) (y' 2)
  refine Eq.trans (congrArg (out0_10 (iblk m c 0 t) (iblk m c 1 t) (iblk m c 2 t) (iblk m c 3 t) (iblk m c 4 t) (iblk m c 5 t) (iblk m c 6 t)) ?_)
    (e.trans (congrArg (refOutV sample (refDot sample (refTok sample x g) w)) ?_))
  · blk_ext
  · blk_ext [i10]

end args

end final

end Cert.Kernel8Ideal.Proj

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Pre_finite
public import proofs.«01_k».proof.Proof.Gen.Pre_finite4
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite8
public import proofs.«01_k».proof.Proof.AttnValue
public import proofs.«01_k».proof.Proof.AttnSample
public import proofs.«01_k».proof.Proof.FfnValue
public import proofs.«01_k».proof.Proof.FfnSample
public import proofs.«01_k».proof.Proof.MixValue
public import proofs.«01_k».proof.Proof.MixSample
public import proofs.«01_k».proof.Proof.ProjFinal
public import proofs.«01_k».proof.Proof.ProjSample
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The attention's reference runs and leaves its arguments alone. -/
theorem ref1_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The feed-forward's reference runs and leaves its arguments alone. -/
theorem ref2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The output mixing's reference runs and leaves its arguments alone. -/
theorem ref3_frame : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- The input projection's reference runs and leaves its arguments alone. -/
theorem ref4_frame : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run m ρ)

/-- The reference of the sample batch's feed-forward runs and leaves its arguments alone. -/
theorem ref5_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The reference of the sample batch's output mixing runs and leaves its arguments alone. -/
theorem ref6_frame : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

/-- The reference of the sample batch's attention runs and leaves its arguments alone. -/
theorem ref7_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- The input projection's reference runs and leaves its arguments alone. -/
theorem ref8_frame : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run m ρ)

/-- The attention computes the reference's softmax-weighted sums whenever the queries and keys are real numbers. -/
theorem attention : Cert.algebraic_KernelIdeal_ReferenceIdeal_pre_finite := by
  intro m g m' g' hpre hagree
  refine ⟨fun c => Cert.Attn.ref Cert.Attn.prompt (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ⟨(h c).1.trans ?_, (h c).2⟩) (Cert.KernelIdeal.Value.run_blocks m g)
    obtain ⟨hq, hk⟩ := Cert.KernelIdeal.Attn.finite_real _ _ _ (hpre c)
    exact Cert.KernelIdeal.Attn.final m c _ _ _ hq hk rfl rfl rfl
  · refine (θ_run _ _ _).mono (fun r h c => ⟨(h c).1.trans ?_, (h c).2⟩) (Cert.ReferenceIdeal.Value.run m' g')
    rw [(hagree c).1, (hagree c).2.1, (hagree c).2.2]
    rfl

/-- The attention of the sample batch computes the reference's softmax-weighted sums whenever the queries and keys are real numbers. -/
theorem attn_sample : Cert.algebraic_Kernel7Ideal_Reference7Ideal_pre_finite7 := by
  intro m g m' g' hpre hagree
  refine ⟨fun c => Cert.Attn.ref Cert.Attn.sample (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2)), ?_, ?_⟩
  · refine (θ_run _ _ _).mono (fun r h c => ⟨(h c).1.trans ?_, (h c).2⟩) (Cert.Kernel7Ideal.Value.run_blocks m g)
    obtain ⟨hq, hk⟩ := Cert.Kernel7Ideal.Attn.finite_real _ _ _ (hpre c)
    exact Cert.Kernel7Ideal.Attn.final m c _ _ _ hq hk rfl rfl rfl
  · refine (θ_run _ _ _).mono (fun r h c => ⟨(h c).1.trans ?_, (h c).2⟩) (Cert.Reference7Ideal.Value.run m' g')
    rw [(hagree c).1, (hagree c).2.1, (hagree c).2.2]
    rfl

/-- The feed-forward of the prompt batch computes the reference's normalised sum of the residual stream and the gated convolution's product. -/
theorem ffn : Cert.algebraic_Kernel2Ideal_Reference2Ideal := by
  intro m g m' g' _ hagree
  refine ⟨fun c => Cert.Ffn.ref Cert.Ffn.prompt (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5))
    (m ((c.tc : Thread Cert.Kernel2Ideal.nD Cert.Kernel2Ideal.τ).loc Cert.Kernel2Ideal.main_arg6))
    (m ((c.tc : Thread Cert.Kernel2Ideal.nD Cert.Kernel2Ideal.τ).loc Cert.Kernel2Ideal.main_arg7)), ?_, ?_⟩
  · refine (θ_run _ _ _).mono (fun r h c => ⟨(h c).1.trans ?_, (h c).2⟩) (Cert.Kernel2Ideal.Value.run_blocks m g)
    exact Cert.Kernel2Ideal.Ffn.final m c _ _ _ _ _ _ _ _ rfl rfl rfl rfl rfl rfl rfl rfl
  · refine (θ_run _ _ _).mono (fun r h c => ⟨(h c).1.trans ?_, (h c).2⟩) (Cert.Reference2Ideal.Value.run m' g')
    obtain ⟨a0, a1, a2, a3, a4, a5, a6, a7⟩ := hagree c
    refine (Cert.Ffn.prompt_eq m' c).trans ?_
    rw [a0, a1, a2, a3, a4, a5, a6, a7]

/-- The feed-forward of the sample batch computes the reference's normalised sum of the residual stream and the gated convolution's product. -/
theorem ffn_sample : Cert.algebraic_Kernel5Ideal_Reference5Ideal := by
  intro m g m' g' _ hagree
  refine ⟨fun c => Cert.Ffn.ref Cert.Ffn.sample (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3))
    (m ((c.tc : Thread Cert.Kernel5Ideal.nD Cert.Kernel5Ideal.τ).loc Cert.Kernel5Ideal.main_arg4))
    (m ((c.tc : Thread Cert.Kernel5Ideal.nD Cert.Kernel5Ideal.τ).loc Cert.Kernel5Ideal.main_arg5))
    (m ((c.tc : Thread Cert.Kernel5Ideal.nD Cert.Kernel5Ideal.τ).loc Cert.Kernel5Ideal.main_arg6))
    (m ((c.tc : Thread Cert.Kernel5Ideal.nD Cert.Kernel5Ideal.τ).loc Cert.Kernel5Ideal.main_arg7)), ?_, ?_⟩
  · refine (θ_run _ _ _).mono (fun r h c => ⟨(h c).1.trans ?_, (h c).2⟩) (Cert.Kernel5Ideal.Value.run_blocks m g)
    exact Cert.Kernel5Ideal.Ffn.final m c _ _ _ _ _ _ _ _ rfl rfl rfl rfl rfl rfl rfl rfl
  · refine (θ_run _ _ _).mono (fun r h c => ⟨(h c).1.trans ?_, (h c).2⟩) (Cert.Reference5Ideal.Value.run m' g')
    obtain ⟨a0, a1, a2, a3, a4, a5, a6, a7⟩ := hagree c
    refine (Cert.Ffn.sample_eq m' c).trans ?_
    rw [a0, a1, a2, a3, a4, a5, a6, a7]

/-- The output mixing of the prompt batch computes the reference's residual stream and its normalised tokens. -/
theorem mix : Cert.algebraic_Kernel3Ideal_Reference3Ideal := by
  intro m g m' g' _ hagree
  refine ⟨fun c => Cert.Mix.refStream Cert.Mix.prompt (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
    (m ((c.tc : Thread Cert.Kernel3Ideal.nD Cert.Kernel3Ideal.τ).loc Cert.Kernel3Ideal.main_arg4))
    (m ((c.tc : Thread Cert.Kernel3Ideal.nD Cert.Kernel3Ideal.τ).loc Cert.Kernel3Ideal.main_arg5))
    (m ((c.tc : Thread Cert.Kernel3Ideal.nD Cert.Kernel3Ideal.τ).loc Cert.Kernel3Ideal.main_arg6))
    (m ((c.tc : Thread Cert.Kernel3Ideal.nD Cert.Kernel3Ideal.τ).loc Cert.Kernel3Ideal.main_arg7)),
    fun c => Cert.Mix.refLast Cert.Mix.prompt (Cert.Mix.refStream Cert.Mix.prompt (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
    (m ((c.tc : Thread Cert.Kernel3Ideal.nD Cert.Kernel3Ideal.τ).loc Cert.Kernel3Ideal.main_arg4))
    (m ((c.tc : Thread Cert.Kernel3Ideal.nD Cert.Kernel3Ideal.τ).loc Cert.Kernel3Ideal.main_arg5))
    (m ((c.tc : Thread Cert.Kernel3Ideal.nD Cert.Kernel3Ideal.τ).loc Cert.Kernel3Ideal.main_arg6))
    (m ((c.tc : Thread Cert.Kernel3Ideal.nD Cert.Kernel3Ideal.τ).loc Cert.Kernel3Ideal.main_arg7))) (m ((c.tc : Thread Cert.Kernel3Ideal.nD Cert.Kernel3Ideal.τ).loc Cert.Kernel3Ideal.main_arg8)), ?_, ?_⟩
  · refine (θ_run _ _ _).mono (fun r h c => ⟨(h c).1.trans ?_, (h c).2.1.trans ?_, (h c).2.2⟩) (Cert.Kernel3Ideal.Value.run_blocks m g)
    · exact Cert.Kernel3Ideal.Mix.final_stream m c _ _ _ _ _ _ _ _ _ rfl rfl rfl rfl rfl rfl rfl rfl rfl
    · exact Cert.Kernel3Ideal.Mix.final_last m c _ _ _ _ _ _ _ _ _ rfl rfl rfl rfl rfl rfl rfl rfl rfl
  · refine (θ_run _ _ _).mono (fun r h c => ⟨(h c).1.trans ?_, (h c).2.1.trans ?_, (h c).2.2⟩) (Cert.Reference3Ideal.Value.run m' g')
    all_goals obtain ⟨a0, a1, a2, a3, a4, a5, a6, a7, a8⟩ := hagree c
    · refine (Cert.Mix.prompt_stream m' c).trans ?_
      rw [a0, a1, a2, a3, a4, a5, a6, a7]
    · refine (Cert.Mix.prompt_last m' c).trans ?_
      rw [a0, a1, a2, a3, a4, a5, a6, a7, a8]

/-- The output mixing of the sample batch computes the reference's residual stream and its normalised tokens. -/
theorem mix_sample : Cert.algebraic_Kernel6Ideal_Reference6Ideal := by
  intro m g m' g' _ hagree
  refine ⟨fun c => Cert.Mix.refStream Cert.Mix.sample (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2))
    (m ((c.tc : Thread Cert.Kernel6Ideal.nD Cert.Kernel6Ideal.τ).loc Cert.Kernel6Ideal.main_arg3))
    (m ((c.tc : Thread Cert.Kernel6Ideal.nD Cert.Kernel6Ideal.τ).loc Cert.Kernel6Ideal.main_arg4))
    (m ((c.tc : Thread Cert.Kernel6Ideal.nD Cert.Kernel6Ideal.τ).loc Cert.Kernel6Ideal.main_arg5))
    (m ((c.tc : Thread Cert.Kernel6Ideal.nD Cert.Kernel6Ideal.τ).loc Cert.Kernel6Ideal.main_arg6))
    (m ((c.tc : Thread Cert.Kernel6Ideal.nD Cert.Kernel6Ideal.τ).loc Cert.Kernel6Ideal.main_arg7)),
    fun c => Cert.Mix.refLast Cert.Mix.sample (Cert.Mix.refStream Cert.Mix.sample (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2))
    (m ((c.tc : Thread Cert.Kernel6Ideal.nD Cert.Kernel6Ideal.τ).loc Cert.Kernel6Ideal.main_arg3))
    (m ((c.tc : Thread Cert.Kernel6Ideal.nD Cert.Kernel6Ideal.τ).loc Cert.Kernel6Ideal.main_arg4))
    (m ((c.tc : Thread Cert.Kernel6Ideal.nD Cert.Kernel6Ideal.τ).loc Cert.Kernel6Ideal.main_arg5))
    (m ((c.tc : Thread Cert.Kernel6Ideal.nD Cert.Kernel6Ideal.τ).loc Cert.Kernel6Ideal.main_arg6))
    (m ((c.tc : Thread Cert.Kernel6Ideal.nD Cert.Kernel6Ideal.τ).loc Cert.Kernel6Ideal.main_arg7))) (m ((c.tc : Thread Cert.Kernel6Ideal.nD Cert.Kernel6Ideal.τ).loc Cert.Kernel6Ideal.main_arg8)), ?_, ?_⟩
  · refine (θ_run _ _ _).mono (fun r h c => ⟨(h c).1.trans ?_, (h c).2.1.trans ?_, (h c).2.2⟩) (Cert.Kernel6Ideal.Value.run_blocks m g)
    · exact Cert.Kernel6Ideal.Mix.final_stream m c _ _ _ _ _ _ _ _ _ rfl rfl rfl rfl rfl rfl rfl rfl rfl
    · exact Cert.Kernel6Ideal.Mix.final_last m c _ _ _ _ _ _ _ _ _ rfl rfl rfl rfl rfl rfl rfl rfl rfl
  · refine (θ_run _ _ _).mono (fun r h c => ⟨(h c).1.trans ?_, (h c).2.1.trans ?_, (h c).2.2⟩) (Cert.Reference6Ideal.Value.run m' g')
    all_goals obtain ⟨a0, a1, a2, a3, a4, a5, a6, a7, a8⟩ := hagree c
    · refine (Cert.Mix.sample_stream m' c).trans ?_
      rw [a0, a1, a2, a3, a4, a5, a6, a7]
    · refine (Cert.Mix.sample_last m' c).trans ?_
      rw [a0, a1, a2, a3, a4, a5, a6, a7, a8]

/-- The projected tokens: the normalised arguments against the weights. -/
def tokens (m : (ℓ : Loc Cert.Kernel4Ideal.nD Cert.Kernel4Ideal.τ Cert.Kernel4Ideal.sig) → Buf (Elt Ideal) ℓ) (c : Dev Cert.Kernel4Ideal.nD) :
    FVec Ideal Cert.Reference4Ideal.S8x8192x1280 .f32 :=
  Cert.Proj.refDot Cert.Proj.prompt (Cert.Proj.refTok Cert.Proj.prompt (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))) (m ((c.tc : Thread Cert.Kernel4Ideal.nD Cert.Kernel4Ideal.τ).loc Cert.Kernel4Ideal.main_arg2))

/-- The input projection computes the reference's recurrence input, queries, padded keys and transposed values whenever the tokens, the scale and the weights are real numbers. -/
theorem inproj : Cert.algebraic_Kernel4Ideal_Reference4Ideal_pre_finite4 := by
  intro m g m' g' hpre hagree
  refine ⟨fun c => Cert.Proj.refOutU Cert.Proj.prompt (tokens m c),
    fun c => Cert.Proj.refOutQ Cert.Proj.prompt (tokens m c) (m ((c.tc : Thread Cert.Kernel4Ideal.nD Cert.Kernel4Ideal.τ).loc Cert.Kernel4Ideal.main_arg3)) (Host.cos (Cert.Proj.refAngle Cert.Proj.promptAngle)) (Host.sin (Cert.Proj.refAngle Cert.Proj.promptAngle)),
    fun c => Cert.Proj.refOutK Cert.Proj.prompt (tokens m c) (m ((c.tc : Thread Cert.Kernel4Ideal.nD Cert.Kernel4Ideal.τ).loc Cert.Kernel4Ideal.main_arg4)) (Host.cos (Cert.Proj.refAngle Cert.Proj.promptAngle)) (Host.sin (Cert.Proj.refAngle Cert.Proj.promptAngle)),
    fun c => Cert.Proj.refOutV Cert.Proj.prompt (tokens m c), ?_, ?_⟩
  · refine (θ_run _ _ _).mono (fun r h c => ⟨(h c).1.trans ?_, (h c).2.1.trans ?_, (h c).2.2.1.trans ?_, (h c).2.2.2.1.trans ?_, (h c).2.2.2.2⟩) (Cert.Kernel4Ideal.Value.run_blocks m g)
    all_goals obtain ⟨hx, hg, hw⟩ := Cert.Kernel4Ideal.Proj.finite_real4 _ _ _ _ _ (hpre c)
    · exact Cert.Kernel4Ideal.Proj.final_u m c _ _ _ _ _ hx hg hw rfl rfl rfl rfl rfl
    · exact Cert.Kernel4Ideal.Proj.final_q m c _ _ _ _ _ hx hg hw rfl rfl rfl rfl rfl
    · exact Cert.Kernel4Ideal.Proj.final_k m c _ _ _ _ _ hx hg hw rfl rfl rfl rfl rfl
    · exact Cert.Kernel4Ideal.Proj.final_v m c _ _ _ _ _ hx hg hw rfl rfl rfl rfl rfl
  · refine (θ_run _ _ _).mono (fun r h c => ⟨(h c).1.trans ?_, (h c).2.1.trans ?_, (h c).2.2.1.trans ?_, (h c).2.2.2.1.trans ?_, (h c).2.2.2.2⟩) (Cert.Reference4Ideal.Value.run m' g')
    all_goals
      obtain ⟨a0, a1, a2, a3, a4⟩ := hagree c
      unfold tokens
    · rw [a0, a1, a2]
      rfl
    · refine (Cert.Proj.prompt_q m' c).trans ?_
      rw [a0, a1, a2, a3]
    · refine (Cert.Proj.prompt_k m' c).trans ?_
      rw [a0, a1, a2, a4]
    · rw [a0, a1, a2]
      rfl

/-- The projected tokens of the sample batch: the normalised arguments against the weights. -/
def tokens_sample (m : (ℓ : Loc Cert.Kernel8Ideal.nD Cert.Kernel8Ideal.τ Cert.Kernel8Ideal.sig) → Buf (Elt Ideal) ℓ) (c : Dev Cert.Kernel8Ideal.nD) :
    FVec Ideal Cert.Reference8Ideal.S1x16384x1280 .f32 :=
  Cert.Proj.refDot Cert.Proj.sample (Cert.Proj.refTok Cert.Proj.sample (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1))) (m ((c.tc : Thread Cert.Kernel8Ideal.nD Cert.Kernel8Ideal.τ).loc Cert.Kernel8Ideal.main_arg2))

/-- The input projection of the sample batch computes the reference's recurrence input, queries, padded keys and transposed values whenever the tokens, the scale and the weights are real numbers. -/
theorem inproj_sample : Cert.algebraic_Kernel8Ideal_Reference8Ideal_pre_finite8 := by
  intro m g m' g' hpre hagree
  refine ⟨fun c => Cert.Proj.refOutU Cert.Proj.sample (tokens_sample m c),
    fun c => Cert.Proj.refOutQ Cert.Proj.sample (tokens_sample m c) (m ((c.tc : Thread Cert.Kernel8Ideal.nD Cert.Kernel8Ideal.τ).loc Cert.Kernel8Ideal.main_arg3)) (Host.cos (Cert.Proj.refAngle Cert.Proj.sampleAngle)) (Host.sin (Cert.Proj.refAngle Cert.Proj.sampleAngle)),
    fun c => Cert.Proj.refOutK Cert.Proj.sample (tokens_sample m c) (m ((c.tc : Thread Cert.Kernel8Ideal.nD Cert.Kernel8Ideal.τ).loc Cert.Kernel8Ideal.main_arg4)) (Host.cos (Cert.Proj.refAngle Cert.Proj.sampleAngle)) (Host.sin (Cert.Proj.refAngle Cert.Proj.sampleAngle)),
    fun c => Cert.Proj.refOutV Cert.Proj.sample (tokens_sample m c), ?_, ?_⟩
  · refine (θ_run _ _ _).mono (fun r h c => ⟨(h c).1.trans ?_, (h c).2.1.trans ?_, (h c).2.2.1.trans ?_, (h c).2.2.2.1.trans ?_, (h c).2.2.2.2⟩) (Cert.Kernel8Ideal.Value.run_blocks m g)
    all_goals obtain ⟨hx, hg, hw⟩ := Cert.Kernel8Ideal.Proj.finite_real8 _ _ _ _ _ (hpre c)
    · exact Cert.Kernel8Ideal.Proj.final_u m c _ _ _ _ _ hx hg hw rfl rfl rfl rfl rfl
    · exact Cert.Kernel8Ideal.Proj.final_q m c _ _ _ _ _ hx hg hw rfl rfl rfl rfl rfl
    · exact Cert.Kernel8Ideal.Proj.final_k m c _ _ _ _ _ hx hg hw rfl rfl rfl rfl rfl
    · exact Cert.Kernel8Ideal.Proj.final_v m c _ _ _ _ _ hx hg hw rfl rfl rfl rfl rfl
  · refine (θ_run _ _ _).mono (fun r h c => ⟨(h c).1.trans ?_, (h c).2.1.trans ?_, (h c).2.2.1.trans ?_, (h c).2.2.2.1.trans ?_, (h c).2.2.2.2⟩) (Cert.Reference8Ideal.Value.run m' g')
    all_goals
      obtain ⟨a0, a1, a2, a3, a4⟩ := hagree c
      unfold tokens_sample
    · rw [a0, a1, a2]
      rfl
    · refine (Cert.Proj.sample_q m' c).trans ?_
      rw [a0, a1, a2, a3]
    · refine (Cert.Proj.sample_k m' c).trans ?_
      rw [a0, a1, a2, a4]
    · rw [a0, a1, a2]
      rfl

/-- Everything that is claimed of the calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.Gen.facts, Cert.Pre_finite4.Gen.facts, Cert.Pre_finite7.Gen.facts, Cert.Pre_finite8.Gen.facts,
  fun m ρ _ => Cert.Kernel.Gen.frame m ρ,
  fun m ρ _ => Cert.KernelIdeal.Gen.frame m ρ,
  fun m ρ _ => Cert.KernelIdeal.Gen.frame m ρ,
  ref1_frame,
  fun m ρ _ => ref1_frame m ρ trivial,
  fun m ρ _ => Cert.Kernel2.Gen.frame m ρ,
  fun m ρ _ => Cert.Kernel2Ideal.Gen.frame m ρ,
  ref2_frame,
  fun m ρ _ => Cert.Kernel3.Gen.frame m ρ,
  fun m ρ _ => Cert.Kernel3Ideal.Gen.frame m ρ,
  ref3_frame,
  fun m ρ _ => Cert.Kernel4.Gen.frame m ρ,
  fun m ρ _ => Cert.Kernel4Ideal.Gen.frame m ρ,
  fun m ρ _ => Cert.Kernel4Ideal.Gen.frame m ρ,
  ref4_frame,
  fun m ρ _ => ref4_frame m ρ trivial,
  fun m ρ _ => Cert.Kernel5.Gen.frame m ρ,
  fun m ρ _ => Cert.Kernel5Ideal.Gen.frame m ρ,
  ref5_frame,
  fun m ρ _ => Cert.Kernel6.Gen.frame m ρ,
  fun m ρ _ => Cert.Kernel6Ideal.Gen.frame m ρ,
  ref6_frame,
  fun m ρ _ => Cert.Kernel7.Gen.frame m ρ,
  fun m ρ _ => Cert.Kernel7Ideal.Gen.frame m ρ,
  fun m ρ _ => Cert.Kernel7Ideal.Gen.frame m ρ,
  ref7_frame,
  fun m ρ _ => ref7_frame m ρ trivial,
  fun m ρ _ => Cert.Kernel8.Gen.frame m ρ,
  fun m ρ _ => Cert.Kernel8Ideal.Gen.frame m ρ,
  fun m ρ _ => Cert.Kernel8Ideal.Gen.frame m ρ,
  ref8_frame,
  fun m ρ _ => ref8_frame m ρ trivial,
  trivial, attention, trivial, ffn, trivial, mix, trivial, inproj, trivial, ffn_sample, trivial, mix_sample, trivial, attn_sample, trivial, inproj_sample⟩

end Cert.Proof

end
